-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_KernelKeys (m : (ℓ : Loc Cert.KernelKeys.nD Cert.KernelKeys.τ Cert.KernelKeys.sig) → Buf (Elt Bits) ℓ) : Prop :=
  True

def Pre_KernelKeysIdeal (m : (ℓ : Loc Cert.KernelKeysIdeal.nD Cert.KernelKeysIdeal.τ Cert.KernelKeysIdeal.sig) → Buf (Elt Ideal) ℓ) : Prop :=
  True

def Pre_ReferenceKeysIdeal (m : (ℓ : Loc Cert.ReferenceKeysIdeal.nD Cert.ReferenceKeysIdeal.τ Cert.ReferenceKeysIdeal.sig) → Buf (Elt Ideal) ℓ) : Prop :=
  True

def Pre_KernelValues (m : (ℓ : Loc Cert.KernelValues.nD Cert.KernelValues.τ Cert.KernelValues.sig) → Buf (Elt Bits) ℓ) : Prop :=
  True

def Pre_KernelValuesIdeal (m : (ℓ : Loc Cert.KernelValuesIdeal.nD Cert.KernelValuesIdeal.τ Cert.KernelValuesIdeal.sig) → Buf (Elt Ideal) ℓ) : Prop :=
  True

def Pre_ReferenceValuesIdeal (m : (ℓ : Loc Cert.ReferenceValuesIdeal.nD Cert.ReferenceValuesIdeal.τ Cert.ReferenceValuesIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelCtx (m : (ℓ : Loc Cert.KernelCtx.nD Cert.KernelCtx.τ Cert.KernelCtx.sig) → Buf (Elt Bits) ℓ) : Prop :=
  True

def Pre_KernelCtxIdeal (m : (ℓ : Loc Cert.KernelCtxIdeal.nD Cert.KernelCtxIdeal.τ Cert.KernelCtxIdeal.sig) → Buf (Elt Ideal) ℓ) : Prop :=
  True

def Pre_KernelCtxIdeal_finite_context [hPre_finite_context : Cert.Pre_finite_context.Facts] (m : (ℓ : Loc Cert.KernelCtxIdeal.nD Cert.KernelCtxIdeal.τ Cert.KernelCtxIdeal.sig) → Buf (Elt Ideal) ℓ) : Prop :=
  ∀ c : Dev Cert.KernelCtxIdeal.nD,
    (Cert.Pre_finite_context.fn (F := Ideal) (m ((c.tc : Thread Cert.KernelCtxIdeal.nD Cert.KernelCtxIdeal.τ).loc Cert.KernelCtxIdeal.main_arg0)) (m ((c.tc : Thread Cert.KernelCtxIdeal.nD Cert.KernelCtxIdeal.τ).loc Cert.KernelCtxIdeal.main_arg1)) (m ((c.tc : Thread Cert.KernelCtxIdeal.nD Cert.KernelCtxIdeal.τ).loc Cert.KernelCtxIdeal.main_arg2)) (m ((c.tc : Thread Cert.KernelCtxIdeal.nD Cert.KernelCtxIdeal.τ).loc Cert.KernelCtxIdeal.main_arg3))) = (fun _ => 1#1)

def Pre_ReferenceCtxIdeal (m : (ℓ : Loc Cert.ReferenceCtxIdeal.nD Cert.ReferenceCtxIdeal.τ Cert.ReferenceCtxIdeal.sig) → Buf (Elt Ideal) ℓ) : Prop :=
  True

def Pre_ReferenceCtxIdeal_finite_context [hPre_finite_context : Cert.Pre_finite_context.Facts] (m : (ℓ : Loc Cert.ReferenceCtxIdeal.nD Cert.ReferenceCtxIdeal.τ Cert.ReferenceCtxIdeal.sig) → Buf (Elt Ideal) ℓ) : Prop :=
  ∀ c : Dev Cert.ReferenceCtxIdeal.nD,
    (Cert.Pre_finite_context.fn (F := Ideal) (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1)) (m ((c.tc : Thread Cert.ReferenceCtxIdeal.nD Cert.ReferenceCtxIdeal.τ).loc Cert.ReferenceCtxIdeal.main_arg2)) (m ((c.tc : Thread Cert.ReferenceCtxIdeal.nD Cert.ReferenceCtxIdeal.τ).loc Cert.ReferenceCtxIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5)
      ∧ r.2.mem ((c.tc : Thread Cert.KernelDown.nD Cert.KernelDown.τ).loc Cert.KernelDown.main_arg6) = m ((c.tc : Thread Cert.KernelDown.nD Cert.KernelDown.τ).loc Cert.KernelDown.main_arg6))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
      ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5)
      ∧ r.2.mem ((c.tc : Thread Cert.ReferenceDownIdeal.nD Cert.ReferenceDownIdeal.τ).loc Cert.ReferenceDownIdeal.main_arg6) = m ((c.tc : Thread Cert.ReferenceDownIdeal.nD Cert.ReferenceDownIdeal.τ).loc Cert.ReferenceDownIdeal.main_arg6))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4))
      ∧ r.2.sem = fun _ => 0)

def quiescent_KernelKeys [hKernelKeys : Cert.KernelKeys.Facts] : Prop :=
  ∀ (m : (ℓ : Loc Cert.KernelKeys.nD Cert.KernelKeys.τ Cert.KernelKeys.sig) → Buf (Elt Bits) ℓ) (g : Dev Cert.KernelKeys.nD → PrngReg), Pre_KernelKeys m →
    θ_run (Cert.KernelKeys.defs (F := Bits)) (onTc (τ := Cert.KernelKeys.τ) (Cert.KernelKeys.main (F := Bits))) ⟨m, fun _ => 0, g⟩ (fun r => (∀ c : Dev Cert.KernelKeys.nD,
      r.2.mem ((c.tc : Thread Cert.KernelKeys.nD Cert.KernelKeys.τ).loc Cert.KernelKeys.main_arg0) = m ((c.tc : Thread Cert.KernelKeys.nD Cert.KernelKeys.τ).loc Cert.KernelKeys.main_arg0)
      ∧ r.2.mem ((c.tc : Thread Cert.KernelKeys.nD Cert.KernelKeys.τ).loc Cert.KernelKeys.main_arg1) = m ((c.tc : Thread Cert.KernelKeys.nD Cert.KernelKeys.τ).loc Cert.KernelKeys.main_arg1))
      ∧ r.2.sem = fun _ => 0)

def quiescent_KernelKeysIdeal [hKernelKeysIdeal : Cert.KernelKeysIdeal.Facts] : Prop :=
  ∀ (m : (ℓ : Loc Cert.KernelKeysIdeal.nD Cert.KernelKeysIdeal.τ Cert.KernelKeysIdeal.sig) → Buf (Elt Ideal) ℓ) (g : Dev Cert.KernelKeysIdeal.nD → PrngReg), Pre_KernelKeysIdeal m →
    θ_run (Cert.KernelKeysIdeal.defs (F := Ideal)) (onTc (τ := Cert.KernelKeysIdeal.τ) (Cert.KernelKeysIdeal.main (F := Ideal))) ⟨m, fun _ => 0, g⟩ (fun r => (∀ c : Dev Cert.KernelKeysIdeal.nD,
      r.2.mem ((c.tc : Thread Cert.KernelKeysIdeal.nD Cert.KernelKeysIdeal.τ).loc Cert.KernelKeysIdeal.main_arg0) = m ((c.tc : Thread Cert.KernelKeysIdeal.nD Cert.KernelKeysIdeal.τ).loc Cert.KernelKeysIdeal.main_arg0)
      ∧ r.2.mem ((c.tc : Thread Cert.KernelKeysIdeal.nD Cert.KernelKeysIdeal.τ).loc Cert.KernelKeysIdeal.main_arg1) = m ((c.tc : Thread Cert.KernelKeysIdeal.nD Cert.KernelKeysIdeal.τ).loc Cert.KernelKeysIdeal.main_arg1))
      ∧ r.2.sem = fun _ => 0)

def quiescent_ReferenceKeysIdeal [hReferenceKeysIdeal : Cert.ReferenceKeysIdeal.Facts] : Prop :=
  ∀ (m : (ℓ : Loc Cert.ReferenceKeysIdeal.nD Cert.ReferenceKeysIdeal.τ Cert.ReferenceKeysIdeal.sig) → Buf (Elt Ideal) ℓ) (g : Dev Cert.ReferenceKeysIdeal.nD → PrngReg), Pre_ReferenceKeysIdeal m →
    θ_run (Cert.ReferenceKeysIdeal.defs (F := Ideal)) (onTc (τ := Cert.ReferenceKeysIdeal.τ) (Cert.ReferenceKeysIdeal.main (F := Ideal))) ⟨m, fun _ => 0, g⟩ (fun r => (∀ c : Dev Cert.ReferenceKeysIdeal.nD,
      r.2.mem ((c.tc : Thread Cert.ReferenceKeysIdeal.nD Cert.ReferenceKeysIdeal.τ).loc Cert.ReferenceKeysIdeal.main_arg0) = m ((c.tc : Thread Cert.ReferenceKeysIdeal.nD Cert.ReferenceKeysIdeal.τ).loc Cert.ReferenceKeysIdeal.main_arg0)
      ∧ r.2.mem ((c.tc : Thread Cert.ReferenceKeysIdeal.nD Cert.ReferenceKeysIdeal.τ).loc Cert.ReferenceKeysIdeal.main_arg1) = m ((c.tc : Thread Cert.ReferenceKeysIdeal.nD Cert.ReferenceKeysIdeal.τ).loc Cert.ReferenceKeysIdeal.main_arg1))
      ∧ r.2.sem = fun _ => 0)

def quiescent_KernelValues [hKernelValues : Cert.KernelValues.Facts] : Prop :=
  ∀ (m : (ℓ : Loc Cert.KernelValues.nD Cert.KernelValues.τ Cert.KernelValues.sig) → Buf (Elt Bits) ℓ) (g : Dev Cert.KernelValues.nD → PrngReg), Pre_KernelValues m →
    θ_run (Cert.KernelValues.defs (F := Bits)) (onTc (τ := Cert.KernelValues.τ) (Cert.KernelValues.main (F := Bits))) ⟨m, fun _ => 0, g⟩ (fun r => (∀ c : Dev Cert.KernelValues.nD,
      r.2.mem ((c.tc : Thread Cert.KernelValues.nD Cert.KernelValues.τ).loc Cert.KernelValues.main_arg0) = m ((c.tc : Thread Cert.KernelValues.nD Cert.KernelValues.τ).loc Cert.KernelValues.main_arg0)
      ∧ r.2.mem ((c.tc : Thread Cert.KernelValues.nD Cert.KernelValues.τ).loc Cert.KernelValues.main_arg1) = m ((c.tc : Thread Cert.KernelValues.nD Cert.KernelValues.τ).loc Cert.KernelValues.main_arg1))
      ∧ r.2.sem = fun _ => 0)

def quiescent_KernelValuesIdeal [hKernelValuesIdeal : Cert.KernelValuesIdeal.Facts] : Prop :=
  ∀ (m : (ℓ : Loc Cert.KernelValuesIdeal.nD Cert.KernelValuesIdeal.τ Cert.KernelValuesIdeal.sig) → Buf (Elt Ideal) ℓ) (g : Dev Cert.KernelValuesIdeal.nD → PrngReg), Pre_KernelValuesIdeal m →
    θ_run (Cert.KernelValuesIdeal.defs (F := Ideal)) (onTc (τ := Cert.KernelValuesIdeal.τ) (Cert.KernelValuesIdeal.main (F := Ideal))) ⟨m, fun _ => 0, g⟩ (fun r => (∀ c : Dev Cert.KernelValuesIdeal.nD,
      r.2.mem ((c.tc : Thread Cert.KernelValuesIdeal.nD Cert.KernelValuesIdeal.τ).loc Cert.KernelValuesIdeal.main_arg0) = m ((c.tc : Thread Cert.KernelValuesIdeal.nD Cert.KernelValuesIdeal.τ).loc Cert.KernelValuesIdeal.main_arg0)
      ∧ r.2.mem ((c.tc : Thread Cert.KernelValuesIdeal.nD Cert.KernelValuesIdeal.τ).loc Cert.KernelValuesIdeal.main_arg1) = m ((c.tc : Thread Cert.KernelValuesIdeal.nD Cert.KernelValuesIdeal.τ).loc Cert.KernelValuesIdeal.main_arg1))
      ∧ r.2.sem = fun _ => 0)

def quiescent_ReferenceValuesIdeal [hReferenceValuesIdeal : Cert.ReferenceValuesIdeal.Facts] : Prop :=
  ∀ (m : (ℓ : Loc Cert.ReferenceValuesIdeal.nD Cert.ReferenceValuesIdeal.τ Cert.ReferenceValuesIdeal.sig) → Buf (Elt Ideal) ℓ) (g : Dev Cert.ReferenceValuesIdeal.nD → PrngReg), Pre_ReferenceValuesIdeal m →
    θ_run (Cert.ReferenceValuesIdeal.defs (F := Ideal)) (onTc (τ := Cert.ReferenceValuesIdeal.τ) (Cert.ReferenceValuesIdeal.main (F := Ideal))) ⟨m, fun _ => 0, g⟩ (fun r => (∀ c : Dev Cert.ReferenceValuesIdeal.nD,
      r.2.mem ((c.tc : Thread Cert.ReferenceValuesIdeal.nD Cert.ReferenceValuesIdeal.τ).loc Cert.ReferenceValuesIdeal.main_arg0) = m ((c.tc : Thread Cert.ReferenceValuesIdeal.nD Cert.ReferenceValuesIdeal.τ).loc Cert.ReferenceValuesIdeal.main_arg0)
      ∧ r.2.mem ((c.tc : Thread Cert.ReferenceValuesIdeal.nD Cert.ReferenceValuesIdeal.τ).loc Cert.ReferenceValuesIdeal.main_arg1) = m ((c.tc : Thread Cert.ReferenceValuesIdeal.nD Cert.ReferenceValuesIdeal.τ).loc Cert.ReferenceValuesIdeal.main_arg1))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0)
      ∧ r.2.mem ((c.tc : Thread Cert.KernelRope.nD Cert.KernelRope.τ).loc Cert.KernelRope.main_arg1) = m ((c.tc : Thread Cert.KernelRope.nD Cert.KernelRope.τ).loc Cert.KernelRope.main_arg1))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
      ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0)
      ∧ r.2.mem ((c.tc : Thread Cert.ReferenceRopeIdeal.nD Cert.ReferenceRopeIdeal.τ).loc Cert.ReferenceRopeIdeal.main_arg1) = m ((c.tc : Thread Cert.ReferenceRopeIdeal.nD Cert.ReferenceRopeIdeal.τ).loc Cert.ReferenceRopeIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelCtx [hKernelCtx : Cert.KernelCtx.Facts] : Prop :=
  ∀ (m : (ℓ : Loc Cert.KernelCtx.nD Cert.KernelCtx.τ Cert.KernelCtx.sig) → Buf (Elt Bits) ℓ) (g : Dev Cert.KernelCtx.nD → PrngReg), Pre_KernelCtx m →
    θ_run (Cert.KernelCtx.defs (F := Bits)) (onTc (τ := Cert.KernelCtx.τ) (Cert.KernelCtx.main (F := Bits))) ⟨m, fun _ => 0, g⟩ (fun r => (∀ c : Dev Cert.KernelCtx.nD,
      r.2.mem ((c.tc : Thread Cert.KernelCtx.nD Cert.KernelCtx.τ).loc Cert.KernelCtx.main_arg0) = m ((c.tc : Thread Cert.KernelCtx.nD Cert.KernelCtx.τ).loc Cert.KernelCtx.main_arg0)
      ∧ r.2.mem ((c.tc : Thread Cert.KernelCtx.nD Cert.KernelCtx.τ).loc Cert.KernelCtx.main_arg1) = m ((c.tc : Thread Cert.KernelCtx.nD Cert.KernelCtx.τ).loc Cert.KernelCtx.main_arg1)
      ∧ r.2.mem ((c.tc : Thread Cert.KernelCtx.nD Cert.KernelCtx.τ).loc Cert.KernelCtx.main_arg2) = m ((c.tc : Thread Cert.KernelCtx.nD Cert.KernelCtx.τ).loc Cert.KernelCtx.main_arg2)
      ∧ r.2.mem ((c.tc : Thread Cert.KernelCtx.nD Cert.KernelCtx.τ).loc Cert.KernelCtx.main_arg3) = m ((c.tc : Thread Cert.KernelCtx.nD Cert.KernelCtx.τ).loc Cert.KernelCtx.main_arg3))
      ∧ r.2.sem = fun _ => 0)

def quiescent_KernelCtxIdeal [hKernelCtxIdeal : Cert.KernelCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ r.2.sem = fun _ => 0)

def quiescent_KernelCtxIdeal_pre_finite_context [hKernelCtxIdeal : Cert.KernelCtxIdeal.Facts] [hPre_finite_context : Cert.Pre_finite_context.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal_finite_context m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ r.2.sem = fun _ => 0)

def quiescent_ReferenceCtxIdeal [hReferenceCtxIdeal : Cert.ReferenceCtxIdeal.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3))
      ∧ r.2.sem = fun _ => 0)

def quiescent_ReferenceCtxIdeal_pre_finite_context [hReferenceCtxIdeal : Cert.ReferenceCtxIdeal.Facts] [hPre_finite_context : Cert.Pre_finite_context.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal_finite_context m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v31) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)
      ∧ m' ((c.tc : Thread Cert.ReferenceDownIdeal.nD Cert.ReferenceDownIdeal.τ).loc Cert.ReferenceDownIdeal.main_arg6) = m ((c.tc : Thread Cert.KernelDownIdeal.nD Cert.KernelDownIdeal.τ).loc Cert.KernelDownIdeal.main_arg6)) →
    ∃ (v0 : (c : Dev Cert.KernelDownIdeal.nD) → Buf (Elt Ideal) ((c.tc : Thread Cert.KernelDownIdeal.nD Cert.KernelDownIdeal.τ).loc Cert.KernelDownIdeal.main_v6_0)) (v1 : (c : Dev Cert.KernelDownIdeal.nD) → Buf (Elt Ideal) ((c.tc : Thread Cert.KernelDownIdeal.nD Cert.KernelDownIdeal.τ).loc Cert.KernelDownIdeal.main_v6_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v6_0) = v0 c
          ∧ r.2.mem ((c.tc : Thread Cert.KernelDownIdeal.nD Cert.KernelDownIdeal.τ).loc Cert.KernelDownIdeal.main_v6_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
          ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_v23) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5)
          ∧ r.2.mem ((c.tc : Thread Cert.ReferenceDownIdeal.nD Cert.ReferenceDownIdeal.τ).loc Cert.ReferenceDownIdeal.main_arg6) = m' ((c.tc : Thread Cert.ReferenceDownIdeal.nD Cert.ReferenceDownIdeal.τ).loc Cert.ReferenceDownIdeal.main_arg6))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)) →
    ∃ (v0 : (c : Dev Cert.KernelMergeIdeal.nD) → Buf (Elt Ideal) ((c.tc : Thread Cert.KernelMergeIdeal.nD Cert.KernelMergeIdeal.τ).loc Cert.KernelMergeIdeal.main_v12_0)) (v1 : (c : Dev Cert.KernelMergeIdeal.nD) → Buf (Elt Ideal) ((c.tc : Thread Cert.KernelMergeIdeal.nD Cert.KernelMergeIdeal.τ).loc Cert.KernelMergeIdeal.main_v12_1)) (v2 : (c : Dev Cert.KernelMergeIdeal.nD) → Buf (Elt Ideal) ((c.tc : Thread Cert.KernelMergeIdeal.nD Cert.KernelMergeIdeal.τ).loc Cert.KernelMergeIdeal.main_v12_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v12_0) = v0 c
          ∧ r.2.mem ((c.tc : Thread Cert.KernelMergeIdeal.nD Cert.KernelMergeIdeal.τ).loc Cert.KernelMergeIdeal.main_v12_1) = v1 c
          ∧ r.2.mem ((c.tc : Thread Cert.KernelMergeIdeal.nD Cert.KernelMergeIdeal.τ).loc Cert.KernelMergeIdeal.main_v12_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v26) = v0 c
          ∧ r.2.mem ((c.tc : Thread Cert.ReferenceMergeIdeal.nD Cert.ReferenceMergeIdeal.τ).loc Cert.ReferenceMergeIdeal.main_v46) = v1 c
          ∧ r.2.mem ((c.tc : Thread Cert.ReferenceMergeIdeal.nD Cert.ReferenceMergeIdeal.τ).loc Cert.ReferenceMergeIdeal.main_v71) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v3)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v3) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v32) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)) →
    ∃ (v0 : (c : Dev Cert.KernelTailIdeal.nD) → Buf (Elt Ideal) ((c.tc : Thread Cert.KernelTailIdeal.nD Cert.KernelTailIdeal.τ).loc Cert.KernelTailIdeal.main_v4)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v4) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v23) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4))

def preserves_KernelKeys_KernelKeysIdeal : Prop :=
  True

def algebraic_KernelKeysIdeal_ReferenceKeysIdeal [hKernelKeysIdeal : Cert.KernelKeysIdeal.Facts] [hReferenceKeysIdeal : Cert.ReferenceKeysIdeal.Facts] : Prop :=
  ∀ (m : (ℓ : Loc Cert.KernelKeysIdeal.nD Cert.KernelKeysIdeal.τ Cert.KernelKeysIdeal.sig) → Buf (Elt Ideal) ℓ) (g : Dev Cert.KernelKeysIdeal.nD → PrngReg)
    (m' : (ℓ : Loc Cert.ReferenceKeysIdeal.nD Cert.ReferenceKeysIdeal.τ Cert.ReferenceKeysIdeal.sig) → Buf (Elt Ideal) ℓ) (g' : Dev Cert.ReferenceKeysIdeal.nD → PrngReg), Pre_KernelKeysIdeal m →
    (∀ c : Dev Cert.KernelKeysIdeal.nD,
      m' ((c.tc : Thread Cert.ReferenceKeysIdeal.nD Cert.ReferenceKeysIdeal.τ).loc Cert.ReferenceKeysIdeal.main_arg0) = m ((c.tc : Thread Cert.KernelKeysIdeal.nD Cert.KernelKeysIdeal.τ).loc Cert.KernelKeysIdeal.main_arg0)
      ∧ m' ((c.tc : Thread Cert.ReferenceKeysIdeal.nD Cert.ReferenceKeysIdeal.τ).loc Cert.ReferenceKeysIdeal.main_arg1) = m ((c.tc : Thread Cert.KernelKeysIdeal.nD Cert.KernelKeysIdeal.τ).loc Cert.KernelKeysIdeal.main_arg1)) →
    ∃ (v0 : (c : Dev Cert.KernelKeysIdeal.nD) → Buf (Elt Ideal) ((c.tc : Thread Cert.KernelKeysIdeal.nD Cert.KernelKeysIdeal.τ).loc Cert.KernelKeysIdeal.main_v2)),
      θ_run (Cert.KernelKeysIdeal.defs (F := Ideal)) (onTc (τ := Cert.KernelKeysIdeal.τ) (Cert.KernelKeysIdeal.main (F := Ideal))) ⟨m, fun _ => 0, g⟩ (fun r => ∀ c : Dev Cert.KernelKeysIdeal.nD,
          r.2.mem ((c.tc : Thread Cert.KernelKeysIdeal.nD Cert.KernelKeysIdeal.τ).loc Cert.KernelKeysIdeal.main_v2) = v0 c
          ∧ r.2.mem ((c.tc : Thread Cert.KernelKeysIdeal.nD Cert.KernelKeysIdeal.τ).loc Cert.KernelKeysIdeal.main_arg0) = m ((c.tc : Thread Cert.KernelKeysIdeal.nD Cert.KernelKeysIdeal.τ).loc Cert.KernelKeysIdeal.main_arg0)
          ∧ r.2.mem ((c.tc : Thread Cert.KernelKeysIdeal.nD Cert.KernelKeysIdeal.τ).loc Cert.KernelKeysIdeal.main_arg1) = m ((c.tc : Thread Cert.KernelKeysIdeal.nD Cert.KernelKeysIdeal.τ).loc Cert.KernelKeysIdeal.main_arg1))
      ∧ θ_run (Cert.ReferenceKeysIdeal.defs (F := Ideal)) (onTc (τ := Cert.ReferenceKeysIdeal.τ) (Cert.ReferenceKeysIdeal.main (F := Ideal))) ⟨m', fun _ => 0, g'⟩ (fun r => ∀ c : Dev Cert.ReferenceKeysIdeal.nD,
          r.2.mem ((c.tc : Thread Cert.ReferenceKeysIdeal.nD Cert.ReferenceKeysIdeal.τ).loc Cert.ReferenceKeysIdeal.main_v3) = v0 c
          ∧ r.2.mem ((c.tc : Thread Cert.ReferenceKeysIdeal.nD Cert.ReferenceKeysIdeal.τ).loc Cert.ReferenceKeysIdeal.main_arg0) = m' ((c.tc : Thread Cert.ReferenceKeysIdeal.nD Cert.ReferenceKeysIdeal.τ).loc Cert.ReferenceKeysIdeal.main_arg0)
          ∧ r.2.mem ((c.tc : Thread Cert.ReferenceKeysIdeal.nD Cert.ReferenceKeysIdeal.τ).loc Cert.ReferenceKeysIdeal.main_arg1) = m' ((c.tc : Thread Cert.ReferenceKeysIdeal.nD Cert.ReferenceKeysIdeal.τ).loc Cert.ReferenceKeysIdeal.main_arg1))

def preserves_KernelValues_KernelValuesIdeal : Prop :=
  True

def algebraic_KernelValuesIdeal_ReferenceValuesIdeal [hKernelValuesIdeal : Cert.KernelValuesIdeal.Facts] [hReferenceValuesIdeal : Cert.ReferenceValuesIdeal.Facts] : Prop :=
  ∀ (m : (ℓ : Loc Cert.KernelValuesIdeal.nD Cert.KernelValuesIdeal.τ Cert.KernelValuesIdeal.sig) → Buf (Elt Ideal) ℓ) (g : Dev Cert.KernelValuesIdeal.nD → PrngReg)
    (m' : (ℓ : Loc Cert.ReferenceValuesIdeal.nD Cert.ReferenceValuesIdeal.τ Cert.ReferenceValuesIdeal.sig) → Buf (Elt Ideal) ℓ) (g' : Dev Cert.ReferenceValuesIdeal.nD → PrngReg), Pre_KernelValuesIdeal m →
    (∀ c : Dev Cert.KernelValuesIdeal.nD,
      m' ((c.tc : Thread Cert.ReferenceValuesIdeal.nD Cert.ReferenceValuesIdeal.τ).loc Cert.ReferenceValuesIdeal.main_arg0) = m ((c.tc : Thread Cert.KernelValuesIdeal.nD Cert.KernelValuesIdeal.τ).loc Cert.KernelValuesIdeal.main_arg0)
      ∧ m' ((c.tc : Thread Cert.ReferenceValuesIdeal.nD Cert.ReferenceValuesIdeal.τ).loc Cert.ReferenceValuesIdeal.main_arg1) = m ((c.tc : Thread Cert.KernelValuesIdeal.nD Cert.KernelValuesIdeal.τ).loc Cert.KernelValuesIdeal.main_arg1)) →
    ∃ (v0 : (c : Dev Cert.KernelValuesIdeal.nD) → Buf (Elt Ideal) ((c.tc : Thread Cert.KernelValuesIdeal.nD Cert.KernelValuesIdeal.τ).loc Cert.KernelValuesIdeal.main_v2)),
      θ_run (Cert.KernelValuesIdeal.defs (F := Ideal)) (onTc (τ := Cert.KernelValuesIdeal.τ) (Cert.KernelValuesIdeal.main (F := Ideal))) ⟨m, fun _ => 0, g⟩ (fun r => ∀ c : Dev Cert.KernelValuesIdeal.nD,
          r.2.mem ((c.tc : Thread Cert.KernelValuesIdeal.nD Cert.KernelValuesIdeal.τ).loc Cert.KernelValuesIdeal.main_v2) = v0 c
          ∧ r.2.mem ((c.tc : Thread Cert.KernelValuesIdeal.nD Cert.KernelValuesIdeal.τ).loc Cert.KernelValuesIdeal.main_arg0) = m ((c.tc : Thread Cert.KernelValuesIdeal.nD Cert.KernelValuesIdeal.τ).loc Cert.KernelValuesIdeal.main_arg0)
          ∧ r.2.mem ((c.tc : Thread Cert.KernelValuesIdeal.nD Cert.KernelValuesIdeal.τ).loc Cert.KernelValuesIdeal.main_arg1) = m ((c.tc : Thread Cert.KernelValuesIdeal.nD Cert.KernelValuesIdeal.τ).loc Cert.KernelValuesIdeal.main_arg1))
      ∧ θ_run (Cert.ReferenceValuesIdeal.defs (F := Ideal)) (onTc (τ := Cert.ReferenceValuesIdeal.τ) (Cert.ReferenceValuesIdeal.main (F := Ideal))) ⟨m', fun _ => 0, g'⟩ (fun r => ∀ c : Dev Cert.ReferenceValuesIdeal.nD,
          r.2.mem ((c.tc : Thread Cert.ReferenceValuesIdeal.nD Cert.ReferenceValuesIdeal.τ).loc Cert.ReferenceValuesIdeal.main_v3) = v0 c
          ∧ r.2.mem ((c.tc : Thread Cert.ReferenceValuesIdeal.nD Cert.ReferenceValuesIdeal.τ).loc Cert.ReferenceValuesIdeal.main_arg0) = m' ((c.tc : Thread Cert.ReferenceValuesIdeal.nD Cert.ReferenceValuesIdeal.τ).loc Cert.ReferenceValuesIdeal.main_arg0)
          ∧ r.2.mem ((c.tc : Thread Cert.ReferenceValuesIdeal.nD Cert.ReferenceValuesIdeal.τ).loc Cert.ReferenceValuesIdeal.main_arg1) = m' ((c.tc : Thread Cert.ReferenceValuesIdeal.nD Cert.ReferenceValuesIdeal.τ).loc Cert.ReferenceValuesIdeal.main_arg1))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)
      ∧ m' ((c.tc : Thread Cert.ReferenceRopeIdeal.nD Cert.ReferenceRopeIdeal.τ).loc Cert.ReferenceRopeIdeal.main_arg1) = m ((c.tc : Thread Cert.KernelRopeIdeal.nD Cert.KernelRopeIdeal.τ).loc Cert.KernelRopeIdeal.main_arg1)) →
    ∃ (v0 : (c : Dev Cert.KernelRopeIdeal.nD) → Buf (Elt Ideal) ((c.tc : Thread Cert.KernelRopeIdeal.nD Cert.KernelRopeIdeal.τ).loc Cert.KernelRopeIdeal.main_v45)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v45) = v0 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
          ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v59) = v0 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0)
          ∧ r.2.mem ((c.tc : Thread Cert.ReferenceRopeIdeal.nD Cert.ReferenceRopeIdeal.τ).loc Cert.ReferenceRopeIdeal.main_arg1) = m' ((c.tc : Thread Cert.ReferenceRopeIdeal.nD Cert.ReferenceRopeIdeal.τ).loc Cert.ReferenceRopeIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v4)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v4) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v28) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v6)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v6) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v22) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelCtx_KernelCtxIdeal : Prop :=
  IdealRules.named_const.Statement Cert.KernelCtxIdeal.κ "scale" .f32 0x3DB504F3#32 (((Real.sqrt 128)⁻¹ : ℝ) : EReal)
  ∧ IdealRules.named_const.Statement Cert.KernelCtxIdeal.κ "log2e" .f32 0x3FB8AA3B#32 (((Real.log 2)⁻¹ : ℝ) : EReal)
  ∧ IdealRules.named_const.Statement Cert.KernelCtxIdeal.κ "scale_log2e" .f32 0x3E0293EE#32 (((Real.sqrt 128)⁻¹ * (Real.log 2)⁻¹ : ℝ) : EReal)

def algebraic_KernelCtxIdeal_ReferenceCtxIdeal_pre_finite_context [hKernelCtxIdeal : Cert.KernelCtxIdeal.Facts] [hReferenceCtxIdeal : Cert.ReferenceCtxIdeal.Facts] [hPre_finite_context : Cert.Pre_finite_context.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg)
    (m' : (ℓ : Loc Cert.ReferenceCtxIdeal.nD Cert.ReferenceCtxIdeal.τ Cert.ReferenceCtxIdeal.sig) → Buf (Elt Ideal) ℓ) (g' : Dev Cert.ReferenceCtxIdeal.nD → PrngReg), Pre_KernelCtxIdeal_finite_context m →
    (∀ c : Dev Cert.KernelCtxIdeal.nD,
      m' ((c.tc : Thread Cert.ReferenceCtxIdeal.nD Cert.ReferenceCtxIdeal.τ).loc Cert.ReferenceCtxIdeal.main_arg0) = m ((c.tc : Thread Cert.KernelCtxIdeal.nD Cert.KernelCtxIdeal.τ).loc Cert.KernelCtxIdeal.main_arg0)
      ∧ m' ((c.tc : Thread Cert.ReferenceCtxIdeal.nD Cert.ReferenceCtxIdeal.τ).loc Cert.ReferenceCtxIdeal.main_arg1) = m ((c.tc : Thread Cert.KernelCtxIdeal.nD Cert.KernelCtxIdeal.τ).loc Cert.KernelCtxIdeal.main_arg1)
      ∧ m' ((c.tc : Thread Cert.ReferenceCtxIdeal.nD Cert.ReferenceCtxIdeal.τ).loc Cert.ReferenceCtxIdeal.main_arg2) = m ((c.tc : Thread Cert.KernelCtxIdeal.nD Cert.KernelCtxIdeal.τ).loc Cert.KernelCtxIdeal.main_arg2)
      ∧ m' ((c.tc : Thread Cert.ReferenceCtxIdeal.nD Cert.ReferenceCtxIdeal.τ).loc Cert.ReferenceCtxIdeal.main_arg3) = m ((c.tc : Thread Cert.KernelCtxIdeal.nD Cert.KernelCtxIdeal.τ).loc Cert.KernelCtxIdeal.main_arg3)) →
    ∃ (v0 : (c : Dev Cert.KernelCtxIdeal.nD) → Buf (Elt Ideal) ((c.tc : Thread Cert.KernelCtxIdeal.nD Cert.KernelCtxIdeal.τ).loc Cert.KernelCtxIdeal.main_v1)),
      θ_run (Cert.KernelCtxIdeal.defs (F := Ideal)) (onTc (τ := Cert.KernelCtxIdeal.τ) (Cert.KernelCtxIdeal.main (F := Ideal))) ⟨m, fun _ => 0, g⟩ (fun r => ∀ c : Dev Cert.KernelCtxIdeal.nD,
          r.2.mem ((c.tc : Thread Cert.KernelCtxIdeal.nD Cert.KernelCtxIdeal.τ).loc Cert.KernelCtxIdeal.main_v1) = v0 c
          ∧ r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
          ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
          ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
          ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ θ_run (Cert.ReferenceCtxIdeal.defs (F := Ideal)) (onTc (τ := Cert.ReferenceCtxIdeal.τ) (Cert.ReferenceCtxIdeal.main (F := Ideal))) ⟨m', fun _ => 0, g'⟩ (fun r => ∀ c : Dev Cert.ReferenceCtxIdeal.nD,
          r.2.mem ((c.tc : Thread Cert.ReferenceCtxIdeal.nD Cert.ReferenceCtxIdeal.τ).loc Cert.ReferenceCtxIdeal.main_v29) = v0 c
          ∧ r.2.mem ((c.tc : Thread Cert.ReferenceCtxIdeal.nD Cert.ReferenceCtxIdeal.τ).loc Cert.ReferenceCtxIdeal.main_arg0) = m' ((c.tc : Thread Cert.ReferenceCtxIdeal.nD Cert.ReferenceCtxIdeal.τ).loc Cert.ReferenceCtxIdeal.main_arg0)
          ∧ r.2.mem ((c.tc : Thread Cert.ReferenceCtxIdeal.nD Cert.ReferenceCtxIdeal.τ).loc Cert.ReferenceCtxIdeal.main_arg1) = m' ((c.tc : Thread Cert.ReferenceCtxIdeal.nD Cert.ReferenceCtxIdeal.τ).loc Cert.ReferenceCtxIdeal.main_arg1)
          ∧ r.2.mem ((c.tc : Thread Cert.ReferenceCtxIdeal.nD Cert.ReferenceCtxIdeal.τ).loc Cert.ReferenceCtxIdeal.main_arg2) = m' ((c.tc : Thread Cert.ReferenceCtxIdeal.nD Cert.ReferenceCtxIdeal.τ).loc Cert.ReferenceCtxIdeal.main_arg2)
          ∧ r.2.mem ((c.tc : Thread Cert.ReferenceCtxIdeal.nD Cert.ReferenceCtxIdeal.τ).loc Cert.ReferenceCtxIdeal.main_arg3) = m' ((c.tc : Thread Cert.ReferenceCtxIdeal.nD Cert.ReferenceCtxIdeal.τ).loc Cert.ReferenceCtxIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelMerge : Cert.KernelMerge.Facts) (hKernelMergeIdeal : Cert.KernelMergeIdeal.Facts) (hReferenceMergeIdeal : Cert.ReferenceMergeIdeal.Facts) (hKernelConv : Cert.KernelConv.Facts) (hKernelConvIdeal : Cert.KernelConvIdeal.Facts) (hReferenceConvIdeal : Cert.ReferenceConvIdeal.Facts) (hKernelOut : Cert.KernelOut.Facts) (hKernelOutIdeal : Cert.KernelOutIdeal.Facts) (hReferenceOutIdeal : Cert.ReferenceOutIdeal.Facts) (hKernelTail : Cert.KernelTail.Facts) (hKernelTailIdeal : Cert.KernelTailIdeal.Facts) (hReferenceTailIdeal : Cert.ReferenceTailIdeal.Facts) (hKernelKeys : Cert.KernelKeys.Facts) (hKernelKeysIdeal : Cert.KernelKeysIdeal.Facts) (hReferenceKeysIdeal : Cert.ReferenceKeysIdeal.Facts) (hKernelValues : Cert.KernelValues.Facts) (hKernelValuesIdeal : Cert.KernelValuesIdeal.Facts) (hReferenceValuesIdeal : Cert.ReferenceValuesIdeal.Facts) (hKernelRope : Cert.KernelRope.Facts) (hKernelRopeIdeal : Cert.KernelRopeIdeal.Facts) (hReferenceRopeIdeal : Cert.ReferenceRopeIdeal.Facts) (hKernelNorm : Cert.KernelNorm.Facts) (hKernelNormIdeal : Cert.KernelNormIdeal.Facts) (hReferenceNormIdeal : Cert.ReferenceNormIdeal.Facts) (hKernelMod : Cert.KernelMod.Facts) (hKernelModIdeal : Cert.KernelModIdeal.Facts) (hReferenceModIdeal : Cert.ReferenceModIdeal.Facts) (hKernelCtx : Cert.KernelCtx.Facts) (hKernelCtxIdeal : Cert.KernelCtxIdeal.Facts) (hReferenceCtxIdeal : Cert.ReferenceCtxIdeal.Facts) (hPre_finite_scores : Cert.Pre_finite_scores.Facts) (hPre_finite_context : Cert.Pre_finite_context.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ quiescent_KernelKeys (hKernelKeys := hKernelKeys)
    ∧ quiescent_KernelKeysIdeal (hKernelKeysIdeal := hKernelKeysIdeal)
    ∧ quiescent_ReferenceKeysIdeal (hReferenceKeysIdeal := hReferenceKeysIdeal)
    ∧ quiescent_KernelValues (hKernelValues := hKernelValues)
    ∧ quiescent_KernelValuesIdeal (hKernelValuesIdeal := hKernelValuesIdeal)
    ∧ quiescent_ReferenceValuesIdeal (hReferenceValuesIdeal := hReferenceValuesIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelCtx (hKernelCtx := hKernelCtx)
    ∧ quiescent_KernelCtxIdeal (hKernelCtxIdeal := hKernelCtxIdeal)
    ∧ quiescent_KernelCtxIdeal_pre_finite_context (hKernelCtxIdeal := hKernelCtxIdeal) (hPre_finite_context := hPre_finite_context)
    ∧ quiescent_ReferenceCtxIdeal (hReferenceCtxIdeal := hReferenceCtxIdeal)
    ∧ quiescent_ReferenceCtxIdeal_pre_finite_context (hReferenceCtxIdeal := hReferenceCtxIdeal) (hPre_finite_context := hPre_finite_context)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelConv_KernelConvIdeal
    ∧ algebraic_KernelConvIdeal_ReferenceConvIdeal (hKernelConvIdeal := hKernelConvIdeal) (hReferenceConvIdeal := hReferenceConvIdeal)
    ∧ preserves_KernelOut_KernelOutIdeal
    ∧ algebraic_KernelOutIdeal_ReferenceOutIdeal (hKernelOutIdeal := hKernelOutIdeal) (hReferenceOutIdeal := hReferenceOutIdeal)
    ∧ preserves_KernelTail_KernelTailIdeal
    ∧ algebraic_KernelTailIdeal_ReferenceTailIdeal (hKernelTailIdeal := hKernelTailIdeal) (hReferenceTailIdeal := hReferenceTailIdeal)
    ∧ preserves_KernelKeys_KernelKeysIdeal
    ∧ algebraic_KernelKeysIdeal_ReferenceKeysIdeal (hKernelKeysIdeal := hKernelKeysIdeal) (hReferenceKeysIdeal := hReferenceKeysIdeal)
    ∧ preserves_KernelValues_KernelValuesIdeal
    ∧ algebraic_KernelValuesIdeal_ReferenceValuesIdeal (hKernelValuesIdeal := hKernelValuesIdeal) (hReferenceValuesIdeal := hReferenceValuesIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMod_KernelModIdeal
    ∧ algebraic_KernelModIdeal_ReferenceModIdeal (hKernelModIdeal := hKernelModIdeal) (hReferenceModIdeal := hReferenceModIdeal)
    ∧ preserves_KernelCtx_KernelCtxIdeal
    ∧ algebraic_KernelCtxIdeal_ReferenceCtxIdeal_pre_finite_context (hKernelCtxIdeal := hKernelCtxIdeal) (hReferenceCtxIdeal := hReferenceCtxIdeal) (hPre_finite_context := hPre_finite_context)
-- ==== Pre_finite_context.lean ====
abbrev S8192x4096 : Shape := ⟨2, ![8192, 4096]⟩
abbrev S8192x1024 : Shape := ⟨2, ![8192, 1024]⟩
abbrev S1x32 : Shape := ⟨2, ![1, 32]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S8192x4096 .bf16) (main_arg1 : FVec F S8192x1024 .f32) (main_arg2 : FVec F S8192x1024 .f32) (main_arg3 : FVec F S1x32 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S1x32 .f32 := Host.absf main_arg3
  let main_cst_2 : FVec F S_ .f32 := constant S_ .f32 0x7F800000#32
  let main_v11 : FVec F S1x32 .f32 := broadcastInDim S1x32 ![] bcast_S_S1x32 main_cst_2
  let main_v12 : IVec S1x32 1 := cmpf .olt main_v10 main_v11
  let main_c_3 : IVec S_ 1 := constantI S_ 1 1#1
  let main_v13 : IVec S_ 1 := (fun x v => Host.reduce IntOp.andi x v reducesTo_S1x32_S_d0_1 h_S_) main_v12 main_c_3
  let main_v14 : IVec S_ 1 := andi main_v9 main_v13
  main_v14
-- ==== Pre_finite_scores.lean ====
abbrev S16384x4096 : Shape := ⟨2, ![16384, 4096]⟩
abbrev S16384x1024 : Shape := ⟨2, ![16384, 1024]⟩
abbrev S8x1x512x8x128 : Shape := ⟨5, ![8, 1, 512, 8, 128]⟩
abbrev S1x32 : Shape := ⟨2, ![1, 32]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S8x1x512x8x128 : S_.BroadcastsInDim S8x1x512x8x128 (![] : Fin 0 → Fin S8x1x512x8x128.rank)
  reducesTo_S8x1x512x8x128_S_d0_1_2_3_4 : S8x1x512x8x128.ReducesTo [0, 1, 2, 3, 4] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_v15 : IVec S_ 1) (main_v16 : FVec F S1x32 .f32) (main_cst_4 : FVec F S_ .f32) : IVec S_ 1 :=
  let main_v17 : FVec F S1x32 .f32 := broadcastInDim S1x32 ![] bcast_S_S1x32 main_cst_4
  let main_v18 : IVec S1x32 1 := cmpf .olt main_v16 main_v17
  let main_c_5 : IVec S_ 1 := constantI S_ 1 1#1
  let main_v19 : IVec S_ 1 := (fun x v => Host.reduce IntOp.andi x v reducesTo_S1x32_S_d0_1 h_S_) main_v18 main_c_5
  let main_v20 : IVec S_ 1 := andi main_v15 main_v19
  main_v20

def fn {F : FTy → Type} [FloatOps F] (main_arg0 : FVec F S16384x4096 .bf16) (main_arg1 : FVec F S16384x1024 .bf16) (main_arg2 : FVec F S16384x1024 .bf16) (main_arg3 : FVec F S8x1x512x8x128 .f32) (main_arg4 : FVec F S8x1x512x8x128 .f32) (main_arg5 : FVec F S1x32 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S8x1x512x8x128 .f32 := Host.absf main_arg3
  let main_cst_2 : FVec F S_ .f32 := constant S_ .f32 0x7F800000#32
  let main_v12 : FVec F S8x1x512x8x128 .f32 := broadcastInDim S8x1x512x8x128 ![] bcast_S_S8x1x512x8x128 main_cst_2
  let main_v13 : IVec S8x1x512x8x128 1 := cmpf .olt main_v11 main_v12
  let main_c_3 : IVec S_ 1 := constantI S_ 1 1#1
  let main_v14 : IVec S_ 1 := (fun x v => Host.reduce IntOp.andi x v reducesTo_S8x1x512x8x128_S_d0_1_2_3_4 h_S_) main_v13 main_c_3
  let main_v15 : IVec S_ 1 := andi main_v10 main_v14
  let main_v16 : FVec F S1x32 .f32 := Host.absf main_arg5
  let main_cst_4 : FVec F S_ .f32 := constant S_ .f32 0x7F800000#32
  fn_part1 (F := F) main_v15 main_v16 main_cst_4
-- ==== Kernel.lean ====
abbrev S16384x4096 : Shape := ⟨2, ![16384, 4096]⟩
abbrev S16384x1024 : Shape := ⟨2, ![16384, 1024]⟩
abbrev S8x1x512x8x128 : Shape := ⟨5, ![8, 1, 512, 8, 128]⟩
abbrev S1x32 : Shape := ⟨2, ![1, 32]⟩
abbrev S8x512x8x128 : Shape := ⟨4, ![8, 512, 8, 128]⟩
abbrev S8x512x1024 : Shape := ⟨3, ![8, 512, 1024]⟩
abbrev S32 : Shape := ⟨1, ![32]⟩
abbrev S128x4096 : Shape := ⟨2, ![128, 4096]⟩
abbrev S128x1024 : Shape := ⟨2, ![128, 1024]⟩
abbrev S1x512x1024 : Shape := ⟨3, ![1, 512, 1024]⟩
abbrev S512x1024 : Shape := ⟨2, ![512, 1024]⟩
abbrev S384x512 : Shape := ⟨2, ![384, 512]⟩
abbrev S128x128 : Shape := ⟨2, ![128, 128]⟩
abbrev S512x128 : Shape := ⟨2, ![512, 128]⟩
abbrev S1 : Shape := ⟨1, ![1]⟩
abbrev S1x128 : Shape := ⟨2, ![1, 128]⟩
abbrev S1x512 : Shape := ⟨2, ![1, 512]⟩
abbrev S384x128 : Shape := ⟨2, ![384, 128]⟩
abbrev S512x512 : Shape := ⟨2, ![512, 512]⟩
abbrev S512 : Shape := ⟨1, ![512]⟩
abbrev S128x512 : Shape := ⟨2, ![128, 512]⟩
abbrev S1024x512 : Shape := ⟨2, ![1024, 512]⟩
abbrev S1024x128 : Shape := ⟨2, ![1024, 128]⟩
abbrev S1024x256 : Shape := ⟨2, ![1024, 256]⟩
abbrev S512x256 : Shape := ⟨2, ![512, 256]⟩
abbrev S512x1 : Shape := ⟨2, ![512, 1]⟩

abbrev nBuf : Space → Nat
  | .hbm => 12
  | .vmem => 22
  | .smem => 1
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S8x1x512x8x128, .f32⟩
  | .hbm, ⟨4, _⟩ => ⟨S8x1x512x8x128, .f32⟩
  | .hbm, ⟨5, _⟩ => ⟨S1x32, .f32⟩
  | .hbm, ⟨6, _⟩ => ⟨S8x512x8x128, .f32⟩
  | .hbm, ⟨7, _⟩ => ⟨S8x512x1024, .f32⟩
  | .hbm, ⟨8, _⟩ => ⟨S8x512x8x128, .f32⟩
  | .hbm, ⟨9, _⟩ => ⟨S8x512x1024, .f32⟩
  | .hbm, ⟨10, _⟩ => ⟨S32, .f32⟩
  | .hbm, ⟨11, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S128x4096, .bf16⟩
  | .local _ .vmem, ⟨19, _⟩ => ⟨S128x4096, .bf16⟩
  | .local _ .vmem, ⟨20, _⟩ => ⟨S512x1024, .bf16⟩
  | .local _ .vmem, ⟨21, _⟩ => ⟨S512x1024, .bf16⟩
  | .local _ .smem, ⟨0, _⟩ => ⟨S32, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c_m1_i32 : BitVec 32 := 4294967295#32
  let v1 : BitVec 32 := Scalar.addi arg1 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c_m1_i32 : BitVec 32 := 4294967295#32
  let v1 : BitVec 32 := Scalar.addi arg1 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 128)⁻¹ : ℝ) : EReal)
  | "scale_log2e" => some (((Real.sqrt 128)⁻¹ * (Real.log 2)⁻¹ : ℝ) : EReal)
  | _ => none
-- ==== ReferenceIdeal.lean ====
abbrev S16384x4096 : Shape := ⟨2, ![16384, 4096]⟩
abbrev S16384x1024 : Shape := ⟨2, ![16384, 1024]⟩
abbrev S8x1x512x8x128 : Shape := ⟨5, ![8, 1, 512, 8, 128]⟩
abbrev S1x32 : Shape := ⟨2, ![1, 32]⟩
abbrev S8x2048x8x4x128 : Shape := ⟨5, ![8, 2048, 8, 4, 128]⟩
abbrev S8x2048x8x128 : Shape := ⟨4, ![8, 2048, 8, 128]⟩
abbrev S8x512x8x128 : Shape := ⟨4, ![8, 512, 8, 128]⟩
abbrev S8x2560x8x128 : Shape := ⟨4, ![8, 2560, 8, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x512 : Shape := ⟨2, ![2048, 512]⟩
abbrev S2048x2560 : Shape := ⟨2, ![2048, 2560]⟩
abbrev S8x8x2560x2048x4 : Shape := ⟨5, ![8, 8, 2560, 2048, 4]⟩
abbrev S8x8x4x2048x2560 : Shape := ⟨5, ![8, 8, 4, 2048, 2560]⟩
abbrev S32 : Shape := ⟨1, ![32]⟩
abbrev S1x8x4x1x1 : Shape := ⟨5, ![1, 8, 4, 1, 1]⟩
abbrev S8x8x4x2048 : Shape := ⟨4, ![8, 8, 4, 2048]⟩
abbrev S8x8x4x2048x1 : Shape := ⟨5, ![8, 8, 4, 2048, 1]⟩
abbrev S8x8x128x4x2048 : Shape := ⟨5, ![8, 8, 128, 4, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S8x1x512x8x128, .f32⟩
  | .hbm, ⟨4, _⟩ => ⟨S8x1x512x8x128, .f32⟩
  | .hbm, ⟨5, _⟩ => ⟨S1x32, .f32⟩
  | .hbm, ⟨6, _⟩ => ⟨S16384x4096, .f32⟩
  | .hbm, ⟨7, _⟩ => ⟨S8x2048x8x4x128, .f32⟩
  | .hbm, ⟨8, _⟩ => ⟨S16384x1024, .f32⟩
  | .hbm, ⟨9, _⟩ => ⟨S8x2048x8x128, .f32⟩
  | .hbm, ⟨10, _⟩ => ⟨S16384x1024, .f32⟩
  | .hbm, ⟨11, _⟩ => ⟨S8x2048x8x128, .f32⟩
  | .hbm, ⟨12, _⟩ => ⟨S8x512x8x128, .f32⟩
  | .hbm, ⟨13, _⟩ => ⟨S8x2560x8x128, .f32⟩
  | .hbm, ⟨14, _⟩ => ⟨S8x512x8x128, .f32⟩
  | .hbm, ⟨15, _⟩ => ⟨S8x2560x8x128, .f32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i1⟩
  | .hbm, ⟨28, _⟩ => ⟨S2048x512, .i1⟩
  | .hbm, ⟨29, _⟩ => ⟨S2048x2560, .i1⟩
  | .hbm, ⟨30, _⟩ => ⟨S8x8x2560x2048x4, .f32⟩
  | .hbm, ⟨31, _⟩ => ⟨S8x8x4x2048x2560, .f32⟩
  | .hbm, ⟨32, _⟩ => ⟨S_, .f32⟩
  | .hbm, ⟨33, _⟩ => ⟨S_, .f32⟩
  | .hbm, ⟨34, _⟩ => ⟨S8x8x4x2048x2560, .f32⟩
  | .hbm, ⟨35, _⟩ => ⟨S8x8x4x2048x2560, .f32⟩
  | .hbm, ⟨36, _⟩ => ⟨S_, .f32⟩
  | .hbm, ⟨37, _⟩ => ⟨S_, .f32⟩
  | .hbm, ⟨38, _⟩ => ⟨S8x8x4x2048x2560, .i1⟩
  | .hbm, ⟨39, _⟩ => ⟨S8x8x4x2048x2560, .f32⟩
  | .hbm, ⟨40, _⟩ => ⟨S8x8x4x2048x2560, .f32⟩
  | .hbm, ⟨41, _⟩ => ⟨S32, .f32⟩
  | .hbm, ⟨42, _⟩ => ⟨S1x8x4x1x1, .f32⟩
  | .hbm, ⟨43, _⟩ => ⟨S_, .f32⟩
  | .hbm, ⟨44, _⟩ => ⟨S8x8x4x2048, .f32⟩
  | .hbm, ⟨45, _⟩ => ⟨S8x8x4x2048x1, .f32⟩
  | .hbm, ⟨46, _⟩ => ⟨S8x8x4x2048x1, .f32⟩
  | .hbm, ⟨47, _⟩ => ⟨S8x8x4x2048x1, .f32⟩
  | .hbm, ⟨48, _⟩ => ⟨S8x8x4x2048x2560, .f32⟩
  | .hbm, ⟨49, _⟩ => ⟨S8x8x4x2048x2560, .f32⟩
  | .hbm, ⟨50, _⟩ => ⟨S8x8x4x2048x2560, .f32⟩
  | .hbm, ⟨51, _⟩ => ⟨S_, .f32⟩
  | .hbm, ⟨52, _⟩ => ⟨S8x8x4x2048, .f32⟩
  | .hbm, ⟨53, _⟩ => ⟨S8x8x4x2048x1, .f32⟩
  | .hbm, ⟨54, _⟩ => ⟨S8x8x4x2048x1, .f32⟩
  | .hbm, ⟨55, _⟩ => ⟨S8x8x4x2048x1, .f32⟩
  | .hbm, ⟨56, _⟩ => ⟨S8x8x4x2048x1, .f32⟩
  | .hbm, ⟨57, _⟩ => ⟨S8x8x4x2048x1, .f32⟩
  | .hbm, ⟨58, _⟩ => ⟨S8x8x4x2048x2560, .f32⟩
  | .hbm, ⟨59, _⟩ => ⟨S8x8x4x2048x2560, .f32⟩
  | .hbm, ⟨60, _⟩ => ⟨S8x8x128x4x2048, .f32⟩
  | .hbm, ⟨61, _⟩ => ⟨S8x2048x8x4x128, .f32⟩
  | .hbm, ⟨62, _⟩ => ⟨S16384x4096, .f32⟩
  | .hbm, ⟨63, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== KernelUp.lean ====
abbrev S16384x4096 : Shape := ⟨2, ![16384, 4096]⟩
abbrev S1x4096x22016 : Shape := ⟨3, ![1, 4096, 22016]⟩
abbrev S1x3x11008 : Shape := ⟨3, ![1, 3, 11008]⟩
abbrev S4096x22016 : Shape := ⟨2, ![4096, 22016]⟩
abbrev S3x11008 : Shape := ⟨2, ![3, 11008]⟩
abbrev S16384x11008 : Shape := ⟨2, ![16384, 11008]⟩
abbrev S2048x4096 : Shape := ⟨2, ![2048, 4096]⟩
abbrev S4096x256 : Shape := ⟨2, ![4096, 256]⟩
abbrev S3x256 : Shape := ⟨2, ![3, 256]⟩
abbrev S2048x256 : Shape := ⟨2, ![2048, 256]⟩
abbrev S512x4096 : Shape := ⟨2, ![512, 4096]⟩
abbrev S512x256 : Shape := ⟨2, ![512, 256]⟩
abbrev S2048x1 : Shape := ⟨2, ![2048, 1]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S1x4096x22016, .f32⟩
  | .hbm, ⟨2, _⟩ => ⟨S1x3x11008, .f32⟩
  | .hbm, ⟨3, _⟩ => ⟨S4096x22016, .f32⟩
  | .hbm, ⟨4, _⟩ => ⟨S4096x22016, .bf16⟩
  | .hbm, ⟨5, _⟩ => ⟨S3x11008, .f32⟩
  | .hbm, ⟨6, _⟩ => ⟨S16384x11008, .bf16⟩
  | .local _ .vmem, ⟨0, _⟩ => ⟨S2048x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S3x256, .f32⟩
  | .local _ .vmem, ⟨6, _⟩ => ⟨S3x256, .f32⟩
  | .local _ .vmem, ⟨7, _⟩ => ⟨S2048x256, .bf16⟩
  | .local _ .vmem, ⟨8, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceUpIdeal.lean ====
abbrev S16384x4096 : Shape := ⟨2, ![16384, 4096]⟩
abbrev S1x4096x22016 : Shape := ⟨3, ![1, 4096, 22016]⟩
abbrev S1x3x11008 : Shape := ⟨3, ![1, 3, 11008]⟩
abbrev S4096x22016 : Shape := ⟨2, ![4096, 22016]⟩
abbrev S16384x22016 : Shape := ⟨2, ![16384, 22016]⟩
abbrev S16384x11008 : Shape := ⟨2, ![16384, 11008]⟩
abbrev S8x2048x11008 : Shape := ⟨3, ![8, 2048, 11008]⟩
abbrev S3x11008 : Shape := ⟨2, ![3, 11008]⟩
abbrev S_ : Shape := ⟨0, ![]⟩
abbrev S8x2050x11008 : Shape := ⟨3, ![8, 2050, 11008]⟩
abbrev S1x11008 : Shape := ⟨2, ![1, 11008]⟩
abbrev S11008 : Shape := ⟨1, ![11008]⟩
abbrev S1x1x11008 : Shape := ⟨3, ![1, 1, 11008]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x22016, .f32⟩
  | .hbm, ⟨2, _⟩ => ⟨S1x3x11008, .f32⟩
  | .hbm, ⟨3, _⟩ => ⟨S16384x4096, .f32⟩
  | .hbm, ⟨4, _⟩ => ⟨S4096x22016, .f32⟩
  | .hbm, ⟨5, _⟩ => ⟨S16384x22016, .f32⟩
  | .hbm, ⟨6, _⟩ => ⟨S16384x11008, .f32⟩
  | .hbm, ⟨7, _⟩ => ⟨S16384x11008, .f32⟩
  | .hbm, ⟨8, _⟩ => ⟨S8x2048x11008, .f32⟩
  | .hbm, ⟨9, _⟩ => ⟨S3x11008, .f32⟩
  | .hbm, ⟨10, _⟩ => ⟨S_, .i32⟩
  | .hbm, ⟨11, _⟩ => ⟨S_, .f32⟩
  | .hbm, ⟨12, _⟩ => ⟨S8x2050x11008, .f32⟩
  | .hbm, ⟨13, _⟩ => ⟨S8x2048x11008, .f32⟩
  | .hbm, ⟨14, _⟩ => ⟨S1x11008, .f32⟩
  | .hbm, ⟨15, _⟩ => ⟨S11008, .f32⟩
  | .hbm, ⟨16, _⟩ => ⟨S1x1x11008, .f32⟩
  | .hbm, ⟨17, _⟩ => ⟨S8x2048x11008, .f32⟩
  | .hbm, ⟨18, _⟩ => ⟨S8x2048x11008, .f32⟩
  | .hbm, ⟨19, _⟩ => ⟨S8x2048x11008, .f32⟩
  | .hbm, ⟨20, _⟩ => ⟨S1x11008, .f32⟩
  | .hbm, ⟨21, _⟩ => ⟨S11008, .f32⟩
  | .hbm, ⟨22, _⟩ => ⟨S1x1x11008, .f32⟩
  | .hbm, ⟨23, _⟩ => ⟨S8x2048x11008, .f32⟩
  | .hbm, ⟨24, _⟩ => ⟨S8x2048x11008, .f32⟩
  | .hbm, ⟨25, _⟩ => ⟨S8x2048x11008, .f32⟩
  | .hbm, ⟨26, _⟩ => ⟨S8x2048x11008, .f32⟩
  | .hbm, ⟨27, _⟩ => ⟨S1x11008, .f32⟩
  | .hbm, ⟨28, _⟩ => ⟨S11008, .f32⟩
  | .hbm, ⟨29, _⟩ => ⟨S1x1x11008, .f32⟩
  | .hbm, ⟨30, _⟩ => ⟨S8x2048x11008, .f32⟩
  | .hbm, ⟨31, _⟩ => ⟨S8x2048x11008, .f32⟩
  | .hbm, ⟨32, _⟩ => ⟨S8x2048x11008, .f32⟩
  | .hbm, ⟨33, _⟩ => ⟨S16384x11008, .f32⟩
  | .hbm, ⟨34, _⟩ => ⟨S16384x11008, .f32⟩
  | .hbm, ⟨35, _⟩ => ⟨S16384x11008, .f32⟩
  | .hbm, ⟨36, _⟩ => ⟨S_, .f32⟩
  | .hbm, ⟨37, _⟩ => ⟨S16384x11008, .f32⟩
  | .hbm, ⟨38, _⟩ => ⟨S16384x11008, .f32⟩
  | .hbm, ⟨39, _⟩ => ⟨S_, .f32⟩
  | .hbm, ⟨40, _⟩ => ⟨S16384x11008, .f32⟩
  | .hbm, ⟨41, _⟩ => ⟨S16384x11008, .f32⟩
  | .hbm, ⟨42, _⟩ => ⟨S16384x11008, .f32⟩
  | .hbm, ⟨43, _⟩ => ⟨S16384x11008, .f32⟩
  | .hbm, ⟨44, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== KernelDown.lean ====
abbrev S16384x11008 : Shape := ⟨2, ![16384, 11008]⟩
abbrev S1x11008x4096 : Shape := ⟨3, ![1, 11008, 4096]⟩
abbrev S8192x4096 : Shape := ⟨2, ![8192, 4096]⟩
abbrev S1x4096 : Shape := ⟨2, ![1, 4096]⟩
abbrev S1x6x4096 : Shape := ⟨3, ![1, 6, 4096]⟩
abbrev S8x6x4096 : Shape := ⟨3, ![8, 6, 4096]⟩
abbrev S11008x4096 : Shape := ⟨2, ![11008, 4096]⟩
abbrev S4096 : Shape := ⟨1, ![4096]⟩
abbrev S_ : Shape := ⟨0, ![]⟩
abbrev S7x6x4096 : Shape := ⟨3, ![7, 6, 4096]⟩
abbrev S16x6x4096 : Shape := ⟨3, ![16, 6, 4096]⟩
abbrev S16384x4096 : Shape := ⟨2, ![16384, 4096]⟩
abbrev S1024x11008 : Shape := ⟨2, ![1024, 11008]⟩
abbrev S11008x256 : Shape := ⟨2, ![11008, 256]⟩
abbrev S32x4096 : Shape := ⟨2, ![32, 4096]⟩
abbrev S1024x256 : Shape := ⟨2, ![1024, 256]⟩
abbrev S1x1x4096 : Shape := ⟨3, ![1, 1, 4096]⟩
abbrev S32 : Shape := ⟨1, ![32]⟩
abbrev S32x1 : Shape := ⟨2, ![32, 1]⟩

abbrev nBuf : Space → Nat
  | .hbm => 16
  | .vmem => 13
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S8192x4096, .bf16⟩
  | .hbm, ⟨3, _⟩ => ⟨S8192x4096, .f32⟩
  | .hbm, ⟨4, _⟩ => ⟨S1x4096, .f32⟩
  | .hbm, ⟨5, _⟩ => ⟨S1x6x4096, .f32⟩
  | .hbm, ⟨6, _⟩ => ⟨S8x6x4096, .f32⟩
  | .hbm, ⟨7, _⟩ => ⟨S11008x4096, .f32⟩
  | .hbm, ⟨8, _⟩ => ⟨S11008x4096, .bf16⟩
  | .hbm, ⟨9, _⟩ => ⟨S4096, .f32⟩
  | .hbm, ⟨10, _⟩ => ⟨S1x4096, .f32⟩
  | .hbm, ⟨11, _⟩ => ⟨S_, .f32⟩
  | .hbm, ⟨12, _⟩ => ⟨S7x6x4096, .f32⟩
  | .hbm, ⟨13, _⟩ => ⟨S16x6x4096, .f32⟩
  | .hbm, ⟨14, _⟩ => ⟨S16384x4096, .bf16⟩
  | .hbm, ⟨15, _⟩ => ⟨S8192x4096, .f32⟩
  | .local _ .vmem, ⟨0, _⟩ => ⟨S1024x11008, .bf16⟩
  | .local _ .vmem, ⟨1, _⟩ => ⟨S11008x256, .bf16⟩
  | .local _ .vmem, ⟨2, _⟩ => ⟨S11008x256, .bf16⟩
  | .local _ .vmem, ⟨3, _⟩ => ⟨S32x4096, .bf16⟩
  | .local _ .vmem, ⟨4, _⟩ => ⟨S32x4096, .bf16⟩
  | .local _ .vmem, ⟨5, _⟩ => ⟨S32x4096, .f32⟩
  | .local _ .vmem, ⟨6, _⟩ => ⟨S32x4096, .f32⟩
  | .local _ .vmem, ⟨7, _⟩ => ⟨S1x4096, .f32⟩
  | .local _ .vmem, ⟨8, _⟩ => ⟨S1x6x4096, .f32⟩
  | .local _ .vmem, ⟨9, _⟩ => ⟨S1024x256, .bf16⟩
  | .local _ .vmem, ⟨10, _⟩ => ⟨S1024x256, .bf16⟩
  | .local _ .vmem, ⟨11, _⟩ => ⟨S32x4096, .f32⟩
  | .local _ .vmem, ⟨12, _⟩ => ⟨S32x4096, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x6x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceDownIdeal.lean ====
abbrev S16384x11008 : Shape := ⟨2, ![16384, 11008]⟩
abbrev S1x11008x4096 : Shape := ⟨3, ![1, 11008, 4096]⟩
abbrev S8192x4096 : Shape := ⟨2, ![8192, 4096]⟩
abbrev S1x4096 : Shape := ⟨2, ![1, 4096]⟩
abbrev S1x6x4096 : Shape := ⟨3, ![1, 6, 4096]⟩
abbrev S8x6x4096 : Shape := ⟨3, ![8, 6, 4096]⟩
abbrev S11008x4096 : Shape := ⟨2, ![11008, 4096]⟩
abbrev S16384x4096 : Shape := ⟨2, ![16384, 4096]⟩
abbrev S1x1x4096 : Shape := ⟨3, ![1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S8192x4096, .bf16⟩
  | .hbm, ⟨3, _⟩ => ⟨S8192x4096, .f32⟩
  | .hbm, ⟨4, _⟩ => ⟨S1x4096, .f32⟩
  | .hbm, ⟨5, _⟩ => ⟨S1x6x4096, .f32⟩
  | .hbm, ⟨6, _⟩ => ⟨S8x6x4096, .f32⟩
  | .hbm, ⟨7, _⟩ => ⟨S16384x11008, .f32⟩
  | .hbm, ⟨8, _⟩ => ⟨S11008x4096, .f32⟩
  | .hbm, ⟨9, _⟩ => ⟨S16384x4096, .f32⟩
  | .hbm, ⟨10, _⟩ => ⟨S16384x4096, .bf16⟩
  | .hbm, ⟨11, _⟩ => ⟨S1x1x4096, .f32⟩
  | .hbm, ⟨12, _⟩ => ⟨S1x4096, .f32⟩
  | .hbm, ⟨13, _⟩ => ⟨S8192x4096, .f32⟩
  | .hbm, ⟨14, _⟩ => ⟨S4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== KernelMerge.lean ====
abbrev S16384x4096 : Shape := ⟨2, ![16384, 4096]⟩
abbrev S16384x2048 : Shape := ⟨2, ![16384, 2048]⟩
abbrev S1x4096x20480 : Shape := ⟨3, ![1, 4096, 20480]⟩
abbrev S1x4096x4096 : Shape := ⟨3, ![1, 4096, 4096]⟩
abbrev S1x2048x4096 : Shape := ⟨3, ![1, 2048, 4096]⟩
abbrev S8192x4096 : Shape := ⟨2, ![8192, 4096]⟩
abbrev S1x4096 : Shape := ⟨2, ![1, 4096]⟩
abbrev S1x6x4096 : Shape := ⟨3, ![1, 6, 4096]⟩
abbrev S8x6x4096 : Shape := ⟨3, ![8, 6, 4096]⟩
abbrev S4096x20480 : Shape := ⟨2, ![4096, 20480]⟩
abbrev S4096x4096 : Shape := ⟨2, ![4096, 4096]⟩
abbrev S2048x4096 : Shape := ⟨2, ![2048, 4096]⟩
abbrev S4096 : Shape := ⟨1, ![4096]⟩
abbrev S_ : Shape := ⟨0, ![]⟩
abbrev S7x6x4096 : Shape := ⟨3, ![7, 6, 4096]⟩
abbrev S16x6x4096 : Shape := ⟨3, ![16, 6, 4096]⟩
abbrev S1024x4096 : Shape := ⟨2, ![1024, 4096]⟩
abbrev S1024x2048 : Shape := ⟨2, ![1024, 2048]⟩
abbrev S4096x256 : Shape := ⟨2, ![4096, 256]⟩
abbrev S2048x256 : Shape := ⟨2, ![2048, 256]⟩
abbrev S32x4096 : Shape := ⟨2, ![32, 4096]⟩
abbrev S1024x256 : Shape := ⟨2, ![1024, 256]⟩
abbrev S1x1x4096 : Shape := ⟨3, ![1, 1, 4096]⟩
abbrev S32 : Shape := ⟨1, ![32]⟩
abbrev S32x1 : Shape := ⟨2, ![32, 1]⟩
abbrev S512x4096 : Shape := ⟨2, ![512, 4096]⟩
abbrev S512x256 : Shape := ⟨2, ![512, 256]⟩
abbrev S512x2048 : Shape := ⟨2, ![512, 2048]⟩

abbrev nBuf : Space → Nat
  | .hbm => 28
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x2048, .bf16⟩
  | .hbm, ⟨3, _⟩ => ⟨S1x4096x20480, .f32⟩
  | .hbm, ⟨4, _⟩ => ⟨S1x4096x4096, .f32⟩
  | .hbm, ⟨5, _⟩ => ⟨S1x2048x4096, .f32⟩
  | .hbm, ⟨6, _⟩ => ⟨S8192x4096, .bf16⟩
  | .hbm, ⟨7, _⟩ => ⟨S8192x4096, .f32⟩
  | .hbm, ⟨8, _⟩ => ⟨S1x4096, .f32⟩
  | .hbm, ⟨9, _⟩ => ⟨S1x4096, .f32⟩
  | .hbm, ⟨10, _⟩ => ⟨S1x6x4096, .f32⟩
  | .hbm, ⟨11, _⟩ => ⟨S8x6x4096, .f32⟩
  | .hbm, ⟨12, _⟩ => ⟨S4096x20480, .f32⟩
  | .hbm, ⟨13, _⟩ => ⟨S4096x20480, .bf16⟩
  | .hbm, ⟨14, _⟩ => ⟨S4096x4096, .f32⟩
  | .hbm, ⟨15, _⟩ => ⟨S4096x4096, .bf16⟩
  | .hbm, ⟨16, _⟩ => ⟨S2048x4096, .f32⟩
  | .hbm, ⟨17, _⟩ => ⟨S2048x4096, .bf16⟩
  | .hbm, ⟨18, _⟩ => ⟨S4096, .f32⟩
  | .hbm, ⟨19, _⟩ => ⟨S1x4096, .f32⟩
  | .hbm, ⟨20, _⟩ => ⟨S4096, .f32⟩
  | .hbm, ⟨21, _⟩ => ⟨S1x4096, .f32⟩
  | .hbm, ⟨22, _⟩ => ⟨S_, .f32⟩
  | .hbm, ⟨23, _⟩ => ⟨S7x6x4096, .f32⟩
  | .hbm, ⟨24, _⟩ => ⟨S16x6x4096, .f32⟩
  | .hbm, ⟨25, _⟩ => ⟨S16384x4096, .bf16⟩
  | .hbm, ⟨26, _⟩ => ⟨S8192x4096, .f32⟩
  | .hbm, ⟨27, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S2048x256, .bf16⟩
  | .local _ .vmem, ⟨10, _⟩ => ⟨S2048x256, .bf16⟩
  | .local _ .vmem, ⟨11, _⟩ => ⟨S32x4096, .bf16⟩
  | .local _ .vmem, ⟨12, _⟩ => ⟨S32x4096, .bf16⟩
  | .local _ .vmem, ⟨13, _⟩ => ⟨S32x4096, .f32⟩
  | .local _ .vmem, ⟨14, _⟩ => ⟨S32x4096, .f32⟩
  | .local _ .vmem, ⟨15, _⟩ => ⟨S1x4096, .f32⟩
  | .local _ .vmem, ⟨16, _⟩ => ⟨S1x4096, .f32⟩
  | .local _ .vmem, ⟨17, _⟩ => ⟨S1x6x4096, .f32⟩
  | .local _ .vmem, ⟨18, _⟩ => ⟨S1024x256, .bf16⟩
  | .local _ .vmem, ⟨19, _⟩ => ⟨S1024x256, .bf16⟩
  | .local _ .vmem, ⟨20, _⟩ => ⟨S32x4096, .f32⟩
  | .local _ .vmem, ⟨21, _⟩ => ⟨S32x4096, .f32⟩
  | .local _ .vmem, ⟨22, _⟩ => ⟨S32x4096, .bf16⟩
  | .local _ .vmem, ⟨23, _⟩ => ⟨S32x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x6x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceMergeIdeal.lean ====
abbrev S16384x4096 : Shape := ⟨2, ![16384, 4096]⟩
abbrev S16384x2048 : Shape := ⟨2, ![16384, 2048]⟩
abbrev S1x4096x20480 : Shape := ⟨3, ![1, 4096, 20480]⟩
abbrev S1x4096x4096 : Shape := ⟨3, ![1, 4096, 4096]⟩
abbrev S1x2048x4096 : Shape := ⟨3, ![1, 2048, 4096]⟩
abbrev S8192x4096 : Shape := ⟨2, ![8192, 4096]⟩
abbrev S1x4096 : Shape := ⟨2, ![1, 4096]⟩
abbrev S1x6x4096 : Shape := ⟨3, ![1, 6, 4096]⟩
abbrev S8x6x4096 : Shape := ⟨3, ![8, 6, 4096]⟩
abbrev S4096x20480 : Shape := ⟨2, ![4096, 20480]⟩
abbrev S16384x20480 : Shape := ⟨2, ![16384, 20480]⟩
abbrev S4096x4096 : Shape := ⟨2, ![4096, 4096]⟩
abbrev S2048x4096 : Shape := ⟨2, ![2048, 4096]⟩
abbrev S_ : Shape := ⟨0, ![]⟩
abbrev S1x1x4096 : Shape := ⟨3, ![1, 1, 4096]⟩
abbrev S4096 : Shape := ⟨1, ![4096]⟩
abbrev S8192 : Shape := ⟨1, ![8192]⟩
abbrev S8192x1 : Shape := ⟨2, ![8192, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x2048, .bf16⟩
  | .hbm, ⟨3, _⟩ => ⟨S1x4096x20480, .f32⟩
  | .hbm, ⟨4, _⟩ => ⟨S1x4096x4096, .f32⟩
  | .hbm, ⟨5, _⟩ => ⟨S1x2048x4096, .f32⟩
  | .hbm, ⟨6, _⟩ => ⟨S8192x4096, .bf16⟩
  | .hbm, ⟨7, _⟩ => ⟨S8192x4096, .f32⟩
  | .hbm, ⟨8, _⟩ => ⟨S1x4096, .f32⟩
  | .hbm, ⟨9, _⟩ => ⟨S1x4096, .f32⟩
  | .hbm, ⟨10, _⟩ => ⟨S1x6x4096, .f32⟩
  | .hbm, ⟨11, _⟩ => ⟨S8x6x4096, .f32⟩
  | .hbm, ⟨12, _⟩ => ⟨S16384x4096, .f32⟩
  | .hbm, ⟨13, _⟩ => ⟨S4096x20480, .f32⟩
  | .hbm, ⟨14, _⟩ => ⟨S16384x20480, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S4096x4096, .f32⟩
  | .hbm, ⟨19, _⟩ => ⟨S16384x4096, .f32⟩
  | .hbm, ⟨20, _⟩ => ⟨S16384x2048, .f32⟩
  | .hbm, ⟨21, _⟩ => ⟨S2048x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .bf16⟩
  | .hbm, ⟨43, _⟩ => ⟨S1x1x4096, .f32⟩
  | .hbm, ⟨44, _⟩ => ⟨S1x4096, .f32⟩
  | .hbm, ⟨45, _⟩ => ⟨S8192x4096, .f32⟩
  | .hbm, ⟨46, _⟩ => ⟨S4096, .f32⟩
  | .hbm, ⟨47, _⟩ => ⟨S8192x4096, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x4096, .f32⟩
  | .hbm, ⟨59, _⟩ => ⟨S8192x4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S4096, .f32⟩
  | .hbm, ⟨67, _⟩ => ⟨S8192x4096, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x4096, .f32⟩
  | .hbm, ⟨79, _⟩ => ⟨S8192x4096, .f32⟩
  | .hbm, ⟨80, _⟩ => ⟨S1x4096, .f32⟩
  | .hbm, ⟨81, _⟩ => ⟨S8192x4096, .f32⟩
  | .hbm, ⟨82, _⟩ => ⟨S8192x4096, .f32⟩
  | .hbm, ⟨83, _⟩ => ⟨S1x1x4096, .f32⟩
  | .hbm, ⟨84, _⟩ => ⟨S1x4096, .f32⟩
  | .hbm, ⟨85, _⟩ => ⟨S_, .f32⟩
  | .hbm, ⟨86, _⟩ => ⟨S1x4096, .f32⟩
  | .hbm, ⟨87, _⟩ => ⟨S1x4096, .f32⟩
  | .hbm, ⟨88, _⟩ => ⟨S8192x4096, .f32⟩
  | .hbm, ⟨89, _⟩ => ⟨S8192x4096, .f32⟩
  | .hbm, ⟨90, _⟩ => ⟨S1x1x4096, .f32⟩
  | .hbm, ⟨91, _⟩ => ⟨S1x4096, .f32⟩
  | .hbm, ⟨92, _⟩ => ⟨S8192x4096, .f32⟩
  | .hbm, ⟨93, _⟩ => ⟨S8192x4096, .f32⟩
  | .hbm, ⟨94, _⟩ => ⟨S8192x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== KernelConv.lean ====
abbrev S16384x4096 : Shape := ⟨2, ![16384, 4096]⟩
abbrev S1x4096x20480 : Shape := ⟨3, ![1, 4096, 20480]⟩
abbrev S1x3x2048 : Shape := ⟨3, ![1, 3, 2048]⟩
abbrev S4096x20480 : Shape := ⟨2, ![4096, 20480]⟩
abbrev S3x2048 : Shape := ⟨2, ![3, 2048]⟩
abbrev S16384x2048 : Shape := ⟨2, ![16384, 2048]⟩
abbrev S2048x4096 : Shape := ⟨2, ![2048, 4096]⟩
abbrev S4096x256 : Shape := ⟨2, ![4096, 256]⟩
abbrev S3x256 : Shape := ⟨2, ![3, 256]⟩
abbrev S2048x256 : Shape := ⟨2, ![2048, 256]⟩
abbrev S512x4096 : Shape := ⟨2, ![512, 4096]⟩
abbrev S512x256 : Shape := ⟨2, ![512, 256]⟩
abbrev S2048x1 : Shape := ⟨2, ![2048, 1]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S1x4096x20480, .f32⟩
  | .hbm, ⟨2, _⟩ => ⟨S1x3x2048, .f32⟩
  | .hbm, ⟨3, _⟩ => ⟨S4096x20480, .f32⟩
  | .hbm, ⟨4, _⟩ => ⟨S4096x20480, .bf16⟩
  | .hbm, ⟨5, _⟩ => ⟨S3x2048, .f32⟩
  | .hbm, ⟨6, _⟩ => ⟨S16384x2048, .bf16⟩
  | .local _ .vmem, ⟨0, _⟩ => ⟨S2048x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S3x256, .f32⟩
  | .local _ .vmem, ⟨8, _⟩ => ⟨S3x256, .f32⟩
  | .local _ .vmem, ⟨9, _⟩ => ⟨S2048x256, .bf16⟩
  | .local _ .vmem, ⟨10, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceConvIdeal.lean ====
abbrev S16384x4096 : Shape := ⟨2, ![16384, 4096]⟩
abbrev S1x4096x20480 : Shape := ⟨3, ![1, 4096, 20480]⟩
abbrev S1x3x2048 : Shape := ⟨3, ![1, 3, 2048]⟩
abbrev S4096x20480 : Shape := ⟨2, ![4096, 20480]⟩
abbrev S16384x20480 : Shape := ⟨2, ![16384, 20480]⟩
abbrev S16384x2048 : Shape := ⟨2, ![16384, 2048]⟩
abbrev S8x2048x2048 : Shape := ⟨3, ![8, 2048, 2048]⟩
abbrev S3x2048 : Shape := ⟨2, ![3, 2048]⟩
abbrev S_ : Shape := ⟨0, ![]⟩
abbrev S8x2050x2048 : Shape := ⟨3, ![8, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x20480, .f32⟩
  | .hbm, ⟨2, _⟩ => ⟨S1x3x2048, .f32⟩
  | .hbm, ⟨3, _⟩ => ⟨S16384x4096, .f32⟩
  | .hbm, ⟨4, _⟩ => ⟨S4096x20480, .f32⟩
  | .hbm, ⟨5, _⟩ => ⟨S16384x20480, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S8x2048x2048, .f32⟩
  | .hbm, ⟨11, _⟩ => ⟨S3x2048, .f32⟩
  | .hbm, ⟨12, _⟩ => ⟨S_, .i32⟩
  | .hbm, ⟨13, _⟩ => ⟨S_, .f32⟩
  | .hbm, ⟨14, _⟩ => ⟨S8x2050x2048, .f32⟩
  | .hbm, ⟨15, _⟩ => ⟨S8x2048x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S16384x2048, .f32⟩
  | .hbm, ⟨36, _⟩ => ⟨S16384x2048, .f32⟩
  | .hbm, ⟨37, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== KernelOut.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4096x4096, .f32⟩
  | .hbm, ⟨3, _⟩ => ⟨S4096x4096, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelTail.lean ====
abbrev S16384x4096 : Shape := ⟨2, ![16384, 4096]⟩
abbrev S1x4096 : Shape := ⟨2, ![1, 4096]⟩
abbrev S1x6x4096 : Shape := ⟨3, ![1, 6, 4096]⟩
abbrev S8x6x4096 : Shape := ⟨3, ![8, 6, 4096]⟩
abbrev S4096 : Shape := ⟨1, ![4096]⟩
abbrev S_ : Shape := ⟨0, ![]⟩
abbrev S7x6x4096 : Shape := ⟨3, ![7, 6, 4096]⟩
abbrev S16x6x4096 : Shape := ⟨3, ![16, 6, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 11
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S1x4096, .f32⟩
  | .hbm, ⟨3, _⟩ => ⟨S1x6x4096, .f32⟩
  | .hbm, ⟨4, _⟩ => ⟨S8x6x4096, .f32⟩
  | .hbm, ⟨5, _⟩ => ⟨S4096, .f32⟩
  | .hbm, ⟨6, _⟩ => ⟨S1x4096, .f32⟩
  | .hbm, ⟨7, _⟩ => ⟨S_, .f32⟩
  | .hbm, ⟨8, _⟩ => ⟨S7x6x4096, .f32⟩
  | .hbm, ⟨9, _⟩ => ⟨S16x6x4096, .f32⟩
  | .hbm, ⟨10, _⟩ => ⟨S16384x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x6x4096, .f32⟩
  | .local _ .vmem, ⟨6, _⟩ => ⟨S1x6x4096, .f32⟩
  | .local _ .vmem, ⟨7, _⟩ => ⟨S256x4096, .f32⟩
  | .local _ .vmem, ⟨8, _⟩ => ⟨S256x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceTailIdeal.lean ====
abbrev S16384x4096 : Shape := ⟨2, ![16384, 4096]⟩
abbrev S1x4096 : Shape := ⟨2, ![1, 4096]⟩
abbrev S1x6x4096 : Shape := ⟨3, ![1, 6, 4096]⟩
abbrev S8x6x4096 : Shape := ⟨3, ![8, 6, 4096]⟩
abbrev S8x2048x4096 : Shape := ⟨3, ![8, 2048, 4096]⟩
abbrev S8x1x4096 : Shape := ⟨3, ![8, 1, 4096]⟩
abbrev S8x4096 : Shape := ⟨2, ![8, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S1x4096, .f32⟩
  | .hbm, ⟨3, _⟩ => ⟨S1x6x4096, .f32⟩
  | .hbm, ⟨4, _⟩ => ⟨S8x6x4096, .f32⟩
  | .hbm, ⟨5, _⟩ => ⟨S16384x4096, .f32⟩
  | .hbm, ⟨6, _⟩ => ⟨S8x2048x4096, .f32⟩
  | .hbm, ⟨7, _⟩ => ⟨S8x2048x4096, .f32⟩
  | .hbm, ⟨8, _⟩ => ⟨S8x1x4096, .f32⟩
  | .hbm, ⟨9, _⟩ => ⟨S8x4096, .f32⟩
  | .hbm, ⟨10, _⟩ => ⟨S8x1x4096, .f32⟩
  | .hbm, ⟨11, _⟩ => ⟨S4096, .f32⟩
  | .hbm, ⟨12, _⟩ => ⟨S8x2048x4096, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x4096, .f32⟩
  | .hbm, ⟨24, _⟩ => ⟨S8x2048x4096, .f32⟩
  | .hbm, ⟨25, _⟩ => ⟨S1x1x4096, .f32⟩
  | .hbm, ⟨26, _⟩ => ⟨S8x2048x4096, .f32⟩
  | .hbm, ⟨27, _⟩ => ⟨S8x2048x4096, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | .hbm, ⟨31, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== KernelKeys.lean ====
abbrev S8192x4096 : Shape := ⟨2, ![8192, 4096]⟩
abbrev S1x4096x20480 : Shape := ⟨3, ![1, 4096, 20480]⟩
abbrev S4096x20480 : Shape := ⟨2, ![4096, 20480]⟩
abbrev S8192x1024 : Shape := ⟨2, ![8192, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x4096x20480, .f32⟩
  | .hbm, ⟨2, _⟩ => ⟨S4096x20480, .f32⟩
  | .hbm, ⟨3, _⟩ => ⟨S4096x20480, .bf16⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKeysIdeal.lean ====
abbrev S8192x4096 : Shape := ⟨2, ![8192, 4096]⟩
abbrev S1x4096x20480 : Shape := ⟨3, ![1, 4096, 20480]⟩
abbrev S4096x20480 : Shape := ⟨2, ![4096, 20480]⟩
abbrev S8192x20480 : Shape := ⟨2, ![8192, 20480]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x20480, .f32⟩
  | .hbm, ⟨2, _⟩ => ⟨S8192x4096, .f32⟩
  | .hbm, ⟨3, _⟩ => ⟨S4096x20480, .f32⟩
  | .hbm, ⟨4, _⟩ => ⟨S8192x20480, .f32⟩
  | .hbm, ⟨5, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelValues.lean ====
abbrev S8192x4096 : Shape := ⟨2, ![8192, 4096]⟩
abbrev S1x4096x20480 : Shape := ⟨3, ![1, 4096, 20480]⟩
abbrev S4096x20480 : Shape := ⟨2, ![4096, 20480]⟩
abbrev S8192x1024 : Shape := ⟨2, ![8192, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x4096x20480, .f32⟩
  | .hbm, ⟨2, _⟩ => ⟨S4096x20480, .f32⟩
  | .hbm, ⟨3, _⟩ => ⟨S4096x20480, .bf16⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceValuesIdeal.lean ====
abbrev S8192x4096 : Shape := ⟨2, ![8192, 4096]⟩
abbrev S1x4096x20480 : Shape := ⟨3, ![1, 4096, 20480]⟩
abbrev S4096x20480 : Shape := ⟨2, ![4096, 20480]⟩
abbrev S8192x20480 : Shape := ⟨2, ![8192, 20480]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x20480, .f32⟩
  | .hbm, ⟨2, _⟩ => ⟨S8192x4096, .f32⟩
  | .hbm, ⟨3, _⟩ => ⟨S4096x20480, .f32⟩
  | .hbm, ⟨4, _⟩ => ⟨S8192x20480, .f32⟩
  | .hbm, ⟨5, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelRope.lean ====
abbrev S16384x4096 : Shape := ⟨2, ![16384, 4096]⟩
abbrev S1x4096x20480 : Shape := ⟨3, ![1, 4096, 20480]⟩
abbrev S4096x20480 : Shape := ⟨2, ![4096, 20480]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩
abbrev S256x128 : Shape := ⟨2, ![256, 128]⟩
abbrev S256x4096 : Shape := ⟨2, ![256, 4096]⟩
abbrev S256x512 : Shape := ⟨2, ![256, 512]⟩

abbrev nBuf : Space → Nat
  | .hbm => 50
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x20480, .f32⟩
  | .hbm, ⟨2, _⟩ => ⟨S4096x20480, .f32⟩
  | .hbm, ⟨3, _⟩ => ⟨S4096x20480, .bf16⟩
  | .hbm, ⟨4, _⟩ => ⟨S32, .i32⟩
  | .hbm, ⟨5, _⟩ => ⟨S32x64, .i32⟩
  | .hbm, ⟨6, _⟩ => ⟨S2048, .i32⟩
  | .hbm, ⟨7, _⟩ => ⟨S2048, .f32⟩
  | .hbm, ⟨8, _⟩ => ⟨S64, .i32⟩
  | .hbm, ⟨9, _⟩ => ⟨S1x64, .i32⟩
  | .hbm, ⟨10, _⟩ => ⟨S32x64, .i32⟩
  | .hbm, ⟨11, _⟩ => ⟨S2048, .i32⟩
  | .hbm, ⟨12, _⟩ => ⟨S2048, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x1, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x128, .f32⟩
  | .hbm, ⟨46, _⟩ => ⟨S2048x32, .f32⟩
  | .hbm, ⟨47, _⟩ => ⟨S2048x32, .f32⟩
  | .hbm, ⟨48, _⟩ => ⟨S2048x128, .f32⟩
  | .hbm, ⟨49, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceRopeIdeal.lean ====
abbrev S16384x4096 : Shape := ⟨2, ![16384, 4096]⟩
abbrev S1x4096x20480 : Shape := ⟨3, ![1, 4096, 20480]⟩
abbrev S4096x20480 : Shape := ⟨2, ![4096, 20480]⟩
abbrev S16384x20480 : Shape := ⟨2, ![16384, 20480]⟩
abbrev S8x2048x32x128 : Shape := ⟨4, ![8, 2048, 32, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S8x2048x32x2x2x32 : Shape := ⟨6, ![8, 2048, 32, 2, 2, 32]⟩
abbrev S8x2048x32x2x1x32 : Shape := ⟨6, ![8, 2048, 32, 2, 1, 32]⟩
abbrev S8x2048x32x2x32 : Shape := ⟨5, ![8, 2048, 32, 2, 32]⟩
abbrev S2048x1x2x32 : Shape := ⟨4, ![2048, 1, 2, 32]⟩
abbrev S1x2048x1x2x32 : Shape := ⟨5, ![1, 2048, 1, 2, 32]⟩

abbrev nBuf : Space → Nat
  | .hbm => 64
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x20480, .f32⟩
  | .hbm, ⟨2, _⟩ => ⟨S16384x4096, .f32⟩
  | .hbm, ⟨3, _⟩ => ⟨S4096x20480, .f32⟩
  | .hbm, ⟨4, _⟩ => ⟨S16384x20480, .f32⟩
  | .hbm, ⟨5, _⟩ => ⟨S16384x4096, .f32⟩
  | .hbm, ⟨6, _⟩ => ⟨S8x2048x32x128, .f32⟩
  | .hbm, ⟨7, _⟩ => ⟨S32, .i32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S64, .i32⟩
  | .hbm, ⟨12, _⟩ => ⟨S1x64, .i32⟩
  | .hbm, ⟨13, _⟩ => ⟨S32x64, .i32⟩
  | .hbm, ⟨14, _⟩ => ⟨S2048, .i32⟩
  | .hbm, ⟨15, _⟩ => ⟨S2048, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x1, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S8x2048x32x2x2x32, .f32⟩
  | .hbm, ⟨38, _⟩ => ⟨S8x2048x32x2x1x32, .f32⟩
  | .hbm, ⟨39, _⟩ => ⟨S8x2048x32x2x32, .f32⟩
  | .hbm, ⟨40, _⟩ => ⟨S8x2048x32x2x1x32, .f32⟩
  | .hbm, ⟨41, _⟩ => ⟨S8x2048x32x2x32, .f32⟩
  | .hbm, ⟨42, _⟩ => ⟨S2048x1x2x32, .f32⟩
  | .hbm, ⟨43, _⟩ => ⟨S2048x1x2x32, .f32⟩
  | .hbm, ⟨44, _⟩ => ⟨S1x2048x1x2x32, .f32⟩
  | .hbm, ⟨45, _⟩ => ⟨S8x2048x32x2x32, .f32⟩
  | .hbm, ⟨46, _⟩ => ⟨S8x2048x32x2x32, .f32⟩
  | .hbm, ⟨47, _⟩ => ⟨S1x2048x1x2x32, .f32⟩
  | .hbm, ⟨48, _⟩ => ⟨S8x2048x32x2x32, .f32⟩
  | .hbm, ⟨49, _⟩ => ⟨S8x2048x32x2x32, .f32⟩
  | .hbm, ⟨50, _⟩ => ⟨S8x2048x32x2x32, .f32⟩
  | .hbm, ⟨51, _⟩ => ⟨S1x2048x1x2x32, .f32⟩
  | .hbm, ⟨52, _⟩ => ⟨S8x2048x32x2x32, .f32⟩
  | .hbm, ⟨53, _⟩ => ⟨S8x2048x32x2x32, .f32⟩
  | .hbm, ⟨54, _⟩ => ⟨S1x2048x1x2x32, .f32⟩
  | .hbm, ⟨55, _⟩ => ⟨S8x2048x32x2x32, .f32⟩
  | .hbm, ⟨56, _⟩ => ⟨S8x2048x32x2x32, .f32⟩
  | .hbm, ⟨57, _⟩ => ⟨S8x2048x32x2x32, .f32⟩
  | .hbm, ⟨58, _⟩ => ⟨S8x2048x32x2x1x32, .f32⟩
  | .hbm, ⟨59, _⟩ => ⟨S8x2048x32x2x1x32, .f32⟩
  | .hbm, ⟨60, _⟩ => ⟨S8x2048x32x2x2x32, .f32⟩
  | .hbm, ⟨61, _⟩ => ⟨S8x2048x32x128, .f32⟩
  | .hbm, ⟨62, _⟩ => ⟨S16384x4096, .f32⟩
  | .hbm, ⟨63, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩

abbrev nD : Nat := 1
abbrev τ : Topo := Topo.v7x

variable {F : FTy → Type} [FloatOps F]
-- ==== KernelNorm.lean ====
abbrev S16384x4096 : Shape := ⟨2, ![16384, 4096]⟩
abbrev S1x4096 : Shape := ⟨2, ![1, 4096]⟩
abbrev S1x6x4096 : Shape := ⟨3, ![1, 6, 4096]⟩
abbrev S8x6x4096 : Shape := ⟨3, ![8, 6, 4096]⟩
abbrev S4096 : Shape := ⟨1, ![4096]⟩
abbrev S_ : Shape := ⟨0, ![]⟩
abbrev S7x6x4096 : Shape := ⟨3, ![7, 6, 4096]⟩
abbrev S16x6x4096 : Shape := ⟨3, ![16, 6, 4096]⟩
abbrev S256x4096 : Shape := ⟨2, ![256, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 10
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x6x4096, .f32⟩
  | .hbm, ⟨3, _⟩ => ⟨S8x6x4096, .f32⟩
  | .hbm, ⟨4, _⟩ => ⟨S4096, .f32⟩
  | .hbm, ⟨5, _⟩ => ⟨S1x4096, .f32⟩
  | .hbm, ⟨6, _⟩ => ⟨S_, .f32⟩
  | .hbm, ⟨7, _⟩ => ⟨S7x6x4096, .f32⟩
  | .hbm, ⟨8, _⟩ => ⟨S16x6x4096, .f32⟩
  | .hbm, ⟨9, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S256x4096, .bf16⟩
  | .local _ .vmem, ⟨6, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceNormIdeal.lean ====
abbrev S16384x4096 : Shape := ⟨2, ![16384, 4096]⟩
abbrev S1x4096 : Shape := ⟨2, ![1, 4096]⟩
abbrev S1x6x4096 : Shape := ⟨3, ![1, 6, 4096]⟩
abbrev S8x6x4096 : Shape := ⟨3, ![8, 6, 4096]⟩
abbrev S8x2048x4096 : Shape := ⟨3, ![8, 2048, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S8x1x4096 : Shape := ⟨3, ![8, 1, 4096]⟩
abbrev S8x4096 : Shape := ⟨2, ![8, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x6x4096, .f32⟩
  | .hbm, ⟨3, _⟩ => ⟨S8x6x4096, .f32⟩
  | .hbm, ⟨4, _⟩ => ⟨S8x2048x4096, .f32⟩
  | .hbm, ⟨5, _⟩ => ⟨S4096, .f32⟩
  | .hbm, ⟨6, _⟩ => ⟨S8x2048x4096, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x4096, .f32⟩
  | .hbm, ⟨18, _⟩ => ⟨S8x2048x4096, .f32⟩
  | .hbm, ⟨19, _⟩ => ⟨S1x1x4096, .f32⟩
  | .hbm, ⟨20, _⟩ => ⟨S8x2048x4096, .f32⟩
  | .hbm, ⟨21, _⟩ => ⟨S8x2048x4096, .f32⟩
  | .hbm, ⟨22, _⟩ => ⟨S8x1x4096, .f32⟩
  | .hbm, ⟨23, _⟩ => ⟨S8x4096, .f32⟩
  | .hbm, ⟨24, _⟩ => ⟨S8x1x4096, .f32⟩
  | .hbm, ⟨25, _⟩ => ⟨S_, .f32⟩
  | .hbm, ⟨26, _⟩ => ⟨S8x1x4096, .f32⟩
  | .hbm, ⟨27, _⟩ => ⟨S8x1x4096, .f32⟩
  | .hbm, ⟨28, _⟩ => ⟨S8x2048x4096, .f32⟩
  | .hbm, ⟨29, _⟩ => ⟨S8x2048x4096, .f32⟩
  | .hbm, ⟨30, _⟩ => ⟨S8x1x4096, .f32⟩
  | .hbm, ⟨31, _⟩ => ⟨S8x4096, .f32⟩
  | .hbm, ⟨32, _⟩ => ⟨S8x1x4096, .f32⟩
  | .hbm, ⟨33, _⟩ => ⟨S8x2048x4096, .f32⟩
  | .hbm, ⟨34, _⟩ => ⟨S8x2048x4096, .f32⟩
  | .hbm, ⟨35, _⟩ => ⟨S16384x4096, .f32⟩
  | .hbm, ⟨36, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== KernelMod.lean ====
abbrev S8x4096 : Shape := ⟨2, ![8, 4096]⟩
abbrev S4096 : Shape := ⟨1, ![4096]⟩
abbrev S1x4096x24576 : Shape := ⟨3, ![1, 4096, 24576]⟩
abbrev S1x24576 : Shape := ⟨2, ![1, 24576]⟩
abbrev S1x4096 : Shape := ⟨2, ![1, 4096]⟩
abbrev S_ : Shape := ⟨0, ![]⟩
abbrev S7x4096 : Shape := ⟨2, ![7, 4096]⟩
abbrev S16x4096 : Shape := ⟨2, ![16, 4096]⟩
abbrev S4096x24576 : Shape := ⟨2, ![4096, 24576]⟩
abbrev S24576 : Shape := ⟨1, ![24576]⟩
abbrev S16x24576 : Shape := ⟨2, ![16, 24576]⟩
abbrev S4096x512 : Shape := ⟨2, ![4096, 512]⟩
abbrev S1x512 : Shape := ⟨2, ![1, 512]⟩
abbrev S16x512 : Shape := ⟨2, ![16, 512]⟩

abbrev nBuf : Space → Nat
  | .hbm => 12
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4096, .f32⟩
  | .hbm, ⟨2, _⟩ => ⟨S1x4096x24576, .f32⟩
  | .hbm, ⟨3, _⟩ => ⟨S1x24576, .f32⟩
  | .hbm, ⟨4, _⟩ => ⟨S1x4096, .f32⟩
  | .hbm, ⟨5, _⟩ => ⟨S_, .f32⟩
  | .hbm, ⟨6, _⟩ => ⟨S7x4096, .f32⟩
  | .hbm, ⟨7, _⟩ => ⟨S16x4096, .f32⟩
  | .hbm, ⟨8, _⟩ => ⟨S4096x24576, .f32⟩
  | .hbm, ⟨9, _⟩ => ⟨S24576, .f32⟩
  | .hbm, ⟨10, _⟩ => ⟨S1x24576, .f32⟩
  | .hbm, ⟨11, _⟩ => ⟨S16x24576, .f32⟩
  | .local _ .vmem, ⟨0, _⟩ => ⟨S16x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModIdeal.lean ====
abbrev S8x4096 : Shape := ⟨2, ![8, 4096]⟩
abbrev S4096 : Shape := ⟨1, ![4096]⟩
abbrev S1x4096x24576 : Shape := ⟨3, ![1, 4096, 24576]⟩
abbrev S1x24576 : Shape := ⟨2, ![1, 24576]⟩
abbrev S1x4096 : Shape := ⟨2, ![1, 4096]⟩
abbrev S_ : Shape := ⟨0, ![]⟩
abbrev S4096x24576 : Shape := ⟨2, ![4096, 24576]⟩
abbrev S24576 : Shape := ⟨1, ![24576]⟩
abbrev S8x24576 : Shape := ⟨2, ![8, 24576]⟩
abbrev S7x4096 : Shape := ⟨2, ![7, 4096]⟩
abbrev S7x24576 : Shape := ⟨2, ![7, 24576]⟩
abbrev S16x24576 : Shape := ⟨2, ![16, 24576]⟩

abbrev nBuf : Space → Nat
  | .hbm => 52
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096, .f32⟩
  | .hbm, ⟨2, _⟩ => ⟨S1x4096x24576, .f32⟩
  | .hbm, ⟨3, _⟩ => ⟨S1x24576, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S4096x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S1x24576, .f32⟩
  | .hbm, ⟨19, _⟩ => ⟨S8x4096, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S8x4096, .f32⟩
  | .hbm, ⟨28, _⟩ => ⟨S4096x24576, .f32⟩
  | .hbm, ⟨29, _⟩ => ⟨S8x24576, .f32⟩
  | .hbm, ⟨30, _⟩ => ⟨S24576, .f32⟩
  | .hbm, ⟨31, _⟩ => ⟨S1x24576, .f32⟩
  | .hbm, ⟨32, _⟩ => ⟨S8x24576, .f32⟩
  | .hbm, ⟨33, _⟩ => ⟨S8x24576, .f32⟩
  | .hbm, ⟨34, _⟩ => ⟨S_, .f32⟩
  | .hbm, ⟨35, _⟩ => ⟨S7x4096, .f32⟩
  | .hbm, ⟨36, _⟩ => ⟨S7x4096, .f32⟩
  | .hbm, ⟨37, _⟩ => ⟨S7x4096, .f32⟩
  | .hbm, ⟨38, _⟩ => ⟨S_, .f32⟩
  | .hbm, ⟨39, _⟩ => ⟨S7x4096, .f32⟩
  | .hbm, ⟨40, _⟩ => ⟨S7x4096, .f32⟩
  | .hbm, ⟨41, _⟩ => ⟨S_, .f32⟩
  | .hbm, ⟨42, _⟩ => ⟨S7x4096, .f32⟩
  | .hbm, ⟨43, _⟩ => ⟨S7x4096, .f32⟩
  | .hbm, ⟨44, _⟩ => ⟨S7x4096, .f32⟩
  | .hbm, ⟨45, _⟩ => ⟨S4096x24576, .f32⟩
  | .hbm, ⟨46, _⟩ => ⟨S7x24576, .f32⟩
  | .hbm, ⟨47, _⟩ => ⟨S24576, .f32⟩
  | .hbm, ⟨48, _⟩ => ⟨S1x24576, .f32⟩
  | .hbm, ⟨49, _⟩ => ⟨S7x24576, .f32⟩
  | .hbm, ⟨50, _⟩ => ⟨S7x24576, .f32⟩
  | .hbm, ⟨51, _⟩ => ⟨S16x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩

abbrev nD : Nat := 1
abbrev τ : Topo := Topo.v7x

variable {F : FTy → Type} [FloatOps F]
-- ==== KernelCtx.lean ====
abbrev S8192x4096 : Shape := ⟨2, ![8192, 4096]⟩
abbrev S8192x1024 : Shape := ⟨2, ![8192, 1024]⟩
abbrev S1x32 : Shape := ⟨2, ![1, 32]⟩
abbrev S32 : Shape := ⟨1, ![32]⟩
abbrev S256x4096 : Shape := ⟨2, ![256, 4096]⟩
abbrev S256x1024 : Shape := ⟨2, ![256, 1024]⟩
abbrev S256x128 : Shape := ⟨2, ![256, 128]⟩
abbrev S1024x128 : Shape := ⟨2, ![1024, 128]⟩
abbrev S1 : Shape := ⟨1, ![1]⟩
abbrev S1x256 : Shape := ⟨2, ![1, 256]⟩
abbrev S1x1024 : Shape := ⟨2, ![1, 1024]⟩
abbrev S1024 : Shape := ⟨1, ![1024]⟩
abbrev S128x1024 : Shape := ⟨2, ![128, 1024]⟩
abbrev S384x1024 : Shape := ⟨2, ![384, 1024]⟩
abbrev S1024x384 : Shape := ⟨2, ![1024, 384]⟩
abbrev S128x128 : Shape := ⟨2, ![128, 128]⟩
abbrev S384x128 : Shape := ⟨2, ![384, 128]⟩
abbrev S384x256 : Shape := ⟨2, ![384, 256]⟩
abbrev S1024x256 : Shape := ⟨2, ![1024, 256]⟩
abbrev S1024x1 : Shape := ⟨2, ![1024, 1]⟩

abbrev nBuf : Space → Nat
  | .hbm => 6
  | .vmem => 8
  | .smem => 1
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S1x32, .f32⟩
  | .hbm, ⟨4, _⟩ => ⟨S32, .f32⟩
  | .hbm, ⟨5, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .smem, ⟨0, _⟩ => ⟨S32, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelCtxIdeal.lean ====
variable {F : FTy → Type} [FloatOps F] [Named F]
def κ : String → Option EReal := fun
  | "log2e" => some (((Real.log 2)⁻¹ : ℝ) : EReal)
  | "scale" => some (((Real.sqrt 128)⁻¹ : ℝ) : EReal)
  | "scale_log2e" => some (((Real.sqrt 128)⁻¹ * (Real.log 2)⁻¹ : ℝ) : EReal)
  | _ => none
-- ==== ReferenceCtxIdeal.lean ====
abbrev S8192x4096 : Shape := ⟨2, ![8192, 4096]⟩
abbrev S8192x1024 : Shape := ⟨2, ![8192, 1024]⟩
abbrev S1x32 : Shape := ⟨2, ![1, 32]⟩
abbrev S32x256x8x4x128 : Shape := ⟨5, ![32, 256, 8, 4, 128]⟩
abbrev S32x256x8x128 : Shape := ⟨4, ![32, 256, 8, 128]⟩
abbrev S32x8x256x256x4 : Shape := ⟨5, ![32, 8, 256, 256, 4]⟩
abbrev S32x8x4x256x256 : Shape := ⟨5, ![32, 8, 4, 256, 256]⟩
abbrev S_ : Shape := ⟨0, ![]⟩
abbrev S32 : Shape := ⟨1, ![32]⟩
abbrev S1x8x4x1x1 : Shape := ⟨5, ![1, 8, 4, 1, 1]⟩
abbrev S32x8x4x256 : Shape := ⟨4, ![32, 8, 4, 256]⟩
abbrev S32x8x4x256x1 : Shape := ⟨5, ![32, 8, 4, 256, 1]⟩
abbrev S32x8x128x4x256 : Shape := ⟨5, ![32, 8, 128, 4, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S1x32, .f32⟩
  | .hbm, ⟨4, _⟩ => ⟨S8192x4096, .f32⟩
  | .hbm, ⟨5, _⟩ => ⟨S32x256x8x4x128, .f32⟩
  | .hbm, ⟨6, _⟩ => ⟨S32x256x8x128, .f32⟩
  | .hbm, ⟨7, _⟩ => ⟨S32x256x8x128, .f32⟩
  | .hbm, ⟨8, _⟩ => ⟨S32x8x256x256x4, .f32⟩
  | .hbm, ⟨9, _⟩ => ⟨S32x8x4x256x256, .f32⟩
  | .hbm, ⟨10, _⟩ => ⟨S_, .f32⟩
  | .hbm, ⟨11, _⟩ => ⟨S_, .f32⟩
  | .hbm, ⟨12, _⟩ => ⟨S32x8x4x256x256, .f32⟩
  | .hbm, ⟨13, _⟩ => ⟨S32x8x4x256x256, .f32⟩
  | .hbm, ⟨14, _⟩ => ⟨S32, .f32⟩
  | .hbm, ⟨15, _⟩ => ⟨S1x8x4x1x1, .f32⟩
  | .hbm, ⟨16, _⟩ => ⟨S_, .f32⟩
  | .hbm, ⟨17, _⟩ => ⟨S32x8x4x256, .f32⟩
  | .hbm, ⟨18, _⟩ => ⟨S32x8x4x256x1, .f32⟩
  | .hbm, ⟨19, _⟩ => ⟨S32x8x4x256x1, .f32⟩
  | .hbm, ⟨20, _⟩ => ⟨S32x8x4x256x1, .f32⟩
  | .hbm, ⟨21, _⟩ => ⟨S32x8x4x256x256, .f32⟩
  | .hbm, ⟨22, _⟩ => ⟨S32x8x4x256x256, .f32⟩
  | .hbm, ⟨23, _⟩ => ⟨S32x8x4x256x256, .f32⟩
  | .hbm, ⟨24, _⟩ => ⟨S_, .f32⟩
  | .hbm, ⟨25, _⟩ => ⟨S32x8x4x256, .f32⟩
  | .hbm, ⟨26, _⟩ => ⟨S32x8x4x256x1, .f32⟩
  | .hbm, ⟨27, _⟩ => ⟨S32x8x4x256x1, .f32⟩
  | .hbm, ⟨28, _⟩ => ⟨S32x8x4x256x1, .f32⟩
  | .hbm, ⟨29, _⟩ => ⟨S32x8x4x256x1, .f32⟩
  | .hbm, ⟨30, _⟩ => ⟨S32x8x4x256x1, .f32⟩
  | .hbm, ⟨31, _⟩ => ⟨S32x8x4x256x256, .f32⟩
  | .hbm, ⟨32, _⟩ => ⟨S32x8x4x256x256, .f32⟩
  | .hbm, ⟨33, _⟩ => ⟨S32x8x128x4x256, .f32⟩
  | .hbm, ⟨34, _⟩ => ⟨S32x256x8x4x128, .f32⟩
  | .hbm, ⟨35, _⟩ => ⟨S8192x4096, .f32⟩
  | .hbm, ⟨36, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.AttnRun.lean ====
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 10 tile its block (32 stores of `S128x128`, checked by the kernel's evaluation: Lib/Ring.lean `Piece.tiledL`, linear in the pieces, through a loop's `@[irreducible]` trip theorem too), so they cover it. -/
theorem cover0_A_10 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) (y : S128x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 S128x128.size (by sl_kernel_rfl) y

/-- What case A leaves in output 10's staging buffer: its pieces read back over junk. -/
def out0_A_10 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) : Vec F S128x4096 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1)

/-- Case A's pieces for scratch `arg13`, which the kernel carries between points, cover it: 1 piece of `S512x1024` tiling it (Lib/Ring.lean `Piece.tiledL`). -/
theorem scover0_A_0 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 S512x1024.size (by sl_kernel_rfl) y

/-- What case A leaves in scratch `arg13`: its pieces read back over junk. -/
def sout0_A_0 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) : Vec F S512x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1)

/-- Case A's pieces for scratch `arg14`, which the kernel carries between points, cover it: 1 piece of `S512x1024` tiling it (Lib/Ring.lean `Piece.tiledL`). -/
theorem scover0_A_1 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1 S512x1024.size (by sl_kernel_rfl) y

/-- What case A leaves in scratch `arg14`: its pieces read back over junk. -/
def sout0_A_1 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) : Vec F S512x1024 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1)

/-- Case B's pieces for output 10 tile its block (32 stores of `S128x128`, checked by the kernel's evaluation: Lib/Ring.lean `Piece.tiledL`, linear in the pieces, through a loop's `@[irreducible]` trip theorem too), so they cover it. -/
theorem cover0_B_10 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : ¬cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) (xs0 : Vec F S512x1024 .bf16) (xs1 : Vec F S512x1024 .bf16) (y : S128x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1 S128x128.size (by sl_kernel_rfl) y

/-- What case B leaves in output 10's staging buffer: its pieces read back over junk. -/
def out0_B_10 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : ¬cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) (xs0 : Vec F S512x1024 .bf16) (xs1 : Vec F S512x1024 .bf16) : Vec F S128x4096 .bf16 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1)

/-- Case B stores nothing into scratch `arg13`: it holds what the point before left. -/
def sout0_B_0 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : ¬cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) (xs0 : Vec F S512x1024 .bf16) (xs1 : Vec F S512x1024 .bf16) : Vec F S512x1024 .bf16 := xs0

/-- Case B stores nothing into scratch `arg14`: it holds what the point before left. -/
def sout0_B_1 (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S128x4096 .bf16) (harg12 : arg12.IsWhole) (arg13 : Memref sig .tc .vmem S512x1024 .bf16) (harg13 : arg13.IsWhole) (arg14 : Memref sig .tc .vmem S512x1024 .bf16) (harg14 : arg14.IsWhole) (hc0 : ¬cond0_0 i)
    (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S1x512x1024 .f32) (x9 : Vec F S1x512x1024 .f32) (xs0 : Vec F S512x1024 .bf16) (xs1 : Vec F S512x1024 .bf16) : Vec F S512x1024 .bf16 := xs1

/-! ## What the outputs hold after each point -/

/-- What a point that begins a batch (`t % 16 = 0`) leaves in the output's staging buffer and in the two scratch buffers. -/
def leftA (c : Dev nD) (t : Fin cfg0.N) (h0 : t.val % 16 = 0) : Vec F S128x4096 .bf16 × Vec F S512x1024 .bf16 × Vec F S512x1024 .bf16 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t))

/-- What any other point leaves there, over scratch contents `xs0` and `xs1`, which it keeps. -/
def leftB (c : Dev nD) (t : Fin cfg0.N) (h0 : ¬t.val % 16 = 0) (xs0 : Vec F S512x1024 .bf16) (xs1 : Vec F S512x1024 .bf16) : Vec F S128x4096 .bf16 × Vec F S512x1024 .bf16 × Vec F S512x1024 .bf16 :=
  (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs0 xs1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs0 xs1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs0 xs1)

/-- What the output's staging buffer and the two scratch buffers hold after the body at position `n`. -/
def outsAt0 (c : Dev nD) : (n : ℕ) → n < cfg0.N → Vec F S128x4096 .bf16 × Vec F S512x1024 .bf16 × Vec F S512x1024 .bf16
  | 0, hn => leftA m c ⟨0, hn⟩ (Nat.zero_mod _)
  | n + 1, hn =>
    if h0 : (n + 1) % 16 = 0 then leftA m c ⟨n + 1, hn⟩ h0
    else leftB m c ⟨n + 1, hn⟩ h0 (outsAt0 c n (Nat.lt_of_succ_lt hn)).2.1 (outsAt0 c n (Nat.lt_of_succ_lt hn)).2.2

/-- `outsAt0` at a point that begins a batch. -/
theorem outsAt0_A (c : Dev nD) (t : Fin cfg0.N) (h0 : t.val % 16 = 0) : outsAt0 m c t.val t.isLt = leftA m c t h0 := by
  obtain ⟨n, hn⟩ := t
  cases n with
  | zero => exact rfl
  | succ n => exact dif_pos h0

/-- `outsAt0` at any other point, over what the point before left. -/
theorem outsAt0_B (c : Dev nD) (t : Fin cfg0.N) (h0 : ¬t.val % 16 = 0) :
    outsAt0 m c t.val t.isLt = leftB m c t h0 (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact absurd (Nat.zero_mod _) h0
  | succ n => exact dif_neg h0

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases hz : t.val = 0
    · rw [PhiS_castSucc m c t, PhiS_zero m c _ _ hz, PhiA0_eq]
      rw [outsAt0_A m c t h0]
      unfold leftA out0_A_10 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold leftA out0_A_10 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexists _; iexact HS1
      iintro ⟨H0, H1, H2, H3, H4, H5, H6, H7, H8, H9, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold leftB out0_B_10 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%e10, H10⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-! ## The final arrays -/

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5) = (dats m 0 c).arrAt 10 cfg0.N :=
  (h c).1 10

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: input window 7 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 7).trans (((dats m 0 c).arrAt_in 7 rfl _).trans ((A_eq m c 7).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post10 m r h c,
      kept_main_arg0 m r h c,
      kept_main_arg1 m r h c,
      kept_main_arg2 m r h c,
      kept_main_arg3 m r h c,
      kept_main_arg4 m r h c,
      kept_main_arg5 m r h c⟩)
    (run_main m ρ)

end Cert.Proof.Attn

end
-- ==== Proof.AttnMath.lean ====
module

public import Idealize.ShloMosaic.PureOps.Ideal.Laws
public import Mathlib.Analysis.SpecialFunctions.Pow.Real

@[expose] public section

noncomputable section

/-! # The softmax with a sink, in base two over raw scores and in base e over scaled scores -/

namespace Cert.Proof.AttnMath
open Idealize.ShloMosaic

/-- A sum of extended reals times a nonnegative real is the sum of the products. -/
theorem sum_mul_coe {K : Type} (A : Finset K) (f : K → EReal) (r : ℝ) (hr : 0 ≤ r) :
    (∑ k ∈ A, f k) * (r : EReal) = ∑ k ∈ A, f k * (r : EReal) := by
  classical
  induction A using Finset.induction_on with
  | empty => simp
  | insert a A ha ih =>
    rw [Finset.sum_insert ha, Finset.sum_insert ha,
      EReal.right_distrib_of_nonneg_of_ne_top (EReal.coe_nonneg.2 hr) (EReal.coe_ne_top r), ih]

/-- A sum of coerced reals is the coerced sum. -/
theorem sum_coe {K : Type} (A : Finset K) (w : K → ℝ) : ∑ k ∈ A, ((w k : ℝ) : EReal) = ((∑ k ∈ A, w k : ℝ) : EReal) := by
  classical
  induction A using Finset.induction_on with
  | empty => simp
  | insert a A ha ih => rw [Finset.sum_insert ha, Finset.sum_insert ha, ih, EReal.coe_add]

/-- The scale `1 / √128`. -/
abbrev sc : ℝ := (Real.sqrt 128)⁻¹

theorem sc_pos : 0 < sc := inv_pos.2 (Real.sqrt_pos.2 (by norm_num))

/-- A score, scaled and shifted in units of `log 2` and raised as a power of two, is the exponential of the scaled and shifted score. -/
theorem exp2_coe_eq (a m : ℝ) :
    Ideal.exp2 ((a : EReal) * ((sc * (Real.log 2)⁻¹ : ℝ) : EReal) - (m : EReal) * (((Real.log 2)⁻¹ : ℝ) : EReal))
      = ((Real.exp (a * sc - m) : ℝ) : EReal) := by
  rw [← EReal.coe_mul, ← EReal.coe_mul, ← EReal.coe_sub, Ideal.exp2_coe]
  refine congrArg _ ?_
  show (2 : ℝ) ^ (_ : ℝ) = _
  rw [Real.rpow_def_of_pos (by norm_num)]
  congr 1
  have : Real.log 2 ≠ 0 := (Real.log_pos (by norm_num)).ne'
  field_simp

/-- A masked score has weight zero. -/
theorem exp2_bot_eq (m : ℝ) :
    Ideal.exp2 ((⊥ : EReal) * ((sc * (Real.log 2)⁻¹ : ℝ) : EReal) - (m : EReal) * (((Real.log 2)⁻¹ : ℝ) : EReal)) = 0 := by
  have h : 0 < sc * (Real.log 2)⁻¹ := mul_pos sc_pos (inv_pos.2 (Real.log_pos (by norm_num)))
  rw [EReal.bot_mul_coe_of_pos h, ← EReal.coe_mul, sub_eq_add_neg, EReal.bot_add, Ideal.exp2_bot]

/-- **The equation.** `S` are the raw scores the kernel holds (`⊥` where masked), `s` the reference's scaled and masked scores; `f` takes each
    unmasked slot of the kernel to the reference's key, one to one and onto the reference's unmasked keys. The quotient of the two sums of powers of
    two is the sum of the normalized exponentials times the values. -/
theorem softmax_eq {K T : Type} [Fintype K] [Fintype T] (S v : K → EReal) (s val : T → EReal) (σ : ℝ) (f : K → T) (ok : K → Prop)
    (hS : ∀ k, ok k → ∃ a : ℝ, S k = a) (hbot : ∀ k, ¬ ok k → S k = ⊥)
    (hs : ∀ k, ok k → s (f k) = S k * (sc : EReal)) (hv : ∀ k, ok k → val (f k) = v k)
    (hinj : ∀ k k', ok k → ok k' → f k = f k' → k = k') (hoff : ∀ t, (¬ ∃ k, ok k ∧ f k = t) → s t = ⊥) :
    Ideal.div
      (∑ k, Ideal.exp2 (S k * ((sc * (Real.log 2)⁻¹ : ℝ) : EReal)
        - max (Finset.univ.fold max ⊥ S * (sc : EReal)) (σ : EReal) * (((Real.log 2)⁻¹ : ℝ) : EReal)) * v k)
      ((∑ k, Ideal.exp2 (S k * ((sc * (Real.log 2)⁻¹ : ℝ) : EReal)
        - max (Finset.univ.fold max ⊥ S * (sc : EReal)) (σ : EReal) * (((Real.log 2)⁻¹ : ℝ) : EReal)))
        + Ideal.exp ((σ : EReal) - max (Finset.univ.fold max ⊥ S * (sc : EReal)) (σ : EReal)))
    = ∑ t, Ideal.div (Ideal.exp (s t - max (Finset.univ.fold max ⊥ s) (σ : EReal)))
        ((∑ t', Ideal.exp (s t' - max (Finset.univ.fold max ⊥ s) (σ : EReal)))
          + Ideal.exp ((σ : EReal) - max (Finset.univ.fold max ⊥ s) (σ : EReal))) * val t := by
  classical
  -- the kernel's slots read as optional reals
  have hS' : ∀ k, S k = ⊥ ∨ ∃ a : ℝ, S k = a := fun k => by
    by_cases h : ok k
    · exact Or.inr (hS k h)
    · exact Or.inl (hbot k h)
  have hsup : Finset.univ.fold max ⊥ S = Finset.univ.sup S := rfl
  have hsup' : Finset.univ.fold max ⊥ s = Finset.univ.sup s := rfl
  have hbm : (⊥ : EReal) * (sc : EReal) = ⊥ := EReal.bot_mul_coe_of_pos sc_pos
  -- the greatest raw score is masked or real
  have hmax : Finset.univ.sup S = ⊥ ∨ ∃ k, ok k ∧ S k = Finset.univ.sup S := by
    rcases isEmpty_or_nonempty K with hK | hK
    · left; rw [Finset.univ_eq_empty, Finset.sup_empty]
    · obtain ⟨k, -, hk⟩ := Finset.exists_mem_eq_sup Finset.univ Finset.univ_nonempty S
      by_cases h : ok k
      · exact Or.inr ⟨k, h, hk.symm⟩
      · left; rw [hk, hbot k h]
  have hM : Finset.univ.sup s = Finset.univ.sup S * (sc : EReal) := by
    apply le_antisymm
    · refine Finset.sup_le fun t _ => ?_
      by_cases h : ∃ k, ok k ∧ f k = t
      · obtain ⟨k, hk, rfl⟩ := h
        rw [hs k hk]
        exact mul_le_mul_of_nonneg_right (Finset.le_sup (f := S) (Finset.mem_univ k)) (EReal.coe_nonneg.2 sc_pos.le)
      · rw [hoff t h]; exact bot_le
    · rcases hmax with h | ⟨k, hk, h⟩
      · rw [h, hbm]; exact bot_le
      · rw [← h, ← hs k hk]; exact Finset.le_sup (f := s) (Finset.mem_univ (f k))
  rw [hsup, hsup', hM]
  obtain ⟨m, hm⟩ : ∃ m : ℝ, max (Finset.univ.sup S * (sc : EReal)) (σ : EReal) = m := by
    rcases hmax with h | ⟨k, hk, h⟩
    · exact ⟨σ, by rw [h, hbm]; exact max_eq_right bot_le⟩
    · obtain ⟨a, ha⟩ := hS k hk
      exact ⟨max (a * sc) σ, by rw [← h, ha, ← EReal.coe_mul]; exact (EReal.coe_strictMono.monotone.map_max).symm⟩
  rw [hm]
  -- the weights
  let w : K → ℝ := fun k => if ok k then Real.exp ((S k).toReal * sc - m) else 0
  have hw : ∀ k, Ideal.exp2 (S k * ((sc * (Real.log 2)⁻¹ : ℝ) : EReal) - (m : EReal) * (((Real.log 2)⁻¹ : ℝ) : EReal)) = (w k : EReal) := by
    intro k
    by_cases h : ok k
    · obtain ⟨a, ha⟩ := hS k h
      simp only [w, if_pos h, ha, EReal.toReal_coe, exp2_coe_eq]
    · simp only [w, if_neg h, hbot k h, exp2_bot_eq, EReal.coe_zero]
  have hr : ∀ k, ok k → Ideal.exp (s (f k) - (m : EReal)) = (w k : EReal) := by
    intro k h
    obtain ⟨a, ha⟩ := hS k h
    rw [hs k h]
    simp only [w, if_pos h, ha, EReal.toReal_coe]
    rw [← EReal.coe_mul, ← EReal.coe_sub, Ideal.exp_coe]
  have hr0 : ∀ t, (¬ ∃ k, ok k ∧ f k = t) → Ideal.exp (s t - (m : EReal)) = 0 := by
    intro t h
    rw [hoff t h, sub_eq_add_neg, EReal.bot_add, Ideal.exp_bot]
  have hw0 : ∀ k, 0 ≤ w k := fun k => by
    by_cases h : ok k
    · simp only [w, if_pos h]; exact (Real.exp_pos _).le
    · simp only [w, if_neg h]; exact le_rfl
  -- sums over the reference's keys are sums over the kernel's slots
  have hsum : ∀ (g : T → EReal) (g' : K → EReal), (∀ k, ok k → g (f k) = g' k) → (∀ k, ¬ ok k → g' k = 0) →
      (∀ t, (¬ ∃ k, ok k ∧ f k = t) → g t = 0) → ∑ t, g t = ∑ k, g' k := by
    intro g g' h1 h2 h3
    symm
    rw [← Finset.sum_filter_add_sum_filter_not Finset.univ ok g',
      Finset.sum_eq_zero (s := Finset.univ.filter fun k => ¬ ok k) (fun k hk => h2 k (Finset.mem_filter.1 hk).2), add_zero]
    rw [← Finset.sum_filter_add_sum_filter_not Finset.univ (fun t => ∃ k, ok k ∧ f k = t) g,
      Finset.sum_eq_zero (s := Finset.univ.filter fun t => ¬ ∃ k, ok k ∧ f k = t) (fun t ht => h3 t (Finset.mem_filter.1 ht).2), add_zero]
    refine Finset.sum_bij (fun k _ => f k) (fun k hk => Finset.mem_filter.2 ⟨Finset.mem_univ _, k, (Finset.mem_filter.1 hk).2, rfl⟩)
      (fun k hk k' hk' h => hinj k k' (Finset.mem_filter.1 hk).2 (Finset.mem_filter.1 hk').2 h)
      (fun t ht => ?_) (fun k hk => (h1 k (Finset.mem_filter.1 hk).2).symm)
    obtain ⟨k, hk, hkt⟩ := (Finset.mem_filter.1 ht).2
    exact ⟨k, Finset.mem_filter.2 ⟨Finset.mem_univ _, hk⟩, hkt⟩
  have hwz : ∀ k, ¬ ok k → w k = 0 := fun k h => by simp only [w, if_neg h]
  have hden : ∑ t, Ideal.exp (s t - (m : EReal)) = ((∑ k, w k : ℝ) : EReal) := by
    rw [hsum _ (fun k => (w k : EReal)) hr (fun k h => by rw [hwz k h, EReal.coe_zero]) hr0, sum_coe]
  simp only [hw]
  rw [hden, sum_coe, ← EReal.coe_sub, Ideal.exp_coe, ← EReal.coe_add]
  have hD : 0 < (∑ k, w k) + Real.exp (σ - m) := add_pos_of_nonneg_of_pos (Finset.sum_nonneg fun k _ => hw0 k) (Real.exp_pos _)
  simp only [Ideal.div_coe hD.ne']
  rw [sum_mul_coe _ _ _ (one_div_nonneg.2 hD.le)]
  rw [hsum _ (fun k => (w k : EReal) * v k * ((1 / ((∑ k, w k) + Real.exp (σ - m)) : ℝ) : EReal))]
  · intro k h
    rw [hr k h, hv k h, mul_assoc, mul_assoc, mul_comm (v k)]
  · intro k h
    rw [hwz k h, EReal.coe_zero, zero_mul, zero_mul]
  · intro t h
    rw [hr0 t h, zero_mul, zero_mul]

end Cert.Proof.AttnMath
-- ==== Proof.AttnRef.lean ====
module

public import proofs.«01_k».proof.Proof.Gen.ReferenceIdeal.Run
public import Idealize.ShloMosaic.Lib.Pointwise
public import Idealize.ShloMosaic.Lib.KernelVsHost
public import Idealize.ShloMosaic.Lib.Pipeline.ValueKit

@[expose] public section

set_option maxRecDepth 16384
noncomputable section

/-! # The reference's attention, read at an index -/

namespace Cert.Proof.AttnRef
open Cert.ReferenceIdeal Cert.ReferenceIdeal.Gen Cert.ReferenceIdeal.Value Idealize.ShloMosaic Idealize.ShloMosaic.TcCoe Idealize.SL.Sem

section
variable {F : FTy → Type} [FloatOps F] [Named F]

/-- The new and the cached keys (or values) of each batch, one after the other. -/
def refKeys (k : FVec F S16384x1024 .bf16) (ck : FVec F S8x1x512x8x128 .f32) : FVec F S8x2560x8x128 .f32 :=
  concatenate S8x2560x8x128 1 [⟨S8x2048x8x128, (shapeCast S8x2048x8x128 (extf .f32 k bitsLt_bf16_f32) shapeCasts_S16384x1024_S8x2048x8x128)⟩, ⟨S8x512x8x128, (shapeCast S8x512x8x128 ck shapeCasts_S8x1x512x8x128_S8x512x8x128)⟩] concatenates_S8x2048x8x128_S8x512x8x128_S8x2560x8x128_d1

/-- Which keys a query sees: the new ones within the window, and all cached ones. -/
def refMask : IVec S2048x2560 1 :=
  concatenate S2048x2560 1 [⟨S2048x2048, (cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32)))⟩, ⟨S2048x512, (broadcastInDim S2048x512 ![] bcast_S_S2048x512 (constantI S_ 1 1#1))⟩] concatenates_S2048x2048_S2048x512_S2048x2560_d1

/-- The masked scaled scores. -/
def refScores (q : FVec F S16384x4096 .bf16) (k : FVec F S16384x1024 .bf16) (ck : FVec F S8x1x512x8x128 .f32) : FVec F S8x8x4x2048x2560 .f32 :=
  select (broadcastInDim S8x8x4x2048x2560 ![3, 4] bcast_S2048x2560_S8x8x4x2048x2560_3_4 refMask)
    (Host.divf (transpose S8x8x4x2048x2560 [0, 1, 4, 3, 2] (Host.dotGeneral dot_S8x2560x8x128_S8x2048x8x4x128_S8x8x2560x2048x4_3_4_1_13_02_02 none (refKeys k ck) (shapeCast S8x2048x8x4x128 (extf .f32 q bitsLt_bf16_f32) shapeCasts_S16384x4096_S8x2048x8x4x128)) transposes_S8x8x2560x2048x4_S8x8x4x2048x2560_0_1_4_3_2) (broadcastInDim S8x8x4x2048x2560 ![] bcast_S_S8x8x4x2048x2560 (Host.sqrt (constant S_ .f32 0x43000000#32))))
    (broadcastInDim S8x8x4x2048x2560 ![] bcast_S_S8x8x4x2048x2560 (id (constant S_ .f32 0xFF800000#32)))

/-- The sinks, one per query head, over the batches and the queries. -/
def refSink (sk : FVec F S1x32 .f32) : FVec F S8x8x4x2048x1 .f32 :=
  broadcastInDim S8x8x4x2048x1 ![0, 1, 2, 3, 4] bcast_S1x8x4x1x1_S8x8x4x2048x1_0_1_2_3_4 (shapeCast S1x8x4x1x1 (shapeCast S32 sk shapeCasts_S1x32_S32) shapeCasts_S32_S1x8x4x1x1)

/-- The greatest of a query's scores. -/
def refRowMax (s : FVec F S8x8x4x2048x2560 .f32) : FVec F S8x8x4x2048 .f32 :=
  Host.reduce FloatOps.maximumf s (constant S_ .f32 0xFF800000#32) reducesTo_S8x8x4x2048x2560_S8x8x4x2048_d4 h_S_

/-- The greatest of a query's scores and its sink. -/
def refMax (s : FVec F S8x8x4x2048x2560 .f32) (sk : FVec F S1x32 .f32) : FVec F S8x8x4x2048x1 .f32 :=
  maximumf (broadcastInDim S8x8x4x2048x1 ![0, 1, 2, 3] bcast_S8x8x4x2048_S8x8x4x2048x1_0_1_2_3 (refRowMax s)) (refSink sk)

/-- The exponentials. -/
def refExp (s : FVec F S8x8x4x2048x2560 .f32) (M : FVec F S8x8x4x2048x1 .f32) : FVec F S8x8x4x2048x2560 .f32 :=
  Host.exp (subf s (broadcastInDim S8x8x4x2048x2560 ![0, 1, 2, 3, 4] bcast_S8x8x4x2048x1_S8x8x4x2048x2560_0_1_2_3_4 M))

/-- The normalized exponentials: over their sum and the sink's exponential. -/
def refProbs (E : FVec F S8x8x4x2048x2560 .f32) (M : FVec F S8x8x4x2048x1 .f32) (sk : FVec F S1x32 .f32) : FVec F S8x8x4x2048x2560 .f32 :=
  Host.divf E (broadcastInDim S8x8x4x2048x2560 ![0, 1, 2, 3, 4] bcast_S8x8x4x2048x1_S8x8x4x2048x2560_0_1_2_3_4 (addf (broadcastInDim S8x8x4x2048x1 ![0, 1, 2, 3] bcast_S8x8x4x2048_S8x8x4x2048x1_0_1_2_3 (Host.reduceAdd E (constant S_ .f32 0x00000000#32) reducesTo_S8x8x4x2048x2560_S8x8x4x2048_d4 h_S_)) (Host.exp (subf (refSink sk) M))))

/-- The probabilities against the values, in the layout of the result. -/
def refMix (p : FVec F S8x8x4x2048x2560 .f32) (v : FVec F S8x2560x8x128 .f32) : FVec F S16384x4096 .bf16 :=
  truncf .bf16 (shapeCast S16384x4096 (transpose S8x2048x8x4x128 [0, 4, 1, 3, 2] (Host.dotGeneral dot_S8x2560x8x128_S8x8x4x2048x2560_S8x8x128x4x2048_1_4_3_23_02_01 none v p) transposes_S8x8x128x4x2048_S8x2048x8x4x128_0_4_1_3_2) shapeCasts_S8x2048x8x4x128_S16384x4096) bitsLt_bf16_f32

/-- The whole reference as a function of its arguments. -/
def refOut (q : FVec F S16384x4096 .bf16) (k v : FVec F S16384x1024 .bf16) (ck cv : FVec F S8x1x512x8x128 .f32) (sk : FVec F S1x32 .f32) : FVec F S16384x4096 .bf16 :=
  refMix (refProbs (refExp (refScores q k ck) (refMax (refScores q k ck) sk)) (refMax (refScores q k ck) sk) sk) (refKeys v cv)

/-- The reference's result is that function of the argument arrays. -/
theorem res_eq (m : (ℓ : Loc nD τ sig) → Buf (Elt F) ℓ) (c : Dev nD) : res_main_v48 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rfl

end

theorem ofBits_neg_inf : Ideal.ofBits .f32 0xFF800000#32 = ⊥ := by simp [Ideal.ofBits, Ideal.ieee]

theorem ofBits_128 : Ideal.ofBits .f32 0x43000000#32 = ((128 : ℝ) : EReal) := by
  simp [Ideal.ofBits, Ideal.ieee, -EReal.coe_mul]
  norm_num

/-- The divisor is the square root of 128. -/
theorem sqrt_128 : Ideal.sqrt (Ideal.ofBits .f32 0x43000000#32) = ((Real.sqrt 128 : ℝ) : EReal) := by
  rw [ofBits_128, Ideal.sqrt_coe, if_neg (by norm_num)]

theorem refKeys_apply (k : FVec Ideal S16384x1024 .bf16) (ck : FVec Ideal S8x1x512x8x128 .f32) (b : Fin 8) (t : Fin 2560) (kv : Fin 8) (d : Fin 128) :
    refKeys (F := Ideal) k ck (ix4 b t kv d)
      = if h : t.val < 2048 then k (ix2 ⟨b.val * 2048 + t.val, by omega⟩ ⟨kv.val * 128 + d.val, by omega⟩)
        else ck (ix5 b 0 ⟨t.val - 2048, by omega⟩ kv d) := by
  pointwise [refKeys]

/-- A new key is seen exactly within 128 positions, a cached one always. -/
theorem refMask_apply (i : Fin 2048) (t : Fin 2560) :
    refMask (ix2 i t) = if t.val < 2048 → (t.val ≤ i.val + 128 ∧ i.val ≤ t.val + 128) then 1#1 else 0#1 := by
  have hi := i.isLt
  have ht := t.isLt
  pointwise [refMask]
  by_cases h : t.val < 2048
  · rw [dif_pos h]
    have e : (IntOp.absi (IntOp.subi (BitVec.ofNat 32 i.val) (BitVec.ofNat 32 t.val))).toInt = |(i.val : ℤ) - t.val| := by
      have h0 : ((BitVec.ofNat 32 i.val) - (BitVec.ofNat 32 t.val)).toInt = (i.val : ℤ) - t.val := by
        rw [BitVec.toInt_sub, BitVec.toInt_eq_toNat_bmod, BitVec.toInt_eq_toNat_bmod, BitVec.toNat_ofNat, BitVec.toNat_ofNat]
        simp only [Int.bmod_def]
        omega
      show (if ((BitVec.ofNat 32 i.val) - (BitVec.ofNat 32 t.val)).msb then -((BitVec.ofNat 32 i.val) - (BitVec.ofNat 32 t.val))
        else ((BitVec.ofNat 32 i.val) - (BitVec.ofNat 32 t.val))).toInt = _
      rw [BitVec.msb_eq_toInt, h0]
      by_cases hneg : (i.val : ℤ) - t.val < 0
      · rw [if_pos (by simpa using hneg), BitVec.toInt_neg, h0, abs_of_neg hneg, Int.bmod_def]
        omega
      · rw [if_neg (by simpa using hneg), h0, abs_of_nonneg (not_lt.1 hneg)]
    rw [show ∀ x y : BitVec 32, IntOp.cmpi .sle x y = BitVec.ofBool (decide (x.toInt ≤ y.toInt)) from fun _ _ => rfl, e]
    simp only [h, forall_const]
    by_cases hb : t.val ≤ i.val + 128 ∧ i.val ≤ t.val + 128
    · rw [if_pos hb, decide_eq_true]; · rfl
      rw [abs_le]; simp; omega
    · rw [if_neg hb, decide_eq_false]; · rfl
      rw [abs_le]; simp; omega
  · rw [dif_neg h, if_pos (fun h' => absurd h' h)]

theorem refScores_apply (q : FVec Ideal S16384x4096 .bf16) (k : FVec Ideal S16384x1024 .bf16) (ck : FVec Ideal S8x1x512x8x128 .f32)
    (b kv : Fin 8) (g : Fin 4) (i : Fin 2048) (t : Fin 2560) :
    refScores (F := Ideal) q k ck (ix5 b kv g i t)
      = Scalar.select (refMask (ix2 i t))
          ((∑ x : Fin 128, refKeys k ck (ix4 b t kv x) * q (ix2 ⟨b.val * 2048 + i.val, by omega⟩ ⟨kv.val * 512 + g.val * 128 + x.val, by omega⟩))
            * (((Real.sqrt 128)⁻¹ : ℝ) : EReal)) ⊥ := by
  pointwise [refScores]
  rw [sqrt_128, Ideal.div_coe (by positivity), one_div]
  show Scalar.select _ _ (Ideal.ofBits .f32 0xFF800000#32) = _
  rw [ofBits_neg_inf]

theorem reduces_scores : S8x8x4x2048x2560.Reduces [4] S8x8x4x2048 := by decide

theorem lift_scores (b kv : Fin 8) (g : Fin 4) (i : Fin 2048) (k : Fin 2560) :
    reduces_scores.lift (ix4 b kv g i) k = ix5 b kv g i k := by
  funext a
  match a with
  | ⟨0, _⟩ => rfl
  | ⟨1, _⟩ => rfl
  | ⟨2, _⟩ => rfl
  | ⟨3, _⟩ => rfl
  | ⟨4, _⟩ => rfl

theorem reduceMax_apply (s : FVec Ideal S8x8x4x2048x2560 .f32) (b kv : Fin 8) (g : Fin 4) (i : Fin 2048) :
    refRowMax (F := Ideal) s (ix4 b kv g i)
      = Finset.univ.fold max ⊥ fun x : Fin 2560 => s (ix5 b kv g i x) := by
  unfold refRowMax
  rw [Host.reduce_eq_fold_single FloatOps.maximumf s _ _ reduces_scores]
  rw [← ofBits_neg_inf]
  exact Finset.fold_congr fun x _ => congrArg s (lift_scores b kv g i x)

theorem refSink_apply (sk : FVec Ideal S1x32 .f32) (b kv : Fin 8) (g : Fin 4) (i : Fin 2048) :
    refSink (F := Ideal) sk (ix5 b kv g i 0) = sk (ix2 0 ⟨kv.val * 4 + g.val, by omega⟩) := by
  pointwise [refSink]

theorem max_apply (R : FVec Ideal S8x8x4x2048 .f32) (K : FVec Ideal S8x8x4x2048x1 .f32) (b kv : Fin 8) (g : Fin 4) (i : Fin 2048) :
    maximumf (broadcastInDim S8x8x4x2048x1 ![0, 1, 2, 3] bcast_S8x8x4x2048_S8x8x4x2048x1_0_1_2_3 R) K (ix5 b kv g i 0)
      = max (R (ix4 b kv g i)) (K (ix5 b kv g i 0)) := by
  pointwise []

theorem refMax_apply (s : FVec Ideal S8x8x4x2048x2560 .f32) (sk : FVec Ideal S1x32 .f32) (b kv : Fin 8) (g : Fin 4) (i : Fin 2048) :
    refMax (F := Ideal) s sk (ix5 b kv g i 0)
      = max (Finset.univ.fold max ⊥ fun x : Fin 2560 => s (ix5 b kv g i x)) (sk (ix2 0 ⟨kv.val * 4 + g.val, by omega⟩)) :=
  (max_apply (refRowMax s) (refSink sk) b kv g i).trans
    (congrArg₂ max (reduceMax_apply s b kv g i) (refSink_apply sk b kv g i))

theorem refProbs_apply (s : FVec Ideal S8x8x4x2048x2560 .f32) (M : FVec Ideal S8x8x4x2048x1 .f32) (sk : FVec Ideal S1x32 .f32) (b kv : Fin 8) (g : Fin 4) (i : Fin 2048) (t : Fin 2560) :
    refProbs (F := Ideal) (refExp s M) M sk (ix5 b kv g i t)
      = Ideal.div (Ideal.exp (s (ix5 b kv g i t) - M (ix5 b kv g i 0)))
        ((∑ x : Fin 2560, Ideal.exp (s (ix5 b kv g i x) - M (ix5 b kv g i 0)))
          + Ideal.exp (sk (ix2 0 ⟨kv.val * 4 + g.val, by omega⟩) - M (ix5 b kv g i 0))) := by
  pointwise [refProbs, refExp, refSink]

theorem refMix_apply (p : FVec Ideal S8x8x4x2048x2560 .f32) (v : FVec Ideal S8x2560x8x128 .f32) (r : Fin 16384) (l : Fin 4096) :
    refMix (F := Ideal) p v (ix2 r l)
      = ∑ x : Fin 2560, v (ix4 ⟨r.val / 2048, by omega⟩ x ⟨l.val / 512, by omega⟩ ⟨l.val % 128, by omega⟩)
          * p (ix5 ⟨r.val / 2048, by omega⟩ ⟨l.val / 512, by omega⟩ ⟨l.val / 128 % 4, by omega⟩ ⟨r.val % 2048, by omega⟩ x) := by
  pointwise [refMix]

/-- The reference at an output row and lane: the normalized exponentials of the row's scores against the values. -/
theorem refOut_apply (q : FVec Ideal S16384x4096 .bf16) (k v : FVec Ideal S16384x1024 .bf16) (ck cv : FVec Ideal S8x1x512x8x128 .f32) (sk : FVec Ideal S1x32 .f32)
    (r : Fin 16384) (l : Fin 4096) (b kv : Fin 8) (g : Fin 4) (i : Fin 2048) (d : Fin 128)
    (hr : r.val = b.val * 2048 + i.val) (hl : l.val = kv.val * 512 + g.val * 128 + d.val) :
    refOut (F := Ideal) q k v ck cv sk (ix2 r l)
      = ∑ t : Fin 2560, Ideal.div (Ideal.exp (refScores q k ck (ix5 b kv g i t)
            - max (Finset.univ.fold max ⊥ fun x : Fin 2560 => refScores q k ck (ix5 b kv g i x)) (sk (ix2 0 ⟨kv.val * 4 + g.val, by omega⟩))))
          ((∑ t' : Fin 2560, Ideal.exp (refScores q k ck (ix5 b kv g i t')
            - max (Finset.univ.fold max ⊥ fun x : Fin 2560 => refScores q k ck (ix5 b kv g i x)) (sk (ix2 0 ⟨kv.val * 4 + g.val, by omega⟩))))
            + Ideal.exp (sk (ix2 0 ⟨kv.val * 4 + g.val, by omega⟩)
              - max (Finset.univ.fold max ⊥ fun x : Fin 2560 => refScores q k ck (ix5 b kv g i x)) (sk (ix2 0 ⟨kv.val * 4 + g.val, by omega⟩))))
          * refKeys v cv (ix4 b t kv d) := by
  have e1 : (⟨r.val / 2048, by omega⟩ : Fin 8) = b := Fin.ext (by show r.val / 2048 = b.val; omega)
  have e2 : (⟨l.val / 512, by omega⟩ : Fin 8) = kv := Fin.ext (by show l.val / 512 = kv.val; omega)
  have e3 : (⟨l.val % 128, by omega⟩ : Fin 128) = d := Fin.ext (by show l.val % 128 = d.val; omega)
  have e4 : (⟨l.val / 128 % 4, by omega⟩ : Fin 4) = g := Fin.ext (by show l.val / 128 % 4 = g.val; omega)
  have e5 : (⟨r.val % 2048, by omega⟩ : Fin 2048) = i := Fin.ext (by show r.val % 2048 = i.val; omega)
  unfold refOut
  rw [refMix_apply, e1, e2, e3, e4, e5]
  refine Finset.sum_congr rfl fun t _ => ?_
  rw [refProbs_apply, refMax_apply, mul_comm]

end Cert.Proof.AttnRef
-- ==== Proof.AttnHead.lean ====
module

public import proofs.«01_k».proof.Proof.AttnRun
public import proofs.«01_k».proof.Proof.AttnMath
public import proofs.«01_k».proof.Proof.AttnRef
public import Idealize.ShloMosaic.Lib.Pointwise
public import Idealize.ShloMosaic.Lib.Pipeline.ValueKit

@[expose] public section

set_option maxRecDepth 16384
noncomputable section

namespace Cert.Proof.Attn
open Cert.KernelIdeal Cert.KernelIdeal.Gen Idealize.ShloMosaic Idealize.ShloMosaic.TcCoe Idealize.SL.Sem
open Idealize.ShloMosaic.Pipeline (Dat)

section
variable {F : FTy → Type} [FloatOps F] [Named F]

/-- What one key/value head's part of the body computes, as a function of the mask, the four query tiles, the four sinks, the three key tiles, the
    three value tiles and the two tiles of cached keys and values: the 512 rows (four query heads of 128 queries) of attention outputs. -/
def headOut (mk : IVec S384x512 1) (q0 q1 q2 q3 : FVec F S128x128 .bf16) (s0 s1 s2 s3 : Elt F .f32)
    (k0 k1 k2 v0 v1 v2 : FVec F S128x128 .bf16) (kx vx : FVec F S512x128 .bf16) : FVec F S512x128 .f32 :=
  k0_pay22 (k0_pay14 (k0_pay10 s0) (k0_pay11 s1) (k0_pay12 s2) (k0_pay13 s3)) (k0_pay15 v0 v1 v2) vx
    (k0_pay18 mk (k0_pay9 q0 q1 q2 q3) (k0_pay10 s0) (k0_pay11 s1) (k0_pay12 s2) (k0_pay13 s3) k0 k1 k2 kx)
    (k0_pay20 mk (k0_pay9 q0 q1 q2 q3) (k0_pay10 s0) (k0_pay11 s1) (k0_pay12 s2) (k0_pay13 s3) k0 k1 k2 kx)
    (k0_pay21 mk (k0_pay9 q0 q1 q2 q3) (k0_pay10 s0) (k0_pay11 s1) (k0_pay12 s2) (k0_pay13 s3) k0 k1 k2 kx)

end

/-- A sum over the 1024 stacked rows is the sum over the 384 band rows, the 512 cached rows and the 128 rows of the sink. -/
theorem sum_1024 (f : Fin 1024 → EReal) : ∑ x, f x = (∑ c : Fin 384, f ⟨c.val, by omega⟩)
    + ((∑ x : Fin 512, f ⟨x.val + 384, by omega⟩) + ∑ z : Fin 128, f ⟨z.val + 896, by omega⟩) := by
  rw [Fin.sum_univ_add (a := 384) (b := 640) f, Fin.sum_univ_add (a := 512) (b := 128) (fun i => f (Fin.natAdd 384 i))]
  refine congrArg₂ (· + ·) rfl (congrArg₂ (· + ·) (Finset.sum_congr rfl fun x _ => congrArg f (Fin.ext ?_))
    (Finset.sum_congr rfl fun z _ => congrArg f (Fin.ext ?_)))
  · show 384 + x.val = x.val + 384; omega
  · show 384 + (512 + z.val) = z.val + 896; omega

/-- The word 1 converted to a float is one. -/
theorem sitofp_one : (FloatOps.sitofp FTy.f32 (BitVec.setWidth 32 1#1) : Ideal .f32) = (1 : EReal) := by
  show ((((BitVec.setWidth 32 1#1).toInt : ℝ)) : EReal) = 1
  norm_num

/-- The sum over the 128 rows of the sink: only its first row is not zero. -/
theorem sum_sink (e : EReal) : (∑ z : Fin 128, Scalar.select (IntOp.cmpi .eq (BitVec.ofNat 32 z.val) 0#32) e (0 : EReal)) = e := by
  rw [Fin.sum_univ_succ, Finset.sum_eq_zero, add_zero]
  · rfl
  · intro z _
    have h : (BitVec.ofNat 32 (Fin.succ z).val == 0#32) = false := by
      rw [beq_eq_false_iff_ne]
      intro h
      have := congrArg BitVec.toNat h
      have hz := z.isLt
      simp at this
      omega
    show Scalar.select (BitVec.ofBool (BitVec.ofNat 32 (Fin.succ z).val == 0#32)) e 0 = 0
    rw [h]; rfl

/-- The last step of a head: the weighted sum of the values over the sum of the weights and the sink's. -/
theorem pay22_apply (SK : FVec Ideal S1x512 .f32) (V : FVec Ideal S384x128 .bf16) (vx : FVec Ideal S512x128 .bf16) (M : FVec Ideal S1x512 .f32)
    (P : FVec Ideal S384x512 .bf16) (T : FVec Ideal S512x512 .f32) (r : Fin 512) (d : Fin 128) :
    k0_pay22 (F := Ideal) SK V vx M P T (ix2 r d)
      = Ideal.div ((∑ c : Fin 384, P (ix2 c r) * V (ix2 c d)) + ∑ x : Fin 512, Ideal.exp2 (T (ix2 x r)) * vx (ix2 x d))
          (((∑ c : Fin 384, P (ix2 c r)) + ∑ x : Fin 512, Ideal.exp2 (T (ix2 x r))) + Ideal.exp (SK (ix2 0 r) - M (ix2 0 r))) := by
  pointwise [k0_pay22]
  rw [sum_1024, sum_1024]
  have h1 : ∀ c : Fin 384, c.val < 384 := fun c => c.isLt
  have h2 : ∀ x : Fin 512, ¬ x.val + 384 < 384 := fun x => by omega
  have h3 : ∀ x : Fin 512, x.val + 384 - 384 < 512 := fun x => by omega
  have h4 : ∀ z : Fin 128, ¬ z.val + 896 < 384 := fun z => by omega
  have h5 : ∀ z : Fin 128, ¬ z.val + 896 - 384 < 512 := fun z => by omega
  have h6 : ∀ x : Fin 512, (⟨x.val + 384 - 384, h3 x⟩ : Fin 512) = x := fun x => Fin.ext (by simp)
  have h7 : ∀ z : Fin 128, z.val + 896 - 384 - 512 = z.val := fun z => by omega
  simp only [dif_pos (h1 _), dif_neg (h2 _), dif_pos (h3 _), dif_neg (h4 _), dif_neg (h5 _), sitofp_one, mul_one, mul_zero, Finset.sum_const_zero, add_zero,
    h6, h7]
  refine congrArg₂ Ideal.div rfl ?_
  rw [← add_assoc]
  exact congrArg₂ (· + ·) rfl (sum_sink _)

theorem named_mask : (Named.named (F := Ideal) κ "mask" (0xF149F2CA#32 : BitVec FTy.f32.bits) : Ideal .f32) = (⊥ : EReal) :=
  IdealRules.named_const.ideal_named_scalar _ _ _ _ rfl

theorem named_scale : (Named.named (F := Ideal) κ "scale" (0x3DB504F3#32 : BitVec FTy.f32.bits) : Ideal .f32) = ((AttnMath.sc : ℝ) : EReal) :=
  IdealRules.named_const.ideal_named_scalar _ _ _ _ rfl

theorem named_log2e : (Named.named (F := Ideal) κ "log2e" (0x3FB8AA3B#32 : BitVec FTy.f32.bits) : Ideal .f32) = (((Real.log 2)⁻¹ : ℝ) : EReal) :=
  IdealRules.named_const.ideal_named_scalar _ _ _ _ rfl

theorem named_scale_log2e : (Named.named (F := Ideal) κ "scale_log2e" (0x3E0293EE#32 : BitVec FTy.f32.bits) : Ideal .f32)
    = ((AttnMath.sc * (Real.log 2)⁻¹ : ℝ) : EReal) :=
  IdealRules.named_const.ideal_named_scalar _ _ _ _ rfl

/-- The cached keys' scores: the plain products. -/
theorem pay17_apply (Q : FVec Ideal S512x128 .bf16) (kx : FVec Ideal S512x128 .bf16) (c r : Fin 512) :
   k0_pay17 (F := Ideal) Q kx (ix2 c r) = ∑ x : Fin 128, kx (ix2 c x) * Q (ix2 r x) := by
  pointwise [k0_pay17]

/-- The band's scores: the product where the mask is set, negative infinity elsewhere. -/
theorem pay16_apply (mk : IVec S384x512 1) (Q : FVec Ideal S512x128 .bf16)
    (k0 k1 k2 : FVec Ideal S128x128 .bf16) (c : Fin 384) (r : Fin 512) :
   k0_pay16 (F := Ideal) mk Q k0 k1 k2 (ix2 c r)
     = Scalar.select (mk (ix2 c r)) (∑ x : Fin 128, k0_pay15 (F := Ideal) k0 k1 k2 (ix2 c x) * Q (ix2 r x)) (⊥ : EReal) := by
  refine Eq.trans (b := Scalar.select (mk (ix2 c r)) (∑ x : Fin 128, k0_pay15 (F := Ideal) k0 k1 k2 (ix2 c x) * Q (ix2 r x))
    (Named.named (F := Ideal) κ "mask" (0xF149F2CA#32 : BitVec FTy.f32.bits) : Ideal .f32)) ?_ (congrArg _ named_mask)
  pointwise [k0_pay16, k0_pay15]

/-- The row's maximum: of the scaled scores and the sink. -/
theorem pay18_apply (mk : IVec S384x512 1) (Q : FVec Ideal S512x128 .bf16) (s0 s1 s2 s3 : FVec Ideal S1x128 .f32)
    (k0 k1 k2 : FVec Ideal S128x128 .bf16) (kx : FVec Ideal S512x128 .bf16) (r : Fin 512) :
   k0_pay18 (F := Ideal) mk Q s0 s1 s2 s3 k0 k1 k2 kx (ix2 0 r)
     = max (max (Finset.univ.fold max ⊥ fun c : Fin 384 => k0_pay16 (F := Ideal) mk Q k0 k1 k2 (ix2 c r))
          (Finset.univ.fold max ⊥ fun c : Fin 512 => k0_pay17 (F := Ideal) Q kx (ix2 c r)) * ((AttnMath.sc : ℝ) : EReal))
        (k0_pay14 (F := Ideal) s0 s1 s2 s3 (ix2 0 r)) := by
  rw [← named_scale, ← AttnRef.ofBits_neg_inf]
  pointwise [k0_pay18]

/-- The band's weights. -/
theorem pay20_apply (mk : IVec S384x512 1) (Q : FVec Ideal S512x128 .bf16) (s0 s1 s2 s3 : FVec Ideal S1x128 .f32)
    (k0 k1 k2 : FVec Ideal S128x128 .bf16) (kx : FVec Ideal S512x128 .bf16) (c : Fin 384) (r : Fin 512) :
   k0_pay20 (F := Ideal) mk Q s0 s1 s2 s3 k0 k1 k2 kx (ix2 c r)
     = Ideal.exp2 (k0_pay16 (F := Ideal) mk Q k0 k1 k2 (ix2 c r) * ((AttnMath.sc * (Real.log 2)⁻¹ : ℝ) : EReal)
        - k0_pay18 (F := Ideal) mk Q s0 s1 s2 s3 k0 k1 k2 kx (ix2 0 r) * (((Real.log 2)⁻¹ : ℝ) : EReal)) := by
  rw [← named_scale_log2e, ← named_log2e]
  pointwise [k0_pay20, k0_pay19]
  rfl

/-- The cached keys' exponents. -/
theorem pay21_apply (mk : IVec S384x512 1) (Q : FVec Ideal S512x128 .bf16) (s0 s1 s2 s3 : FVec Ideal S1x128 .f32)
    (k0 k1 k2 : FVec Ideal S128x128 .bf16) (kx : FVec Ideal S512x128 .bf16) (c r : Fin 512) :
   k0_pay21 (F := Ideal) mk Q s0 s1 s2 s3 k0 k1 k2 kx (ix2 c r)
     = k0_pay17 (F := Ideal) Q kx (ix2 c r) * ((AttnMath.sc * (Real.log 2)⁻¹ : ℝ) : EReal)
        - k0_pay18 (F := Ideal) mk Q s0 s1 s2 s3 k0 k1 k2 kx (ix2 0 r) * (((Real.log 2)⁻¹ : ℝ) : EReal) := by
  rw [← named_scale_log2e, ← named_log2e]
  pointwise [k0_pay21, k0_pay19]

/-- The maximum over two kinds of keys is the larger of the two maxima. -/
theorem fold_max_sum {A B : Type} [Fintype A] [Fintype B] (f : A ⊕ B → EReal) :
    Finset.univ.fold max ⊥ f = max (Finset.univ.fold max ⊥ fun a => f (.inl a)) (Finset.univ.fold max ⊥ fun b => f (.inr b)) := by
  have e : ∀ {C : Type} [Fintype C] (g : C → EReal), Finset.univ.fold max ⊥ g = Finset.univ.sup g := fun g => rfl
  rw [e, e, e]
  apply le_antisymm
  · refine Finset.sup_le fun x _ => ?_
    match x with
    | .inl a => exact le_max_of_le_left (Finset.le_sup (f := fun a => f (.inl a)) (Finset.mem_univ a))
    | .inr b => exact le_max_of_le_right (Finset.le_sup (f := fun b => f (.inr b)) (Finset.mem_univ b))
  · exact max_le (Finset.sup_le fun a _ => Finset.le_sup (Finset.mem_univ (Sum.inl a))) (Finset.sup_le fun b _ => Finset.le_sup (Finset.mem_univ (Sum.inr b)))

/-- A row's scores over the 384 band slots and the 512 cached keys. -/
def hS (mk : IVec S384x512 1) (Q : FVec Ideal S512x128 .bf16) (k0 k1 k2 : FVec Ideal S128x128 .bf16) (kx : FVec Ideal S512x128 .bf16)
    (r : Fin 512) : Fin 384 ⊕ Fin 512 → EReal :=
  Sum.elim (fun c => Scalar.select (mk (ix2 c r)) (∑ x : Fin 128, k0_pay15 (F := Ideal) k0 k1 k2 (ix2 c x) * Q (ix2 r x)) (⊥ : EReal))
    (fun c => ∑ x : Fin 128, kx (ix2 c x) * Q (ix2 r x))

/-- A column's values over the 384 band slots and the 512 cached keys. -/
def hV (v0 v1 v2 : FVec Ideal S128x128 .bf16) (vx : FVec Ideal S512x128 .bf16) (d : Fin 128) : Fin 384 ⊕ Fin 512 → EReal :=
  Sum.elim (fun c => k0_pay15 (F := Ideal) v0 v1 v2 (ix2 c d)) (fun c => vx (ix2 c d))

/-- One head's outputs: the weighted mean of the values, with base-2 exponentials of the scores less the row's maximum, over the band, the cache and
    the sink. -/
theorem headOut_apply (mk : IVec S384x512 1) (q0 q1 q2 q3 : FVec Ideal S128x128 .bf16) (s0 s1 s2 s3 : Elt Ideal .f32)
    (k0 k1 k2 v0 v1 v2 : FVec Ideal S128x128 .bf16) (kx vx : FVec Ideal S512x128 .bf16) (r : Fin 512) (d : Fin 128)
    (S : Fin 384 ⊕ Fin 512 → EReal) (hS' : S = hS mk (k0_pay9 q0 q1 q2 q3) k0 k1 k2 kx r)
    (σ : EReal) (hσ : k0_pay14 (F := Ideal) (k0_pay10 s0) (k0_pay11 s1) (k0_pay12 s2) (k0_pay13 s3) (ix2 0 r) = σ) :
    headOut (F := Ideal) mk q0 q1 q2 q3 s0 s1 s2 s3 k0 k1 k2 v0 v1 v2 kx vx (ix2 r d)
      = Ideal.div (∑ k, Ideal.exp2 (S k * ((AttnMath.sc * (Real.log 2)⁻¹ : ℝ) : EReal)
            - max (Finset.univ.fold max ⊥ S * ((AttnMath.sc : ℝ) : EReal)) σ * (((Real.log 2)⁻¹ : ℝ) : EReal)) * hV v0 v1 v2 vx d k)
          ((∑ k, Ideal.exp2 (S k * ((AttnMath.sc * (Real.log 2)⁻¹ : ℝ) : EReal)
            - max (Finset.univ.fold max ⊥ S * ((AttnMath.sc : ℝ) : EReal)) σ * (((Real.log 2)⁻¹ : ℝ) : EReal)))
            + Ideal.exp (σ - max (Finset.univ.fold max ⊥ S * ((AttnMath.sc : ℝ) : EReal)) σ)) := by
  subst hS'
  rw [headOut, pay22_apply, pay18_apply, hσ, Fintype.sum_sum_type, Fintype.sum_sum_type, fold_max_sum]
  simp only [pay20_apply, pay21_apply, pay18_apply, hσ, pay16_apply, pay17_apply]
  rfl

/-- The sinks of the four query heads, each for its 128 rows. -/
theorem pay14_apply (s0 s1 s2 s3 : Elt Ideal .f32) (r : Fin 512) :
    k0_pay14 (F := Ideal) (k0_pay10 s0) (k0_pay11 s1) (k0_pay12 s2) (k0_pay13 s3) (ix2 0 r)
      = (if _h : r.val < 128 then s0 else if _h : r.val - 128 < 128 then s1 else if _h : r.val - 128 - 128 < 128 then s2 else s3 : EReal) := by
  pointwise [k0_pay14, k0_pay10, k0_pay11, k0_pay12, k0_pay13]

/-- Three stacked tiles, at a row and a column. -/
theorem pay15_apply (k0 k1 k2 : FVec Ideal S128x128 .bf16) (c : Fin 384) (d : Fin 128) :
   k0_pay15 (F := Ideal) k0 k1 k2 (ix2 c d) = if h : c.val < 128 then k0 (ix2 ⟨c.val, h⟩ d)
    else if h : c.val - 128 < 128 then k1 (ix2 ⟨c.val - 128, h⟩ d) else k2 (ix2 ⟨c.val - 128 - 128, by omega⟩ d) := by
  pointwise [k0_pay15]

/-- The four stacked query tiles, at a row and a column. -/
theorem pay9_apply (k0 k1 k2 k3 : FVec Ideal S128x128 .bf16) (c : Fin 512) (d : Fin 128) :
   k0_pay9 (F := Ideal) k0 k1 k2 k3 (ix2 c d) = if h : c.val < 128 then k0 (ix2 ⟨c.val, h⟩ d)
    else if h : c.val - 128 < 128 then k1 (ix2 ⟨c.val - 128, h⟩ d)
    else if h : c.val - 128 - 128 < 128 then k2 (ix2 ⟨c.val - 128 - 128, h⟩ d) else k3 (ix2 ⟨c.val - 128 - 128 - 128, by omega⟩ d) := by
  pointwise [k0_pay9]

/-- Which band slots a row may attend to: those at most 128 away, within the sequence. -/
abbrev okSlot (i r c : ℕ) : Prop := (r % 128 ≤ c ∧ c ≤ r % 128 + 256) ∧ (128 ≤ c ∨ 0 < i) ∧ (c < 256 ∨ i < 15)

/-- The mask, at a band slot and a row. -/
theorem pay8_apply (i : grid0.Coords) (c : Fin 384) (r : Fin 512) :
   k0_pay8 i (ix2 c r) = BitVec.ofBool (decide (okSlot (i 1).val r.val c.val)) := by
  have hi : (i 1).val < 16 := (i 1).isLt
  have hc := c.isLt
  have hr := r.isLt
  have hb : ∀ a : ℕ, a < 512 → (BitVec.ofNat 32 a).toInt = (a : ℤ) := fun a h => by
    rw [BitVec.toInt_eq_toNat_bmod, BitVec.toNat_ofNat]
    simp only [Int.bmod_def]
    omega
  have e : IntOp.andi (BitVec.ofNat 32 r.val) 127#32 = BitVec.ofNat 32 (r.val % 128) := by
    refine BitVec.eq_of_toNat_eq ?_
    show ((BitVec.ofNat 32 r.val) &&& 127#32).toNat = _
    rw [BitVec.toNat_and, BitVec.toNat_ofNat, BitVec.toNat_ofNat, BitVec.toNat_ofNat]
    have : (127 % 2 ^ 32 : ℕ) = 2 ^ 7 - 1 := by norm_num
    rw [this, Nat.and_two_pow_sub_one_eq_mod]
    omega
  have e2 : IntOp.addi (BitVec.ofNat 32 (r.val % 128)) 256#32 = BitVec.ofNat 32 (r.val % 128 + 256) := by
    show BitVec.ofNat 32 (r.val % 128) + BitVec.ofNat 32 256 = _
    rw [← BitVec.ofNat_add]
  pointwise [k0_pay8]
  rw [e, e2]
  show ((BitVec.ofBool (decide ((BitVec.ofNat 32 (r.val % 128)).toInt ≤ (BitVec.ofNat 32 c.val).toInt))
      &&& BitVec.ofBool (decide ((BitVec.ofNat 32 c.val).toInt ≤ (BitVec.ofNat 32 (r.val % 128 + 256)).toInt)))
    &&& ((BitVec.ofBool (decide ((BitVec.ofNat 32 128).toInt ≤ (BitVec.ofNat 32 c.val).toInt))
          ||| BitVec.ofBool (decide ((BitVec.ofNat 32 0).toInt < (BitVec.ofNat 32 (i 1).val).toInt)))
        &&& (BitVec.ofBool (decide ((BitVec.ofNat 32 c.val).toInt < (BitVec.ofNat 32 256).toInt))
          ||| BitVec.ofBool (decide ((BitVec.ofNat 32 (i 1).val).toInt < (BitVec.ofNat 32 15).toInt))))) = _
  rw [hb _ (by omega), hb _ (by omega), hb _ (by omega), hb _ (by omega), hb _ (by omega), hb _ (by omega), hb _ (by omega), hb _ (by omega)]
  simp only [BitVec.ofBool_and_ofBool, BitVec.ofBool_or_ofBool, ← Bool.decide_and, ← Bool.decide_or]
  refine congrArg BitVec.ofBool (decide_eq_decide.2 ?_)
  simp only [okSlot, Nat.cast_le, Nat.cast_lt]

/-- The mask's bit chooses: the value where the slot may be attended to. -/
theorem select_ofBool (p : Prop) [Decidable p] (a b : EReal) : Scalar.select (BitVec.ofBool (decide p)) a b = if p then a else b := by
  by_cases h : p
  · rw [if_pos h, decide_eq_true h]; rfl
  · rw [if_neg h, decide_eq_false h]; rfl
end Cert.Proof.Attn
-- ==== Proof.AttnTiles.lean ====
module

public import proofs.«01_k».proof.Proof.AttnRun
public import Idealize.ShloMosaic.Lib.Pointwise
public import Idealize.ShloMosaic.Lib.Pipeline.ValueKit
public import Idealize.ShloMosaic.Lib.Pipeline.ReadBack

@[expose] public section

set_option maxRecDepth 16384
noncomputable section

namespace Cert.Proof.Attn
open Idealize.ShloMosaic Idealize.ShloMosaic.TcCoe Idealize.SL.Sem

/-- The 128 columns of a two-axis array from column `o` on. -/
def tile {α : Type} {n w : ℕ} (X : (⟨2, ![n, w]⟩ : Shape).Idx → α) (o : ℕ) (h : o + 128 ≤ w) : (⟨2, ![n, 128]⟩ : Shape).Idx → α :=
  fun j => X (ix2 (j 0) ⟨o + (j 1).val, by have h2 : (j 1).val < 128 := (j 1).isLt; omega⟩)

theorem tile_apply {α : Type} {n w : ℕ} (X : (⟨2, ![n, w]⟩ : Shape).Idx → α) (o : ℕ) (h : o + 128 ≤ w) (r : Fin n) (d : Fin 128) :
    tile X o h (ix2 r d) = X (ix2 r ⟨o + d.val, by omega⟩) := rfl

theorem tile_le {n w o : ℕ} (inb : ∀ a, (![0, o] : Fin 2 → ℕ) a + (![n, 128] : Fin 2 → ℕ) a ≤ (⟨2, ![n, w]⟩ : Shape).size a) : o + 128 ≤ w := inb 1

theorem one_lt {n o : ℕ} (inb : ∀ a, (![o] : Fin 1 → ℕ) a + (![1] : Fin 1 → ℕ) a ≤ (⟨1, ![n]⟩ : Shape).size a) : o < n := inb 0

/-- A load of 128 columns of a block is the tile of those columns. -/
theorem ld_tile {Val : EltTy → Type} {e : EltTy} {n w o : ℕ} (X : (⟨2, ![n, w]⟩ : Shape).Idx → Val e)
    (inb : ∀ a, (![0, o] : Fin 2 → ℕ) a + (![n, 128] : Fin 2 → ℕ) a ≤ (⟨2, ![n, w]⟩ : Shape).size a) :
    View.ld X (Rect.unit (s := ⟨2, ![n, w]⟩) ![0, o] ![n, 128] inb) = tile X o (tile_le inb) := by
  funext j
  refine congrArg X ?_
  funext a
  refine Fin.ext ((Rect.emb_apply _ _ _).trans ?_)
  match a with
  | ⟨0, _⟩ => show 0 + 1 * (j 0).val = (j 0).val; omega
  | ⟨1, _⟩ => show o + 1 * (j 1).val = o + (j 1).val; omega

/-- A load of one element of a one-axis block. -/
theorem ld_one {Val : EltTy → Type} {e : EltTy} {n o : ℕ} (X : (⟨1, ![n]⟩ : Shape).Idx → Val e)
    (inb : ∀ a, (![o] : Fin 1 → ℕ) a + (![1] : Fin 1 → ℕ) a ≤ (⟨1, ![n]⟩ : Shape).size a) :
    View.ld X (Rect.unit (s := ⟨1, ![n]⟩) ![o] ![1] inb) = fun _ => X (ix1 ⟨o, one_lt inb⟩) := by
  funext x
  refine congrArg X ?_
  funext a
  refine Fin.ext ((Rect.emb_apply _ _ _).trans ?_)
  match a with
  | ⟨0, _⟩ => show o + 1 * (x 0).val = o; have : (x 0).val < 1 := (x 0).isLt; omega

/-- After a store of the whole array, a load of 128 columns is the tile of what was stored. -/
theorem readCov_tile {Val : EltTy → Type} [∀ e, Nonempty (Val e)] {e : EltTy} {sig : RefSig} {κ : Kind} {sp : Space} {n w o : ℕ}
    (v : View sig κ sp (⟨2, ![n, w]⟩ : Shape) e) (Z : (⟨2, ![n, w]⟩ : Shape).Idx → Val e)
    (inb0 : ∀ a, (![0, 0] : Fin 2 → ℕ) a + (![n, w] : Fin 2 → ℕ) a ≤ (⟨2, ![n, w]⟩ : Shape).size a)
    (inb : ∀ a, (![0, o] : Fin 2 → ℕ) a + (![n, 128] : Fin 2 → ℕ) a ≤ (⟨2, ![n, w]⟩ : Shape).size a) :
    v.readCov [(⟨Rect.unit (s := ⟨2, ![n, w]⟩) ![0, 0] ![n, w] inb0, Z⟩ : View.Piece Val ⟨2, ![n, w]⟩ e)]
      (Rect.unit (s := ⟨2, ![n, w]⟩) ![0, o] ![n, 128] inb).toLoadRect = tile Z o (tile_le inb) :=
  (View.readCov_fill v inb0 Z [] (Rect.unit (s := ⟨2, ![n, w]⟩) ![0, o] ![n, 128] inb)
    (fun a => match a with | ⟨0, _⟩ => rfl | ⟨1, _⟩ => rfl)).trans (ld_tile Z inb)

end Cert.Proof.Attn
-- ==== Proof.AttnBlock.lean ====
module

public import proofs.«01_k».proof.Proof.AttnHead
public import proofs.«01_k».proof.Proof.AttnTiles

@[expose] public section

set_option maxRecDepth 16384
noncomputable section

namespace Cert.Proof.Attn
open Cert.KernelIdeal Cert.KernelIdeal.Gen Idealize.ShloMosaic Idealize.ShloMosaic.TcCoe Idealize.SL.Sem
open Idealize.ShloMosaic.Pipeline (Dat)

/-- The load of one sink. -/
def sinkAt (X : Vec Ideal S32 .f32) (o : ℕ) (h : o < 32) : Elt Ideal .f32 :=
  View.ld (Val := Elt Ideal) X (Rect.unit (s := S32) ![o] ![1] (fun a => match a with | ⟨0, _⟩ => h)) (Shape.Idx.first (s := S1) (by decide))

theorem sinkAt_apply (X : Vec Ideal S32 .f32) (o : ℕ) (h : o < 32) : sinkAt X o h = X (ix1 ⟨o, h⟩) :=
  congrFun (ld_one (n := 32) X (fun a => match a with | ⟨0, _⟩ => h)) _

/-- One key/value head's outputs, from the blocks of the windows: the head's columns of each. -/
def headBlk (mk : IVec S384x512 1) (X0 : Vec Ideal S32 .f32) (X1 : Vec Ideal S128x4096 .bf16) (X2 X3 X4 X5 X6 X7 : Vec Ideal S128x1024 .bf16)
    (Z8 Z9 : Vec Ideal S512x1024 .bf16) (kv : ℕ) (h : kv < 8) : FVec Ideal S512x128 .f32 :=
  headOut (F := Ideal) mk (tile X1 (512 * kv) (by omega)) (tile X1 (512 * kv + 128) (by omega)) (tile X1 (512 * kv + 256) (by omega))
    (tile X1 (512 * kv + 384) (by omega)) (sinkAt X0 (4 * kv) (by omega)) (sinkAt X0 (4 * kv + 1) (by omega)) (sinkAt X0 (4 * kv + 2) (by omega))
    (sinkAt X0 (4 * kv + 3) (by omega)) (tile X2 (128 * kv) (by omega)) (tile X3 (128 * kv) (by omega)) (tile X4 (128 * kv) (by omega))
    (tile X5 (128 * kv) (by omega)) (tile X6 (128 * kv) (by omega)) (tile X7 (128 * kv) (by omega)) (tile Z8 (128 * kv) (by omega))
    (tile Z9 (128 * kv) (by omega))

/-- What a grid point writes: at row `y 0` and column `y 1`, the head of that column, the query of that row. -/
def blkOut (mk : IVec S384x512 1) (X0 : Vec Ideal S32 .f32) (X1 : Vec Ideal S128x4096 .bf16) (X2 X3 X4 X5 X6 X7 : Vec Ideal S128x1024 .bf16)
    (Z8 Z9 : Vec Ideal S512x1024 .bf16) : Vec Ideal S128x4096 .bf16 := fun y =>
  headBlk mk X0 X1 X2 X3 X4 X5 X6 X7 Z8 Z9 ((y 1).val / 512) (by have h : (y 1).val < 4096 := (y 1).isLt; omega)
    (ix2 ⟨(y 1).val / 128 % 4 * 128 + (y 0).val, by have h : (y 0).val < 128 := (y 0).isLt; omega⟩ ⟨(y 1).val % 128, Nat.mod_lt _ (by omega)⟩)

theorem blkOut_eq (mk : IVec S384x512 1) (X0 : Vec Ideal S32 .f32) (X1 : Vec Ideal S128x4096 .bf16) (X2 X3 X4 X5 X6 X7 : Vec Ideal S128x1024 .bf16)
    (Z8 Z9 : Vec Ideal S512x1024 .bf16) (y : S128x4096.Idx) (kv o : ℕ) (h : kv < 8) (ho : o % 128 = 0 ∧ o < 512) (r : Fin 512) (d : Fin 128)
    (h0 : r.val = o + (y 0).val) (h1 : (y 1).val = 512 * kv + o + d.val) :
    headBlk mk X0 X1 X2 X3 X4 X5 X6 X7 Z8 Z9 kv h (ix2 r d) = blkOut mk X0 X1 X2 X3 X4 X5 X6 X7 Z8 Z9 y := by
  have hy : (y 0).val < 128 := (y 0).isLt
  unfold blkOut
  have e : (y 1).val / 512 = kv := by omega
  have er : r = ⟨(y 1).val / 128 % 4 * 128 + (y 0).val, by omega⟩ := Fin.ext (by show r.val = (y 1).val / 128 % 4 * 128 + (y 0).val; omega)
  have ed : d = ⟨(y 1).val % 128, Nat.mod_lt _ (by omega)⟩ := Fin.ext (by show d.val = (y 1).val % 128; omega)
  rw [← er, ← ed]
  subst e
  rfl

/-- A stored piece is 128 rows of a head's outputs. -/
theorem slice_apply (o : ℕ) (Z : FVec Ideal S512x128 .f32) (hs : S512x128.Slices ![o, 0] S128x128) (hb) (x : S128x128.Idx) (ho : o + 128 ≤ 512) :
    truncf (F := Ideal) .bf16 (extractStridedSlice S128x128 ![o, 0] Z hs) hb x
      = Z (ix2 ⟨o + (x 0).val, by have h : (x 0).val < 128 := (x 0).isLt; omega⟩ ⟨(x 1).val, (x 1).isLt⟩) := by
  refine congrArg Z ?_
  funext a
  match a with
  | ⟨0, _⟩ => exact Fin.ext rfl
  | ⟨1, _⟩ => exact Fin.ext (Nat.zero_add _)

theorem headSlices (o : ℕ) (ho : o + 128 ≤ 512) : S512x128.Slices ![o, 0] S128x128 := ⟨rfl, fun a => match a with | ⟨0, _⟩ => ho | ⟨1, _⟩ => Nat.le_refl _⟩

/-- A stored piece, at its place in the block. -/
theorem piece_eq {mk : IVec S384x512 1} {X0 : Vec Ideal S32 .f32} {X1 : Vec Ideal S128x4096 .bf16} {X2 X3 X4 X5 X6 X7 : Vec Ideal S128x1024 .bf16}
    {Z8 Z9 : Vec Ideal S512x1024 .bf16} {y : S128x4096.Idx} {x : S128x128.Idx} (kv g : ℕ) (P : FVec Ideal S128x128 .bf16) (h : kv < 8) (hg : g < 4)
    (hP : P = truncf (F := Ideal) .bf16 (extractStridedSlice S128x128 ![128 * g, 0] (headBlk mk X0 X1 X2 X3 X4 X5 X6 X7 Z8 Z9 kv h)
      (headSlices (128 * g) (by omega))) bitsLt_bf16_f32)
    (h0 : (y 0).val = (x 0).val) (h1 : (y 1).val = 512 * kv + 128 * g + (x 1).val) :
    P x = blkOut mk X0 X1 X2 X3 X4 X5 X6 X7 Z8 Z9 y := by
  subst hP
  refine (slice_apply (128 * g) _ (headSlices (128 * g) (by omega)) bitsLt_bf16_f32 x (by omega)).trans
    (blkOut_eq mk X0 X1 X2 X3 X4 X5 X6 X7 Z8 Z9 y kv (128 * g) h (by omega) _ _ ?_ ?_)
  · show 128 * g + (x 0).val = 128 * g + (y 0).val; omega
  · show (y 1).val = 512 * kv + 128 * g + (x 1).val; omega

variable (m : (ℓ : Loc nD τ sig) → Buf (Elt Ideal) ℓ) (c : Dev nD)

/-- A point that begins a batch. -/
theorem outs_A (t : Fin cfg0.N) (h0 : t.val % 16 = 0) : (outsAt0 m c t.val t.isLt).1
    = blkOut (k0_pay8 (grid0.coords t)) (iblk m c 0 t) (iblk m c 1 t) (iblk m c 2 t) (iblk m c 3 t) (iblk m c 4 t) (iblk m c 5 t) (iblk m c 6 t) (iblk m c 7 t)
      (k0_pay6 (iblk m c 8 t)) (k0_pay7 (iblk m c 9 t)) := by
  rw [outsAt0_A m c t h0]
  unfold leftA
  dsimp only
  frame_out
  simp only [ld_tile, readCov_tile]
  generalize k0_pay8 (grid0.coords t) = mk
  generalize k0_pay6 (iblk m c 8 t) = Z8
  generalize k0_pay7 (iblk m c 9 t) = Z9
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  clear h0
  funext y
  canon_tiles x h
  · exact piece_eq 7 3 _ (by decide) (by decide) rfl h0 h1
  · exact piece_eq 7 2 _ (by decide) (by decide) rfl h0 h1
  · exact piece_eq 7 1 _ (by decide) (by decide) rfl h0 h1
  · exact piece_eq 7 0 _ (by decide) (by decide) rfl h0 h1
  · exact piece_eq 6 3 _ (by decide) (by decide) rfl h0 h1
  · exact piece_eq 6 2 _ (by decide) (by decide) rfl h0 h1
  · exact piece_eq 6 1 _ (by decide) (by decide) rfl h0 h1
  · exact piece_eq 6 0 _ (by decide) (by decide) rfl h0 h1
  · exact piece_eq 5 3 _ (by decide) (by decide) rfl h0 h1
  · exact piece_eq 5 2 _ (by decide) (by decide) rfl h0 h1
  · exact piece_eq 5 1 _ (by decide) (by decide) rfl h0 h1
  · exact piece_eq 5 0 _ (by decide) (by decide) rfl h0 h1
  · exact piece_eq 4 3 _ (by decide) (by decide) rfl h0 h1
  · exact piece_eq 4 2 _ (by decide) (by decide) rfl h0 h1
  · exact piece_eq 4 1 _ (by decide) (by decide) rfl h0 h1
  · exact piece_eq 4 0 _ (by decide) (by decide) rfl h0 h1
  · exact piece_eq 3 3 _ (by decide) (by decide) rfl h0 h1
  · exact piece_eq 3 2 _ (by decide) (by decide) rfl h0 h1
  · exact piece_eq 3 1 _ (by decide) (by decide) rfl h0 h1
  · exact piece_eq 3 0 _ (by decide) (by decide) rfl h0 h1
  · exact piece_eq 2 3 _ (by decide) (by decide) rfl h0 h1
  · exact piece_eq 2 2 _ (by decide) (by decide) rfl h0 h1
  · exact piece_eq 2 1 _ (by decide) (by decide) rfl h0 h1
  · exact piece_eq 2 0 _ (by decide) (by decide) rfl h0 h1
  · exact piece_eq 1 3 _ (by decide) (by decide) rfl h0 h1
  · exact piece_eq 1 2 _ (by decide) (by decide) rfl h0 h1
  · exact piece_eq 1 1 _ (by decide) (by decide) rfl h0 h1
  · exact piece_eq 1 0 _ (by decide) (by decide) rfl h0 h1
  · exact piece_eq 0 3 _ (by decide) (by decide) rfl h0 h1
  · exact piece_eq 0 2 _ (by decide) (by decide) rfl h0 h1
  · exact piece_eq 0 1 _ (by decide) (by decide) rfl h0 h1
  · exact piece_eq 0 0 _ (by decide) (by decide) rfl h0 (h1.trans (by omega))
end Cert.Proof.Attn
-- ==== Proof.AttnPoint.lean ====
module

public import proofs.«01_k».proof.Proof.AttnBlock
public import Idealize.ShloMosaic.Lib.Pipeline.ReadBack

@[expose] public section

set_option maxRecDepth 16384
noncomputable section

namespace Cert.Proof.Attn
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)
/-- Any other point, over the scratch contents `xs0` and `xs1`. -/
theorem leftB_1 (t : Fin cfg0.N) (h0 : ¬ t.val % 16 = 0) (xs0 xs1 : Vec Ideal S512x1024 .bf16) : (leftB m c t h0 xs0 xs1).1
    = blkOut (k0_pay8 (grid0.coords t)) (iblk m c 0 t) (iblk m c 1 t) (iblk m c 2 t) (iblk m c 3 t) (iblk m c 4 t) (iblk m c 5 t) (iblk m c 6 t) (iblk m c 7 t)
      xs0 xs1 := by
  unfold leftB
  dsimp only
  frame_out
  simp only [ld_tile, read_unread_whole]
  generalize k0_pay8 (grid0.coords t) = mk
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  clear h0
  funext y
  canon_tiles x h
  · exact piece_eq 7 3 _ (by decide) (by decide) rfl h0 h1
  · exact piece_eq 7 2 _ (by decide) (by decide) rfl h0 h1
  · exact piece_eq 7 1 _ (by decide) (by decide) rfl h0 h1
  · exact piece_eq 7 0 _ (by decide) (by decide) rfl h0 h1
  · exact piece_eq 6 3 _ (by decide) (by decide) rfl h0 h1
  · exact piece_eq 6 2 _ (by decide) (by decide) rfl h0 h1
  · exact piece_eq 6 1 _ (by decide) (by decide) rfl h0 h1
  · exact piece_eq 6 0 _ (by decide) (by decide) rfl h0 h1
  · exact piece_eq 5 3 _ (by decide) (by decide) rfl h0 h1
  · exact piece_eq 5 2 _ (by decide) (by decide) rfl h0 h1
  · exact piece_eq 5 1 _ (by decide) (by decide) rfl h0 h1
  · exact piece_eq 5 0 _ (by decide) (by decide) rfl h0 h1
  · exact piece_eq 4 3 _ (by decide) (by decide) rfl h0 h1
  · exact piece_eq 4 2 _ (by decide) (by decide) rfl h0 h1
  · exact piece_eq 4 1 _ (by decide) (by decide) rfl h0 h1
  · exact piece_eq 4 0 _ (by decide) (by decide) rfl h0 h1
  · exact piece_eq 3 3 _ (by decide) (by decide) rfl h0 h1
  · exact piece_eq 3 2 _ (by decide) (by decide) rfl h0 h1
  · exact piece_eq 3 1 _ (by decide) (by decide) rfl h0 h1
  · exact piece_eq 3 0 _ (by decide) (by decide) rfl h0 h1
  · exact piece_eq 2 3 _ (by decide) (by decide) rfl h0 h1
  · exact piece_eq 2 2 _ (by decide) (by decide) rfl h0 h1
  · exact piece_eq 2 1 _ (by decide) (by decide) rfl h0 h1
  · exact piece_eq 2 0 _ (by decide) (by decide) rfl h0 h1
  · exact piece_eq 1 3 _ (by decide) (by decide) rfl h0 h1
  · exact piece_eq 1 2 _ (by decide) (by decide) rfl h0 h1
  · exact piece_eq 1 1 _ (by decide) (by decide) rfl h0 h1
  · exact piece_eq 1 0 _ (by decide) (by decide) rfl h0 h1
  · exact piece_eq 0 3 _ (by decide) (by decide) rfl h0 h1
  · exact piece_eq 0 2 _ (by decide) (by decide) rfl h0 h1
  · exact piece_eq 0 1 _ (by decide) (by decide) rfl h0 h1
  · exact piece_eq 0 0 _ (by decide) (by decide) rfl h0 (h1.trans (by omega))

/-- A point that begins a batch copies the batch's cached keys to the first scratch. -/
theorem leftA_2 (t : Fin cfg0.N) (h0 : t.val % 16 = 0) : (leftA m c t h0).2.1 = k0_pay6 (iblk m c 8 t) := by
  unfold leftA
  dsimp only
  frame_out

/-- … and its cached values to the second. -/
theorem leftA_3 (t : Fin cfg0.N) (h0 : t.val % 16 = 0) : (leftA m c t h0).2.2 = k0_pay7 (iblk m c 9 t) := by
  unfold leftA
  dsimp only
  frame_out

/-- Any other point leaves the scratches as they were. -/
theorem leftB_2 (t : Fin cfg0.N) (h0 : ¬ t.val % 16 = 0) (xs0 xs1 : Vec Ideal S512x1024 .bf16) : (leftB m c t h0 xs0 xs1).2.1 = xs0 := by
  rw [leftB, sout0_B_0]

theorem leftB_3 (t : Fin cfg0.N) (h0 : ¬ t.val % 16 = 0) (xs0 xs1 : Vec Ideal S512x1024 .bf16) : (leftB m c t h0 xs0 xs1).2.2 = xs1 := by
  rw [leftB, sout0_B_1]

/-- The block indices of the windows, at every grid point. -/
theorem idx : ∀ t : Fin cfg0.N, win0_0.index t = ![0] ∧ win0_1.index t = ![t.val, 0]
    ∧ win0_2.index t = ![if t.val % 16 = 0 then t.val else t.val - 1, 0] ∧ win0_3.index t = ![t.val, 0]
    ∧ win0_4.index t = ![if t.val % 16 = 15 then t.val else t.val + 1, 0]
    ∧ win0_5.index t = ![if t.val % 16 = 0 then t.val else t.val - 1, 0] ∧ win0_6.index t = ![t.val, 0]
    ∧ win0_7.index t = ![if t.val % 16 = 15 then t.val else t.val + 1, 0]
    ∧ win0_8.index t = ![t.val / 16, 0, 0] ∧ win0_9.index t = ![t.val / 16, 0, 0] ∧ win0_10.index t = ![t.val, 0] :=
  (by decide +kernel : ∀ t : Fin grid0.N, _)

theorem point_lt : ∀ t : Fin cfg0.N, t.val < 128 ∧ (grid0.coords t 1).val = t.val % 16 := (by decide +kernel : ∀ t : Fin grid0.N, _)

theorem blk0 (t : Fin cfg0.N) (h : Fin 32) : (show Vec Ideal S32 .f32 from iblk m c 0 t) (ix1 h) = m ((c : Thread nD τ).loc main_arg5) (ix2 0 h) := by
  blk_point [iblk, V, idx t]

theorem blk1 (t : Fin cfg0.N) (r : Fin 128) (d : Fin 4096) : (show Vec Ideal S128x4096 .bf16 from iblk m c 1 t) (ix2 r d)
    = m ((c : Thread nD τ).loc main_arg0) (ix2 ⟨t.val * 128 + r.val, by have := (point_lt t).1; omega⟩ d) := by
  blk_point [iblk, V, idx t]

theorem blk2 (t : Fin cfg0.N) (ht : t.val % 16 ≠ 0) (r : Fin 128) (d : Fin 1024) : (show Vec Ideal S128x1024 .bf16 from iblk m c 2 t) (ix2 r d)
    = m ((c : Thread nD τ).loc main_arg1) (ix2 ⟨(t.val - 1) * 128 + r.val, by have := (point_lt t).1; omega⟩ d) := by
  blk_point [iblk, V, idx t, if_neg ht]

theorem blk3 (t : Fin cfg0.N) (r : Fin 128) (d : Fin 1024) : (show Vec Ideal S128x1024 .bf16 from iblk m c 3 t) (ix2 r d)
    = m ((c : Thread nD τ).loc main_arg1) (ix2 ⟨t.val * 128 + r.val, by have := (point_lt t).1; omega⟩ d) := by
  blk_point [iblk, V, idx t]

theorem blk4 (t : Fin cfg0.N) (ht : t.val % 16 ≠ 15) (r : Fin 128) (d : Fin 1024) : (show Vec Ideal S128x1024 .bf16 from iblk m c 4 t) (ix2 r d)
    = m ((c : Thread nD τ).loc main_arg1) (ix2 ⟨(t.val + 1) * 128 + r.val, by have := (point_lt t).1; omega⟩ d) := by
  blk_point [iblk, V, idx t, if_neg ht]

theorem blk5 (t : Fin cfg0.N) (ht : t.val % 16 ≠ 0) (r : Fin 128) (d : Fin 1024) : (show Vec Ideal S128x1024 .bf16 from iblk m c 5 t) (ix2 r d)
    = m ((c : Thread nD τ).loc main_arg2) (ix2 ⟨(t.val - 1) * 128 + r.val, by have := (point_lt t).1; omega⟩ d) := by
  blk_point [iblk, V, idx t, if_neg ht]

theorem blk6 (t : Fin cfg0.N) (r : Fin 128) (d : Fin 1024) : (show Vec Ideal S128x1024 .bf16 from iblk m c 6 t) (ix2 r d)
    = m ((c : Thread nD τ).loc main_arg2) (ix2 ⟨t.val * 128 + r.val, by have := (point_lt t).1; omega⟩ d) := by
  blk_point [iblk, V, idx t]

theorem blk7 (t : Fin cfg0.N) (ht : t.val % 16 ≠ 15) (r : Fin 128) (d : Fin 1024) : (show Vec Ideal S128x1024 .bf16 from iblk m c 7 t) (ix2 r d)
    = m ((c : Thread nD τ).loc main_arg2) (ix2 ⟨(t.val + 1) * 128 + r.val, by have := (point_lt t).1; omega⟩ d) := by
  blk_point [iblk, V, idx t, if_neg ht]

/-- One batch's cached keys (or values), with the heads' columns side by side. -/
def cacheOf (X : FVec Ideal S8x1x512x8x128 .f32) (b : ℕ) (hb : b < 8) : Vec Ideal S512x1024 .bf16 := fun y =>
  X (ix5 ⟨b, hb⟩ 0 ⟨(y 0).val, (y 0).isLt⟩ ⟨(y 1).val / 128, by have h : (y 1).val < 1024 := (y 1).isLt; omega⟩ ⟨(y 1).val % 128, Nat.mod_lt _ (by omega)⟩)

theorem cacheOf_apply (X : FVec Ideal S8x1x512x8x128 .f32) (b : ℕ) (hb : b < 8) (r : Fin 512) (x : Fin 1024) (kv : Fin 8) (d : Fin 128)
    (hx : x.val = 128 * kv.val + d.val) : cacheOf X b hb (ix2 r x) = X (ix5 ⟨b, hb⟩ 0 r kv d) := by
  refine congrArg X (congrArg₂ (ix5 _ 0 r) (Fin.ext ?_) (Fin.ext ?_))
  · show x.val / 128 = kv.val
    omega
  · show x.val % 128 = d.val
    omega

theorem cacheOf_congr (X : FVec Ideal S8x1x512x8x128 .f32) {b b' : ℕ} (h : b = b') (hb : b < 8) (hb' : b' < 8) : cacheOf X b hb = cacheOf X b' hb' := by
  subst h
  rfl

theorem blk8 (t : Fin cfg0.N) (r : Fin 512) (x : Fin 1024) : (show Vec Ideal S1x512x1024 .f32 from iblk m c 8 t) (ix3 0 r x)
    = m ((c : Thread nD τ).loc main_arg3) (ix5 ⟨t.val / 16, by have := (point_lt t).1; omega⟩ 0 r ⟨x.val / 128, by omega⟩ ⟨x.val % 128, Nat.mod_lt _ (by omega)⟩) := by
  blk_point [iblk, V, idx t]

theorem blk9 (t : Fin cfg0.N) (r : Fin 512) (x : Fin 1024) : (show Vec Ideal S1x512x1024 .f32 from iblk m c 9 t) (ix3 0 r x)
    = m ((c : Thread nD τ).loc main_arg4) (ix5 ⟨t.val / 16, by have := (point_lt t).1; omega⟩ 0 r ⟨x.val / 128, by omega⟩ ⟨x.val % 128, Nat.mod_lt _ (by omega)⟩) := by
  blk_point [iblk, V, idx t]

theorem pay6_apply (X : Vec Ideal S1x512x1024 .f32) (r : Fin 512) (x : Fin 1024) : k0_pay6 (F := Ideal) X (ix2 r x) = X (ix3 0 r x) := by
  pointwise [k0_pay6]

theorem pay7_apply (X : Vec Ideal S1x512x1024 .f32) (r : Fin 512) (x : Fin 1024) : k0_pay7 (F := Ideal) X (ix2 r x) = X (ix3 0 r x) := by
  pointwise [k0_pay7]

theorem pay6_eq (t : Fin cfg0.N) : k0_pay6 (F := Ideal) (iblk m c 8 t)
    = cacheOf (m ((c : Thread nD τ).loc main_arg3)) (t.val / 16) (by have := (point_lt t).1; omega) := by
  funext y
  obtain ⟨r, x, rfl⟩ : ∃ (r : Fin 512) (x : Fin 1024), y = ix2 r x := ⟨y 0, y 1, by idx_vars y⟩
  exact (pay6_apply _ r x).trans (blk8 m c t r x)

theorem pay7_eq (t : Fin cfg0.N) : k0_pay7 (F := Ideal) (iblk m c 9 t)
    = cacheOf (m ((c : Thread nD τ).loc main_arg4)) (t.val / 16) (by have := (point_lt t).1; omega) := by
  funext y
  obtain ⟨r, x, rfl⟩ : ∃ (r : Fin 512) (x : Fin 1024), y = ix2 r x := ⟨y 0, y 1, by idx_vars y⟩
  exact (pay7_apply _ r x).trans (blk9 m c t r x)

/-- The scratches hold the batch's caches after every point of the batch. -/
theorem scratch_eq : ∀ (n : ℕ) (hn : n < cfg0.N) (hb : n / 16 < 8), (outsAt0 m c n hn).2.1 = cacheOf (m ((c : Thread nD τ).loc main_arg3)) (n / 16) hb
    ∧ (outsAt0 m c n hn).2.2 = cacheOf (m ((c : Thread nD τ).loc main_arg4)) (n / 16) hb := by
  intro n
  induction n with
  | zero =>
    intro hn hb
    have h0 : (⟨0, hn⟩ : Fin cfg0.N).val % 16 = 0 := Nat.zero_mod 16
    rw [outsAt0_A m c ⟨0, hn⟩ h0, leftA_2, leftA_3]
    exact ⟨pay6_eq m c ⟨0, hn⟩, pay7_eq m c ⟨0, hn⟩⟩
  | succ n ih =>
    intro hn hb
    by_cases h0 : (n + 1) % 16 = 0
    · rw [outsAt0_A m c ⟨n + 1, hn⟩ h0, leftA_2, leftA_3]
      exact ⟨pay6_eq m c ⟨n + 1, hn⟩, pay7_eq m c ⟨n + 1, hn⟩⟩
    · have e : (n + 1) / 16 = n / 16 := by omega
      rw [outsAt0_B m c ⟨n + 1, hn⟩ h0, leftB_2, leftB_3]
      have h := ih (Nat.lt_of_succ_lt hn) (by omega)
      exact ⟨h.1.trans (cacheOf_congr _ e.symm _ hb), h.2.trans (cacheOf_congr _ e.symm _ hb)⟩

/-- What every point leaves in the output's buffer. -/
theorem outs_eq (t : Fin cfg0.N) : (outsAt0 m c t.val t.isLt).1
    = blkOut (k0_pay8 (grid0.coords t)) (iblk m c 0 t) (iblk m c 1 t) (iblk m c 2 t) (iblk m c 3 t) (iblk m c 4 t) (iblk m c 5 t) (iblk m c 6 t) (iblk m c 7 t)
      (cacheOf (m ((c : Thread nD τ).loc main_arg3)) (t.val / 16) (by have := (point_lt t).1; omega))
      (cacheOf (m ((c : Thread nD τ).loc main_arg4)) (t.val / 16) (by have := (point_lt t).1; omega)) := by
  by_cases h0 : t.val % 16 = 0
  · rw [outs_A m c t h0, pay6_eq, pay7_eq]
  · have ht := (point_lt t).1
    have e : (t.val - 1) / 16 = t.val / 16 := by omega
    have h := scratch_eq m c (t.val - 1) (Nat.lt_of_le_of_lt (Nat.sub_le _ _) t.isLt) (by omega)
    rw [outsAt0_B m c t h0, leftB_1, h.1, h.2, cacheOf_congr _ e, cacheOf_congr _ e]
end Cert.Proof.Attn
-- ==== Proof.AttnEq.lean ====
module

public import proofs.«01_k».proof.Proof.AttnBlock
public import proofs.«01_k».proof.Proof.AttnRef

@[expose] public section

set_option maxRecDepth 16384
noncomputable section

/-! # One entry of the kernel's attention is the reference's -/

namespace Cert.Proof.Attn
open Cert.KernelIdeal Cert.KernelIdeal.Gen Idealize.ShloMosaic Idealize.ShloMosaic.TcCoe Idealize.SL.Sem
open Cert.Proof.AttnRef

/-- A block of 128 rows of a matrix: the rows of block `T`. -/
def RowsOf {n w : ℕ} (X : (⟨2, ![128, w]⟩ : Shape).Idx → EReal) (A : (⟨2, ![n, w]⟩ : Shape).Idx → EReal) (T : ℕ) : Prop :=
  ∀ (r : Fin 128) (d : Fin w) (row : Fin n), row.val = T * 128 + r.val → X (ix2 r d) = A (ix2 row d)

/-- A band slot within the sequence holds the row of the sequence it stands for. -/
theorem band_apply (X2 X3 X4 : Vec Ideal S128x1024 .bf16) (A : FVec Ideal S16384x1024 .bf16) (T : ℕ)
    (h2 : T % 16 ≠ 0 → RowsOf X2 A (T - 1)) (h3 : RowsOf X3 A T) (h4 : T % 16 ≠ 15 → RowsOf X4 A (T + 1))
    (kv : ℕ) (hkv : kv < 8) (c : Fin 384) (d : Fin 128) (hl : 128 ≤ c.val ∨ 0 < T % 16) (hu : c.val < 256 ∨ T % 16 < 15)
    (row : Fin 16384) (hrow : row.val + 128 = T * 128 + c.val) (col : Fin 1024) (hcol : col.val = 128 * kv + d.val) :
    k0_pay15 (F := Ideal) (tile X2 (128 * kv) (by omega)) (tile X3 (128 * kv) (by omega)) (tile X4 (128 * kv) (by omega)) (ix2 c d) = A (ix2 row col) := by
  have hc := c.isLt
  have e : (⟨128 * kv + d.val, by omega⟩ : Fin 1024) = col := Fin.ext hcol.symm
  rw [pay15_apply]
  by_cases h : c.val < 128
  · rw [dif_pos h, tile_apply, e]
    exact h2 (by omega) _ _ _ (by show row.val = (T - 1) * 128 + c.val; omega)
  · rw [dif_neg h]
    by_cases h' : c.val - 128 < 128
    · rw [dif_pos h', tile_apply, e]
      exact h3 _ _ _ (by show row.val = T * 128 + (c.val - 128); omega)
    · rw [dif_neg h', tile_apply, e]
      exact h4 (by omega) _ _ _ (by show row.val = (T + 1) * 128 + (c.val - 128 - 128); omega)

/-- The stacked queries of a head's four query heads. -/
theorem query_apply (X1 : Vec Ideal S128x4096 .bf16) (q : FVec Ideal S16384x4096 .bf16) (T : ℕ) (h1 : RowsOf X1 q T) (kv : ℕ) (hkv : kv < 8)
    (g : Fin 4) (i : Fin 128) (r : Fin 512) (hr : r.val = g.val * 128 + i.val) (x : Fin 128) (row : Fin 16384) (hrow : row.val = T * 128 + i.val)
    (col : Fin 4096) (hcol : col.val = kv * 512 + g.val * 128 + x.val) :
    k0_pay9 (F := Ideal) (tile X1 (512 * kv) (by omega)) (tile X1 (512 * kv + 128) (by omega)) (tile X1 (512 * kv + 256) (by omega))
      (tile X1 (512 * kv + 384) (by omega)) (ix2 r x) = q (ix2 row col) := by
  rw [pay9_apply]
  by_cases h : r.val < 128
  · rw [dif_pos h, tile_apply, show (⟨512 * kv + x.val, _⟩ : Fin 4096) = col from Fin.ext (by show 512 * kv + x.val = col.val; omega)]
    exact h1 _ _ _ (by show row.val = T * 128 + r.val; omega)
  · rw [dif_neg h]
    by_cases h' : r.val - 128 < 128
    · rw [dif_pos h', tile_apply, show (⟨512 * kv + 128 + x.val, _⟩ : Fin 4096) = col from Fin.ext (by show 512 * kv + 128 + x.val = col.val; omega)]
      exact h1 _ _ _ (by show row.val = T * 128 + (r.val - 128); omega)
    · rw [dif_neg h']
      by_cases h'' : r.val - 128 - 128 < 128
      · rw [dif_pos h'', tile_apply, show (⟨512 * kv + 256 + x.val, _⟩ : Fin 4096) = col from Fin.ext (by show 512 * kv + 256 + x.val = col.val; omega)]
        exact h1 _ _ _ (by show row.val = T * 128 + (r.val - 128 - 128); omega)
      · rw [dif_neg h'', tile_apply, show (⟨512 * kv + 384 + x.val, _⟩ : Fin 4096) = col from Fin.ext (by show 512 * kv + 384 + x.val = col.val; omega)]
        exact h1 _ _ _ (by show row.val = T * 128 + (r.val - 128 - 128 - 128); omega)

/-- The sink of a row of the stacked queries. -/
theorem sink_apply (X0 : Vec Ideal S32 .f32) (kv : ℕ) (hkv : kv < 8) (g : Fin 4) (i : Fin 128) (r : Fin 512) (hr : r.val = g.val * 128 + i.val) :
    k0_pay14 (F := Ideal) (k0_pay10 (sinkAt X0 (4 * kv) (by omega))) (k0_pay11 (sinkAt X0 (4 * kv + 1) (by omega))) (k0_pay12 (sinkAt X0 (4 * kv + 2) (by omega)))
      (k0_pay13 (sinkAt X0 (4 * kv + 3) (by omega))) (ix2 0 r) = X0 (ix1 ⟨kv * 4 + g.val, by omega⟩) := by
  rw [pay14_apply]
  simp only [sinkAt_apply]
  by_cases h : r.val < 128
  · rw [dif_pos h]
    exact congrArg X0 (congrArg ix1 (Fin.ext (by show 4 * kv = kv * 4 + g.val; omega)))
  · rw [dif_neg h]
    by_cases h' : r.val - 128 < 128
    · rw [dif_pos h']
      exact congrArg X0 (congrArg ix1 (Fin.ext (by show 4 * kv + 1 = kv * 4 + g.val; omega)))
    · rw [dif_neg h']
      by_cases h'' : r.val - 128 - 128 < 128
      · rw [dif_pos h'']
        exact congrArg X0 (congrArg ix1 (Fin.ext (by show 4 * kv + 2 = kv * 4 + g.val; omega)))
      · rw [dif_neg h'']
        exact congrArg X0 (congrArg ix1 (Fin.ext (by show 4 * kv + 3 = kv * 4 + g.val; omega)))

/-- The key a slot holds: the band's slots start 128 before the block, the cached keys follow the new ones. -/
def keyOf (ib : ℕ) : Fin 384 ⊕ Fin 512 → Fin 2560
  | .inl c => ⟨min (ib * 128 + c.val - 128) 2047, by omega⟩
  | .inr x => ⟨2048 + x.val, by omega⟩

/-- The slots a row may attend to. -/
def okOf (ib r : ℕ) : Fin 384 ⊕ Fin 512 → Prop
  | .inl c => okSlot ib r c.val
  | .inr _ => True

theorem dot_real {n : ℕ} (f g : Fin n → EReal) (hf : ∀ x, ∃ a : ℝ, f x = a) (hg : ∀ x, ∃ a : ℝ, g x = a) : ∃ a : ℝ, ∑ x, f x * g x = a := by
  choose a ha using hf
  choose b hb using hg
  refine ⟨∑ x, a x * b x, ?_⟩
  rw [← AttnMath.sum_coe]
  exact Finset.sum_congr rfl fun x _ => by rw [ha, hb, EReal.coe_mul]

/-- **One entry.** The block a point writes, at a row and a column, is the reference's attention there, given that the block's windows hold the
    rows of the arguments they should, and that the queries, keys, cached keys and sinks are real. -/
theorem entry (q : FVec Ideal S16384x4096 .bf16) (k v : FVec Ideal S16384x1024 .bf16) (ck cv : FVec Ideal S8x1x512x8x128 .f32) (sk : FVec Ideal S1x32 .f32)
    (hq : ∀ i, ∃ a : ℝ, q i = a) (hk : ∀ i, ∃ a : ℝ, k i = a) (hck : ∀ i, ∃ a : ℝ, ck i = a) (hsk : ∀ i, ∃ a : ℝ, sk i = a)
    (mk : IVec S384x512 1) (X0 : Vec Ideal S32 .f32) (X1 : Vec Ideal S128x4096 .bf16) (X2 X3 X4 X5 X6 X7 : Vec Ideal S128x1024 .bf16)
    (Z8 Z9 : Vec Ideal S512x1024 .bf16) (T : ℕ) (hT : T < 128)
    (hmk : ∀ c r, mk (ix2 c r) = BitVec.ofBool (decide (okSlot (T % 16) r.val c.val)))
    (h0 : ∀ h : Fin 32, X0 (ix1 h) = sk (ix2 0 h)) (h1 : RowsOf X1 q T)
    (h2 : T % 16 ≠ 0 → RowsOf X2 k (T - 1)) (h3 : RowsOf X3 k T) (h4 : T % 16 ≠ 15 → RowsOf X4 k (T + 1))
    (h5 : T % 16 ≠ 0 → RowsOf X5 v (T - 1)) (h6 : RowsOf X6 v T) (h7 : T % 16 ≠ 15 → RowsOf X7 v (T + 1))
    (h8 : ∀ (r : Fin 512) (x : Fin 1024) (kv : Fin 8) (d : Fin 128), x.val = 128 * kv.val + d.val → Z8 (ix2 r x) = ck (ix5 ⟨T / 16, by omega⟩ 0 r kv d))
    (h9 : ∀ (r : Fin 512) (x : Fin 1024) (kv : Fin 8) (d : Fin 128), x.val = 128 * kv.val + d.val → Z9 (ix2 r x) = cv (ix5 ⟨T / 16, by omega⟩ 0 r kv d))
    (y : S128x4096.Idx) (row : Fin 16384) (hrow : row.val = T * 128 + (y 0).val) (col : Fin 4096) (hcol : col.val = (y 1).val) :
    blkOut mk X0 X1 X2 X3 X4 X5 X6 X7 Z8 Z9 y = refOut (F := Ideal) q k v ck cv sk (ix2 row col) := by
  have hy0 : (y 0).val < 128 := (y 0).isLt
  have hy1 : (y 1).val < 4096 := (y 1).isLt
  obtain ⟨kv, hkv⟩ : ∃ kv : Fin 8, kv.val = (y 1).val / 512 := ⟨⟨(y 1).val / 512, by omega⟩, rfl⟩
  obtain ⟨g, hg⟩ : ∃ g : Fin 4, g.val = (y 1).val / 128 % 4 := ⟨⟨(y 1).val / 128 % 4, by omega⟩, rfl⟩
  obtain ⟨d, hd⟩ : ∃ d : Fin 128, d.val = (y 1).val % 128 := ⟨⟨(y 1).val % 128, by omega⟩, rfl⟩
  obtain ⟨r, hr⟩ : ∃ r : Fin 512, r.val = g.val * 128 + (y 0).val := ⟨⟨g.val * 128 + (y 0).val, by omega⟩, rfl⟩
  obtain ⟨b, hb⟩ : ∃ b : Fin 8, b.val = T / 16 := ⟨⟨T / 16, by omega⟩, rfl⟩
  obtain ⟨i, hi⟩ : ∃ i : Fin 2048, i.val = T % 16 * 128 + (y 0).val := ⟨⟨T % 16 * 128 + (y 0).val, by omega⟩, rfl⟩
  have eb : (⟨T / 16, by omega⟩ : Fin 8) = b := Fin.ext hb.symm
  rw [eb] at h8 h9
  rw [← blkOut_eq mk X0 X1 X2 X3 X4 X5 X6 X7 Z8 Z9 y kv.val (g.val * 128) kv.isLt (by omega) r d hr (by omega),
    refOut_apply q k v ck cv sk row col b kv g i d (by omega) (by omega)]
  obtain ⟨σ, hσ⟩ := hsk (ix2 0 ⟨kv.val * 4 + g.val, by omega⟩)
  unfold headBlk
  rw [hσ, headOut_apply _ _ _ _ _ _ _ _ _ _ _ _ _ _ _ _ _ r d _ rfl σ ((sink_apply X0 kv.val kv.isLt g ⟨(y 0).val, hy0⟩ r hr).trans ((h0 _).trans hσ))]
  -- the reference's keys, real
  have hK : ∀ t x, ∃ a : ℝ, refKeys (F := Ideal) k ck (ix4 b t kv x) = a := by
    intro t x
    rw [refKeys_apply]
    split
    · exact hk _
    · exact hck _
  -- the stacked queries
  have hQ : ∀ x, k0_pay9 (F := Ideal) (tile X1 (512 * kv.val) (by omega)) (tile X1 (512 * kv.val + 128) (by omega)) (tile X1 (512 * kv.val + 256) (by omega))
      (tile X1 (512 * kv.val + 384) (by omega)) (ix2 r x) = q (ix2 ⟨b.val * 2048 + i.val, by omega⟩ ⟨kv.val * 512 + g.val * 128 + x.val, by omega⟩) :=
    fun x => query_apply X1 q T h1 kv.val kv.isLt g ⟨(y 0).val, hy0⟩ r hr x _ (by show b.val * 2048 + i.val = T * 128 + (y 0).val; omega) _ rfl
  -- the raw scores of the slots a row may attend to
  have hsc : ∀ s, okOf (T % 16) r.val s → hS mk (k0_pay9 (F := Ideal) (tile X1 (512 * kv.val) (by omega)) (tile X1 (512 * kv.val + 128) (by omega))
        (tile X1 (512 * kv.val + 256) (by omega)) (tile X1 (512 * kv.val + 384) (by omega)))
        (tile X2 (128 * kv.val) (by omega)) (tile X3 (128 * kv.val) (by omega)) (tile X4 (128 * kv.val) (by omega)) (tile Z8 (128 * kv.val) (by omega)) r s
      = ∑ x : Fin 128, refKeys (F := Ideal) k ck (ix4 b (keyOf (T % 16) s) kv x)
          * q (ix2 ⟨b.val * 2048 + i.val, by omega⟩ ⟨kv.val * 512 + g.val * 128 + x.val, by omega⟩) := by
    rintro (c | x) h
    · have h : okSlot (T % 16) r.val c.val := h
      have hc := c.isLt
      have ht : (keyOf (T % 16) (.inl c)).val = T % 16 * 128 + c.val - 128 := by
        show min (T % 16 * 128 + c.val - 128) 2047 = _
        omega
      show Scalar.select (mk (ix2 c r)) _ (⊥ : EReal) = _
      rw [hmk, select_ofBool, if_pos h]
      refine Finset.sum_congr rfl fun x _ => ?_
      rw [hQ, refKeys_apply, dif_pos (by omega)]
      exact congrArg (· * _) (band_apply X2 X3 X4 k T h2 h3 h4 kv.val kv.isLt c x h.2.1 h.2.2 _
        (by show b.val * 2048 + (keyOf (T % 16) (.inl c)).val + 128 = T * 128 + c.val; omega) _ (by show kv.val * 128 + x.val = 128 * kv.val + x.val; omega))
    · rw [hS, Sum.elim_inr]
      refine Finset.sum_congr rfl fun x' _ => congrArg₂ (· * ·) ?_ (hQ x')
      rw [refKeys_apply, dif_neg (by show ¬ 2048 + x.val < 2048; omega), tile_apply, h8 _ _ kv x' rfl]
      exact congrArg (fun j => ck (ix5 b 0 j kv x')) (Fin.ext (by show x.val = 2048 + x.val - 2048; omega))
  refine AttnMath.softmax_eq _ _ (fun t => refScores (F := Ideal) q k ck (ix5 b kv g i t)) (fun t => refKeys (F := Ideal) v cv (ix4 b t kv d)) σ
    (keyOf (T % 16)) (okOf (T % 16) r.val) ?_ ?_ ?_ ?_ ?_ ?_
  · intro s h
    rw [hsc s h]
    exact dot_real _ _ (fun x => hK _ x) (fun x => hq _)
  · rintro (c | x) h
    · show Scalar.select (mk (ix2 c r)) _ (⊥ : EReal) = _
      rw [hmk, select_ofBool, if_neg (show ¬ okSlot (T % 16) r.val c.val from h)]
    · exact absurd trivial h
  · intro s h
    rw [hsc s h]
    beta_reduce
    rw [refScores_apply, refMask_apply, if_pos]
    · rfl
    · rcases s with c | x
      · have h : okSlot (T % 16) r.val c.val := h
        have hc := c.isLt
        show min (T % 16 * 128 + c.val - 128) 2047 < 2048 → (min (T % 16 * 128 + c.val - 128) 2047 ≤ _ ∧ _ ≤ min (T % 16 * 128 + c.val - 128) 2047 + 128)
        omega
      · show 2048 + x.val < 2048 → _
        omega
  · rintro (c | x) h
    · have h : okSlot (T % 16) r.val c.val := h
      have hc := c.isLt
      have ht : (keyOf (T % 16) (.inl c)).val = T % 16 * 128 + c.val - 128 := by
        show min (T % 16 * 128 + c.val - 128) 2047 = _
        omega
      beta_reduce
      rw [refKeys_apply, dif_pos (by omega)]
      exact (band_apply X5 X6 X7 v T h5 h6 h7 kv.val kv.isLt c d h.2.1 h.2.2 _
        (by show b.val * 2048 + (keyOf (T % 16) (.inl c)).val + 128 = T * 128 + c.val; omega) _ (by show kv.val * 128 + d.val = 128 * kv.val + d.val; omega)).symm
    · beta_reduce
      rw [hV, Sum.elim_inr, refKeys_apply, dif_neg (by show ¬ 2048 + x.val < 2048; omega), tile_apply, h9 _ _ kv d rfl]
      exact congrArg (fun j => cv (ix5 b 0 j kv d)) (Fin.ext (by show 2048 + x.val - 2048 = x.val; omega))
  · rintro (c | x) (c' | x') h h' he
    · have h : okSlot (T % 16) r.val c.val := h
      have h' : okSlot (T % 16) r.val c'.val := h'
      have hc := c.isLt
      have hc' := c'.isLt
      have he := congrArg Fin.val he
      have he : min (T % 16 * 128 + c.val - 128) 2047 = min (T % 16 * 128 + c'.val - 128) 2047 := he
      exact congrArg Sum.inl (Fin.ext (by omega))
    · have he := congrArg Fin.val he
      have he : min (T % 16 * 128 + c.val - 128) 2047 = 2048 + x'.val := he
      omega
    · have he := congrArg Fin.val he
      have he : 2048 + x.val = min (T % 16 * 128 + c'.val - 128) 2047 := he
      omega
    · have he := congrArg Fin.val he
      have he : 2048 + x.val = 2048 + x'.val := he
      exact congrArg Sum.inr (Fin.ext (by omega))
  · intro t h
    have ht := t.isLt
    beta_reduce
    rw [refScores_apply, refMask_apply, if_neg]
    · rfl
    · intro hin
      refine h ?_
      by_cases hlt : t.val < 2048
      · have hin := hin hlt
        refine ⟨.inl ⟨t.val + 128 - T % 16 * 128, by omega⟩, ?_, Fin.ext ?_⟩
        · show okSlot (T % 16) r.val (t.val + 128 - T % 16 * 128)
          refine ⟨?_, ?_, ?_⟩ <;> omega
        · show min (T % 16 * 128 + (t.val + 128 - T % 16 * 128) - 128) 2047 = t.val
          omega
      · exact ⟨.inr ⟨t.val - 2048, by omega⟩, trivial, Fin.ext (by show 2048 + (t.val - 2048) = t.val; omega)⟩

end Cert.Proof.Attn
-- ==== Proof.AttnValue.lean ====
module

public import proofs.«01_k».proof.Proof.AttnPoint
public import proofs.«01_k».proof.Proof.AttnEq

@[expose] public section

set_option maxRecDepth 16384
noncomputable section

/-! # The latent attention's output array is the reference's -/

namespace Cert.Proof.Attn
open Cert.KernelIdeal Cert.KernelIdeal.Gen Idealize.ShloMosaic Idealize.ShloMosaic.TcCoe Idealize.SL.Sem
open Idealize.ShloMosaic.Pipeline (Dat)
open Cert.Proof.AttnRef

variable (m : (ℓ : Loc nD τ sig) → Buf (Elt Ideal) ℓ) (c : Dev nD)

theorem RowsOf.of {n w : ℕ} (X : (⟨2, ![128, w]⟩ : Shape).Idx → EReal) (A : (⟨2, ![n, w]⟩ : Shape).Idx → EReal) (T : ℕ) {hn : ∀ r : Fin 128, T * 128 + r.val < n}
    (h : ∀ r d, X (ix2 r d) = A (ix2 ⟨T * 128 + r.val, hn r⟩ d)) : RowsOf X A T := fun r d row hrow =>
  (h r d).trans (congrArg (fun j => A (ix2 j d)) (Fin.ext hrow.symm))

/-- The array the kernel leaves, where the queries, keys, cached keys and sinks are real. -/
theorem value
    (hq : ∀ i, ∃ a : ℝ, (m ((c : Thread nD τ).loc main_arg0) : FVec Ideal S16384x4096 .bf16) i = (a : EReal))
    (hk : ∀ i, ∃ a : ℝ, (m ((c : Thread nD τ).loc main_arg1) : FVec Ideal S16384x1024 .bf16) i = (a : EReal))
    (hck : ∀ i, ∃ a : ℝ, (m ((c : Thread nD τ).loc main_arg3) : FVec Ideal S8x1x512x8x128 .f32) i = (a : EReal))
    (hsk : ∀ i, ∃ a : ℝ, (m ((c : Thread nD τ).loc main_arg5) : FVec Ideal S1x32 .f32) i = (a : EReal)) :
    (dats m 0 c).arrAt 10 cfg0.N = refOut (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  have ht := (point_lt t).1
  have hi := (idx t).2.2.2.2.2.2.2.2.2.2
  blk_simp
  rw [after0_10, outs_eq]
  refine (entry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) hq hk hck hsk _ _ _ _ _ _ _ _ _ _ _ t.val ht ?_ (blk0 m c t) ?_ ?_ ?_ ?_ ?_ ?_ ?_
    (fun r x kv d hx => cacheOf_apply _ _ _ r x kv d hx) (fun r x kv d hx => cacheOf_apply _ _ _ r x kv d hx) y
    ⟨t.val * 128 + (y 0).val, by have h : (y 0).val < 128 := (y 0).isLt; omega⟩ rfl ⟨(y 1).val, (y 1).isLt⟩ rfl).trans ?_
  · intro cc r
    rw [pay8_apply, (point_lt t).2]
  · exact RowsOf.of _ _ _ (blk1 m c t)
  · exact fun h => RowsOf.of _ _ _ (blk2 m c t h)
  · exact RowsOf.of _ _ _ (blk3 m c t)
  · exact fun h => RowsOf.of _ _ _ (blk4 m c t h)
  · exact fun h => RowsOf.of _ _ _ (blk5 m c t h)
  · exact RowsOf.of _ _ _ (blk6 m c t)
  · exact fun h => RowsOf.of _ _ _ (blk7 m c t h)
  · refine congrArg _ ?_
    blk_ext [hi]

end Cert.Proof.Attn
-- ==== Proof.PreFacts.lean ====
module

public import proofs.«01_k».proof.Pre_finite_scores
public import Idealize.ShloMosaic.Lib.ReduceAll
public import Idealize.ShloMosaic.Lib.KernelVsHost

@[expose] public section

noncomputable section

/-! # What the precondition says: the queries, keys, cached keys and sinks are real -/

namespace Cert.Proof.PreFacts
open Idealize.ShloMosaic Cert.Pre_finite_scores

theorem facts : Cert.Pre_finite_scores.Facts where
  bitsLt_bf16_f32 := by decide
  bcast_S_S16384x4096 := by decide
  reducesTo_S16384x4096_S_d0_1 := by decide
  h_S_ := by decide
  bcast_S_S16384x1024 := by decide
  reducesTo_S16384x1024_S_d0_1 := by decide
  bcast_S_S8x1x512x8x128 := by decide
  reducesTo_S8x1x512x8x128_S_d0_1_2_3_4 := by decide
  bcast_S_S1x32 := by decide
  reducesTo_S1x32_S_d0_1 := by decide

theorem ofBits_inf : Ideal.ofBits .f32 0x7F800000#32 = ⊤ := by simp [Ideal.ofBits, Ideal.ieee]

/-- An extended real whose absolute value is less than infinity is real. -/
theorem real_of_lt (x : EReal) (h : Ideal.cmp .olt (max x (-x)) ⊤ = 1#1) : ∃ a : ℝ, x = a := by
  induction x using EReal.rec with
  | bot => exact absurd h (by simp [Ideal.cmp])
  | top => exact absurd h (by simp [Ideal.cmp])
  | coe a => exact ⟨a, rfl⟩

instance : Subsingleton S_.Idx := ⟨fun a b => funext fun i => i.elim0⟩

/-- One array's part of the precondition. -/
theorem all_real {s : Shape} {axes : List (Fin s.rank)} (X : FVec Ideal s .f32) (hb : S_.BroadcastsInDim s (![] : Fin 0 → Fin s.rank))
    (hr : s.ReducesTo axes S_) (hu : 0 < S_.numel) (j : S_.Idx)
    (e : Host.reduce IntOp.andi (cmpf .olt (Host.absf X) (broadcastInDim s ![] hb (constant (F := Ideal) S_ .f32 0x7F800000#32))) (constantI S_ 1 1#1) hr hu j = 1#1)
    (i : s.Idx) : ∃ a : ℝ, X i = a := by
  have h := Host.reduce_andi_all _ _ _ _ j e i
  refine real_of_lt (X i) ?_
  rw [← ofBits_inf]
  exact h

theorem andi_one {a b : BitVec 1} (h : IntOp.andi a b = 1#1) : a = 1#1 ∧ b = 1#1 := by
  revert a b
  decide

/-- What the precondition says. -/
theorem real_of_pre (hF : Cert.Pre_finite_scores.Facts) (q : FVec Ideal S16384x4096 .bf16) (k v : FVec Ideal S16384x1024 .bf16) (ck cv : FVec Ideal S8x1x512x8x128 .f32) (sk : FVec Ideal S1x32 .f32)
    (h : ∀ j, Cert.Pre_finite_scores.fn (F := Ideal) q k v ck cv sk j = 1#1) :
    (∀ i, ∃ a : ℝ, q i = a) ∧ (∀ i, ∃ a : ℝ, k i = a) ∧ (∀ i, ∃ a : ℝ, ck i = a) ∧ ∀ i, ∃ a : ℝ, sk i = a := by
  have h := h (Shape.Idx.first (by decide))
  unfold fn fn_part1 at h
  obtain ⟨h, hsk⟩ := andi_one h
  obtain ⟨h, hck⟩ := andi_one h
  obtain ⟨hq, hk⟩ := andi_one h
  exact ⟨all_real (extf .f32 q Facts.bitsLt_bf16_f32) _ _ _ _ hq, all_real (extf .f32 k Facts.bitsLt_bf16_f32) _ _ _ _ hk, all_real ck _ _ _ _ hck, all_real sk _ _ _ _ hsk⟩

end Cert.Proof.PreFacts
-- ==== Proof.Consts.lean ====
module

public import proofs.«01_k».proof.Defs

@[expose] public section

noncomputable section

namespace Cert.Proof
open Idealize.ShloMosaic

/-- The named constants stand for the words they replace. -/
theorem preserves_Kernel_KernelIdeal : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Proof
-- ==== Proof.Taps.lean ====
/- The masks of the three-tap convolution: a row number below 2048 is compared with the ends of its batch. -/
module

public import Idealize.ShloMosaic.Lib.Pipeline.ValueKit

@[expose] public section

set_option maxRecDepth 16384

namespace Cert.Proof.Taps

open Idealize.ShloMosaic

theorem low (n : Nat) (h : n < 2048) : IntOp.andi (BitVec.ofNat 32 n) 2047#32 = BitVec.ofNat 32 n := by
  apply BitVec.eq_of_toNat_eq
  have e : (BitVec.ofNat 32 n &&& 2047#32).toNat = n % 2048 := by
    rw [BitVec.toNat_and, BitVec.toNat_ofNat, show (2047#32).toNat = 2 ^ 11 - 1 from rfl, Nat.and_two_pow_sub_one_eq_mod]
    omega
  rw [show IntOp.andi (BitVec.ofNat 32 n) 2047#32 = BitVec.ofNat 32 n &&& 2047#32 from rfl, e, BitVec.toNat_ofNat]
  omega

/-- A row selects the first value where the row is number `e`, the second elsewhere. -/
theorem sel {α : Type} (n e : Nat) (h : n < 2048) (he : e < 2048) (a b : α) :
    Scalar.select (IntOp.cmpi .eq (IntOp.andi (BitVec.ofNat 32 n) 2047#32) (BitVec.ofNat 32 e)) a b = if n = e then a else b := by
  rw [low n h, Scalar.select_def]
  by_cases q : n = e
  · subst q; simp [IntOp.cmpi]
  · have : BitVec.ofNat 32 n ≠ BitVec.ofNat 32 e := fun hh => q (by
      have := congrArg BitVec.toNat hh
      simp only [BitVec.toNat_ofNat] at this
      omega)
    have f : (BitVec.ofNat 32 n == BitVec.ofNat 32 e) = false := by simpa using this
    simp [IntOp.cmpi, q, f]

theorem sel_first {α : Type} (n : Nat) (h : n < 2048) (a b : α) :
    Scalar.select (IntOp.cmpi .eq (IntOp.andi (BitVec.ofNat 32 n) 2047#32) 0#32) a b = if n = 0 then a else b :=
  sel n 0 h (by decide) a b

theorem sel_last {α : Type} (n : Nat) (h : n < 2048) (a b : α) :
    Scalar.select (IntOp.cmpi .eq (IntOp.andi (BitVec.ofNat 32 n) 2047#32) 2047#32) a b = if n = 2047 then a else b :=
  sel n 2047 h (by decide) a b

/-- The three-tap convolution at a row: the row before (zero at the batch's first row), the row, the row after (zero at the
    batch's last row), each by its weight. -/
noncomputable def conv3 (first last : Prop) [Decidable first] [Decidable last] (p u n k0 k1 k2 : EReal) : EReal :=
  (if first then 0 else p) * k0 + u * k1 + (if last then 0 else n) * k2

theorem conv3_congr {f f' l l' : Prop} [Decidable f] [Decidable f'] [Decidable l] [Decidable l'] {p p' u u' n n' k0 k0' k1 k1' k2 k2' : EReal}
    (hf : f ↔ f') (hl : l ↔ l') (hp : ¬ f → p = p') (hu : u = u') (hn : ¬ l → n = n') (h0 : k0 = k0') (h1 : k1 = k1') (h2 : k2 = k2') :
    conv3 f l p u n k0 k1 k2 = conv3 f' l' p' u' n' k0' k1' k2' := by
  unfold conv3
  rw [hu, h0, h1, h2]
  congr 2
  · congr 1
    by_cases q : f
    · rw [if_pos q, if_pos (hf.1 q)]
    · rw [if_neg q, if_neg (fun x => q (hf.2 x)), hp q]
  · by_cases q : l
    · rw [if_pos q, if_pos (hl.1 q)]
    · rw [if_neg q, if_neg (fun x => q (hl.2 x)), hn q]

end Cert.Proof.Taps
-- ==== Proof.Up.lean ====
/- The up projection of the latent rows (ffn_up of the latent rows): gate and value projections, the three-tap convolution of the
   gate, its swish times the value. The kernel's result array and the reference's are the same function of the arguments. -/
module

public import proofs.«01_k».proof.Defs
public import proofs.«01_k».proof.Proof.Gen.KernelUp.Frame
public import proofs.«01_k».proof.Proof.Gen.KernelUpIdeal.Value
public import proofs.«01_k».proof.Proof.Gen.ReferenceUpIdeal.Run
public import proofs.«01_k».proof.Proof.Taps
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section
namespace Cert.Proof.UpRef

open Idealize.ShloMosaic Cert.ReferenceUpIdeal Cert.ReferenceUpIdeal.Gen

/-- The projection: the rows by the weights. -/
def proj (x : FVec Ideal S16384x4096 .bf16) (w : FVec Ideal S1x4096x22016 .f32) : FVec Ideal S16384x22016 .f32 :=
  Host.dotGeneral dot_S16384x4096_S4096x22016_S16384x22016_1_0_0_1_n_n none (extf .f32 x bitsLt_bf16_f32) (shapeCast _ w shapeCasts_S1x4096x22016_S4096x22016)

/-- The gate columns of the projection. -/
def gate (x : FVec Ideal S16384x4096 .bf16) (w : FVec Ideal S1x4096x22016 .f32) : FVec Ideal S16384x11008 .f32 :=
  extractStridedSlice S16384x11008 ![0, 0] (proj x w) slices_S16384x22016_S16384x11008_0_0

/-- The value columns of the projection. -/
def val (x : FVec Ideal S16384x4096 .bf16) (w : FVec Ideal S1x4096x22016 .f32) : FVec Ideal S16384x11008 .f32 :=
  extractStridedSlice S16384x11008 ![0, 11008] (proj x w) slices_S16384x22016_S16384x11008_0_11008

/-- Each batch's rows between two rows of zeros. -/
def padded (u : FVec Ideal S16384x11008 .f32) : FVec Ideal S8x2050x11008 .f32 :=
  pad S8x2050x11008 ![0, 1, 0] ![0, 1, 0] ![0, 0, 0] (shapeCast S8x2048x11008 u shapeCasts_S16384x11008_S8x2048x11008) (sitofp .f32 (constantI S_ 32 0#32)) pads_S8x2048x11008_S8x2050x11008_000_110_000 h_S_

theorem padded_at (u : FVec Ideal S16384x11008 .f32) (a : Fin 8) (b : Fin 2050) (c : Fin 11008) :
    padded u (ix3 a b c) = if b.val = 0 ∨ b.val = 2049 then 0 else u (ix2 ⟨(a.val * 2048 + b.val - 1) % 16384, by omega⟩ c) := by
  pointwise [padded]
  by_cases h : b.val = 0 ∨ b.val = 2049
  · rw [if_pos h, dif_neg (by omega)]
    show (((0#32 : BitVec 32).toInt : ℝ) : EReal) = 0
    simp
  · rw [if_neg h, dif_pos (by omega)]
    refine congrArg u (congrArg (fun r => ix2 r c) (Fin.ext ?_))
    dsimp only
    omega

/-- One weight row over every batch and row. -/
abbrev row (x : FVec Ideal S1x11008 .f32) : FVec Ideal S8x2048x11008 .f32 :=
  broadcastInDim S8x2048x11008 ![0, 1, 2] bcast_S1x1x11008_S8x2048x11008_0_1_2 (broadcastInDim S1x1x11008 ![2] bcast_S11008_S1x1x11008_2 (shapeCast _ x shapeCasts_S1x11008_S11008))

/-- The three-tap convolution along each batch's rows. -/
def conv (u : FVec Ideal S16384x11008 .f32) (k : FVec Ideal S1x3x11008 .f32) : FVec Ideal S16384x11008 .f32 :=
  shapeCast _ (addf (addf
      (mulf (extractStridedSlice S8x2048x11008 ![0, 0, 0] (padded u) slices_S8x2050x11008_S8x2048x11008_0_0_0)
        (row (extractStridedSlice S1x11008 ![0, 0] (shapeCast _ k shapeCasts_S1x3x11008_S3x11008) slices_S3x11008_S1x11008_0_0)))
      (mulf (extractStridedSlice S8x2048x11008 ![0, 1, 0] (padded u) slices_S8x2050x11008_S8x2048x11008_0_1_0)
        (row (extractStridedSlice S1x11008 ![1, 0] (shapeCast _ k shapeCasts_S1x3x11008_S3x11008) slices_S3x11008_S1x11008_1_0))))
      (mulf (extractStridedSlice S8x2048x11008 ![0, 2, 0] (padded u) slices_S8x2050x11008_S8x2048x11008_0_2_0)
        (row (extractStridedSlice S1x11008 ![2, 0] (shapeCast _ k shapeCasts_S1x3x11008_S3x11008) slices_S3x11008_S1x11008_2_0))))
    shapeCasts_S8x2048x11008_S16384x11008

set_option maxHeartbeats 1600000 in
theorem conv_at (u : FVec Ideal S16384x11008 .f32) (k : FVec Ideal S1x3x11008 .f32) (r : Fin 16384) (q : Fin 11008) :
    conv u k (ix2 r q) = Taps.conv3 (r.val % 2048 = 0) (r.val % 2048 = 2047)
      (u (ix2 ⟨(r.val - 1) % 16384, by omega⟩ q)) (u (ix2 r q)) (u (ix2 ⟨(r.val + 1) % 16384, by omega⟩ q))
      (k (ix3 0 0 q)) (k (ix3 0 1 q)) (k (ix3 0 2 q)) := by
  pointwise [conv]
  simp only [padded_at]
  unfold Taps.conv3
  refine congrArg₂ (· + ·) (congrArg₂ (· + ·) (congrArg (· * _) ?_) (congrArg (· * _) ?_)) (congrArg (· * _) ?_)
  · by_cases h : r.val % 2048 = 0
    · rw [if_pos h, if_pos (Or.inl h)]
    · rw [if_neg h, if_neg (by omega)]
      refine congrArg (fun a => u (ix2 a q)) (Fin.ext ?_)
      dsimp only
      omega
  · rw [if_neg (by omega)]
    refine congrArg (fun a => u (ix2 a q)) (Fin.ext ?_)
    dsimp only
    omega
  · by_cases h : r.val % 2048 = 2047
    · rw [if_pos h, if_pos (by omega)]
    · rw [if_neg h, if_neg (by omega)]
      refine congrArg (fun a => u (ix2 a q)) (Fin.ext ?_)
      dsimp only
      omega

theorem gate_at (x : FVec Ideal S16384x4096 .bf16) (w : FVec Ideal S1x4096x22016 .f32) (r : Fin 16384) (q : Fin 11008) :
    gate x w (ix2 r q) = ∑ k : Fin 4096, x (ix2 r k) * w (ix3 0 k ⟨q.val, by omega⟩) := by
  pointwise [gate, proj]

theorem val_at (x : FVec Ideal S16384x4096 .bf16) (w : FVec Ideal S1x4096x22016 .f32) (r : Fin 16384) (q : Fin 11008) :
    val x w (ix2 r q) = ∑ k : Fin 4096, x (ix2 r k) * w (ix3 0 k ⟨11008 + q.val, by omega⟩) := by
  pointwise [val, proj]

/-- The reference's result as a term of its arguments. -/
def ref (x : FVec Ideal S16384x4096 .bf16) (w : FVec Ideal S1x4096x22016 .f32) (k : FVec Ideal S1x3x11008 .f32) : FVec Ideal S16384x11008 .bf16 :=
  truncf .bf16 (mulf (mulf (conv (gate x w) k)
    (Host.divf (broadcastInDim S16384x11008 ![] bcast_S_S16384x11008 (constant (F := Ideal) S_ .f32 0x3F800000#32))
      (addf (broadcastInDim S16384x11008 ![] bcast_S_S16384x11008 (constant (F := Ideal) S_ .f32 0x3F800000#32)) (Host.exp (Host.negf (conv (gate x w) k))))))
    (val x w)) bitsLt_bf16_f32

theorem ref_at (x : FVec Ideal S16384x4096 .bf16) (w : FVec Ideal S1x4096x22016 .f32) (k : FVec Ideal S1x3x11008 .f32) (i : S16384x11008.Idx) :
    ref x w k i = conv (gate x w) k i * Ideal.logistic (conv (gate x w) k i) * val x w i := by
  unfold ref
  generalize conv (gate x w) k = g
  generalize val x w = v
  pointwise
  rfl

theorem ref_eq (m : (ℓ : Loc Cert.ReferenceUpIdeal.nD Cert.ReferenceUpIdeal.τ Cert.ReferenceUpIdeal.sig) → Buf (Elt Ideal) ℓ) (c : Dev Cert.ReferenceUpIdeal.nD) :
    Cert.ReferenceUpIdeal.Value.res_main_v31 m c = ref (m ((c.tc : Thread Cert.ReferenceUpIdeal.nD Cert.ReferenceUpIdeal.τ).loc main_arg0)) (m ((c.tc : Thread Cert.ReferenceUpIdeal.nD Cert.ReferenceUpIdeal.τ).loc main_arg1)) (m ((c.tc : Thread Cert.ReferenceUpIdeal.nD Cert.ReferenceUpIdeal.τ).loc main_arg2)) := rfl

end Cert.Proof.UpRef

namespace Cert.Proof.Up

open Idealize.ShloMosaic Idealize.ShloMosaic.TcCoe Idealize.SL.Sem
open Cert.KernelUpIdeal Cert.KernelUpIdeal.Gen

set_option maxHeartbeats 2000000 in
/-- The four row chunks' products, stacked, are the rows by the weights. -/
theorem tile (h : Vec Ideal S2048x4096 .bf16) (w : Vec Ideal S4096x256 .bf16) (y : S2048x256.Idx) :
    k0_pay2 w (View.ld h r0_1) (View.ld h r0_2) (View.ld h r0_3) (View.ld h r0_4) y = ∑ k : Fin 4096, h (ix2 (y 0) k) * w (ix2 k (y 1)) := by
  pointwise [k0_pay2]
  split_ifs <;> refine Finset.sum_congr rfl fun k _ => congrArg (fun i => h i * w (ix2 k (y 1))) (congrArg (fun a => ix2 a k) (Fin.ext ?_)) <;> dsimp only <;> omega

/-- The row after, zero at the last row. -/
theorem last_at (w : Vec Ideal S4096x256 .bf16) (a b c d) (y : S2048x256.Idx) :
    k0_pay5 w a b c d y = if (y 0).val = 2047 then 0 else k0_pay2 w a b c d (ix2 ⟨((y 0).val + 1) % 2048, by omega⟩ (y 1)) := by
  have hy : (y 0).val < 2048 := (y 0).isLt
  unfold k0_pay5
  generalize k0_pay2 w a b c d = g
  pointwise [k0_pay4]
  rw [Taps.sel_last _ hy]
  refine congrArg (fun r => if (y 0).val = 2047 then 0 else g (ix2 r (y 1))) (Fin.ext ?_)
  dsimp only
  omega

/-- The row before, zero at the first row, by its weight. -/
theorem first_at (w : Vec Ideal S4096x256 .bf16) (a b c d) (k : Vec Ideal S3x256 .f32) (y : S2048x256.Idx) :
    k0_pay6 w a b c d k y = (if (y 0).val = 0 then 0 else k0_pay2 w a b c d (ix2 ⟨((y 0).val - 1) % 2048, by omega⟩ (y 1))) * k (ix2 0 (y 1)) := by
  have hy : (y 0).val < 2048 := (y 0).isLt
  unfold k0_pay6
  generalize k0_pay2 w a b c d = g
  pointwise [k0_pay4, k0_pay3]
  rw [Taps.sel_first _ hy]
  by_cases q : (y 0).val = 0
  · simp [q]
  · rw [if_neg q, if_neg q]
    refine congrArg (fun r => g (ix2 r (y 1)) * k (ix2 0 (y 1))) (Fin.ext ?_)
    dsimp only
    omega

theorem body (v10 : FVec Ideal S2048x256 .f32) (v12 : FVec Ideal S3x256 .f32) (v29 v32 v34 : FVec Ideal S2048x256 .f32) (w : Vec Ideal S4096x256 .bf16) (a b c d) (y : S2048x256.Idx) :
    k0_pay1 v10 v12 v29 v32 v34 w a b c d y = (v32 y + v10 y * v34 y + v29 y * v12 (ix2 2 (y 1))) *
        Ideal.logistic (v32 y + v10 y * v34 y + v29 y * v12 (ix2 2 (y 1))) * k0_pay2 w a b c d y := by
  have e : k0_pay1 v10 v12 v29 v32 v34 w a b c d = truncf .bf16 (mulf (mulf (addf (addf v32 (mulf v10 v34)) (mulf v29 (broadcastTo S2048x256 (extractStridedSlice S1x256 ![2, 0] v12 slices_S3x256_o2_0_S1x256) broadcasts_S1x256_S2048x256)))
    (logistic (addf (addf v32 (mulf v10 v34)) (mulf v29 (broadcastTo S2048x256 (extractStridedSlice S1x256 ![2, 0] v12 slices_S3x256_o2_0_S1x256) broadcasts_S1x256_S2048x256))))) (k0_pay2 w a b c d)) bitsLt_bf16_f32 := rfl
  rw [e]
  generalize k0_pay2 w a b c d = g
  pointwise

/-- The rows by the weights at a row and a column of the blocks. -/
abbrev dot (h : Vec Ideal S2048x4096 .bf16) (w : Vec Ideal S4096x256 .bf16) (r : Fin 2048) (q : Fin 256) : EReal :=
  ∑ k : Fin 4096, h (ix2 r k) * w (ix2 k q)

/-- The convolved gate at an index of the block. -/
def cgate (h : Vec Ideal S2048x4096 .bf16) (w : Vec Ideal S4096x256 .bf16) (k : Vec Ideal S3x256 .f32) (y : S2048x256.Idx) : EReal :=
  Taps.conv3 ((y 0).val = 0) ((y 0).val = 2047) (dot h w ⟨((y 0).val - 1) % 2048, by omega⟩ (y 1)) (dot h w (y 0) (y 1))
    (dot h w ⟨((y 0).val + 1) % 2048, by omega⟩ (y 1)) (k (ix2 0 (y 1))) (k (ix2 1 (y 1))) (k (ix2 2 (y 1)))

/-- What a grid point stores, of its blocks. -/
theorem stored (h : Vec Ideal S2048x4096 .bf16) (w v : Vec Ideal S4096x256 .bf16) (k : Vec Ideal S3x256 .f32) (y : S2048x256.Idx) :
    k0_pay1 (k0_pay2 w (View.ld h r0_1) (View.ld h r0_2) (View.ld h r0_3) (View.ld h r0_4)) (k0_pay3 k)
      (k0_pay5 w (View.ld h r0_1) (View.ld h r0_2) (View.ld h r0_3) (View.ld h r0_4))
      (k0_pay6 w (View.ld h r0_1) (View.ld h r0_2) (View.ld h r0_3) (View.ld h r0_4) k) (k0_pay7 k) v
      (View.ld h r0_1) (View.ld h r0_2) (View.ld h r0_3) (View.ld h r0_4) y
      = cgate h w k y * Ideal.logistic (cgate h w k y) * dot h v (y 0) (y 1) := by
  have e3 : k0_pay3 k (ix2 2 (y 1)) = k (ix2 2 (y 1)) := by pointwise [k0_pay3]
  have e7 : k0_pay7 k y = k (ix2 1 (y 1)) := by pointwise [k0_pay7, k0_pay3]
  rw [body, last_at, first_at, e3, e7]
  simp only [tile]
  rfl

theorem flat_w (w : FVec Ideal S1x4096x22016 .f32) (k : Fin 4096) (q : Fin 22016) :
    (truncf .bf16 (shapeCast S4096x22016 w shapeCasts_S1x4096x22016_S4096x22016) bitsLt_bf16_f32 : FVec Ideal S4096x22016 .bf16) (ix2 k q) = w (ix3 0 k q) := by
  pointwise

theorem flat_k (w : FVec Ideal S1x3x11008 .f32) (j : Fin 3) (q : Fin 11008) :
    (shapeCast S3x11008 w shapeCasts_S1x3x11008_S3x11008 : FVec Ideal S3x11008 .f32) (ix2 j q) = w (ix3 0 j q) := by
  pointwise

variable (m : (ℓ : Loc nD τ sig) → Buf (Elt Ideal) ℓ)

/-- Each window's block index at a grid point. -/
theorem idx : ∀ t : Fin cfg0.N, win0_0.index t = ![(grid0.coords t 0).val, 0] ∧ win0_1.index t = ![0, (grid0.coords t 1).val]
    ∧ win0_2.index t = ![0, 43 + (grid0.coords t 1).val] ∧ win0_3.index t = ![0, (grid0.coords t 1).val]
    ∧ win0_4.index t = ![(grid0.coords t 0).val, (grid0.coords t 1).val] :=
  (by decide +kernel : ∀ t : Fin grid0.N, _)

/-- The weights and the taps as the kernel reads them. -/
theorem vx (c : Dev nD) : V m c main_arg0 = m ((c : Thread nD τ).loc main_arg0) := by
  unfold V
  after_results

theorem vw (c : Dev nD) : V m c main_v1 = (truncf .bf16 (shapeCast S4096x22016 (m ((c : Thread nD τ).loc main_arg1) : FVec Ideal S1x4096x22016 .f32) shapeCasts_S1x4096x22016_S4096x22016) bitsLt_bf16_f32 : FVec Ideal S4096x22016 .bf16) := by
  unfold V
  after_results
  rfl

theorem vk (c : Dev nD) : V m c main_v2 = shapeCast _ (m ((c : Thread nD τ).loc main_arg2)) shapeCasts_S1x3x11008_S3x11008 := by
  unfold V
  after_results
  rfl

theorem vw_at (c : Dev nD) (k : Fin 4096) (q : Fin 22016) : V m c main_v1 (ix2 k q) = m ((c : Thread nD τ).loc main_arg1) (ix3 0 k q) := by
  rw [vw]
  exact flat_w _ k q

theorem vk_at (c : Dev nD) (j : Fin 3) (q : Fin 11008) : V m c main_v2 (ix2 j q) = m ((c : Thread nD τ).loc main_arg2) (ix3 0 j q) := by
  rw [vk]
  exact flat_k _ j q

theorem rows_blk (c : Dev nD) (t : Fin cfg0.N) (r : Fin 2048) (k : Fin 4096) (r' : Fin 16384) (h : r'.val = (grid0.coords t 0).val * 2048 + r.val) :
    iblk m c 0 t (ix2 r k) = m ((c : Thread nD τ).loc main_arg0) (ix2 r' k) := by
  have e : (win0_0.blk t).view.emb (ix2 r k) = (ix2 r' k : S16384x4096.Idx) := by blk_ext [idx t]
  blk_simp [iblk]
  rw [e, vx]

theorem gate_w (c : Dev nD) (t : Fin cfg0.N) (k : Fin 4096) (q : Fin 256) (q' : Fin 22016) (h : q'.val = (grid0.coords t 1).val * 256 + q.val) :
    iblk m c 1 t (ix2 k q) = m ((c : Thread nD τ).loc main_arg1) (ix3 0 k q') := by
  have e : (win0_1.blk t).view.emb (ix2 k q) = (ix2 k q' : S4096x22016.Idx) := by blk_ext [idx t]
  blk_simp [iblk]
  rw [e, vw_at]

theorem val_w (c : Dev nD) (t : Fin cfg0.N) (k : Fin 4096) (q : Fin 256) (q' : Fin 22016) (h : q'.val = 11008 + (grid0.coords t 1).val * 256 + q.val) :
    iblk m c 2 t (ix2 k q) = m ((c : Thread nD τ).loc main_arg1) (ix3 0 k q') := by
  have e : (win0_2.blk t).view.emb (ix2 k q) = (ix2 k q' : S4096x22016.Idx) := by blk_ext [idx t]
  blk_simp [iblk]
  rw [e, vw_at]

theorem taps (c : Dev nD) (t : Fin cfg0.N) (j : Fin 3) (q : Fin 256) (q' : Fin 11008) (h : q'.val = (grid0.coords t 1).val * 256 + q.val) :
    iblk m c 3 t (ix2 j q) = m ((c : Thread nD τ).loc main_arg2) (ix3 0 j q') := by
  have e : (win0_3.blk t).view.emb (ix2 j q) = (ix2 j q' : S3x11008.Idx) := by blk_ext [idx t]
  show V m c main_v2 ((win0_3.blk t).view.emb (ix2 j q)) = _
  rw [e, vk_at]

/-- The gate of the block's rows is the reference's gate at their place. -/
theorem gate_blk (c : Dev nD) (t : Fin cfg0.N) (r : Fin 2048) (q : Fin 256) (r' : Fin 16384) (q' : Fin 11008)
    (h0 : r'.val = (grid0.coords t 0).val * 2048 + r.val) (h1 : q'.val = (grid0.coords t 1).val * 256 + q.val) :
    dot (iblk m c 0 t) (iblk m c 1 t) r q
      = UpRef.gate (m ((c : Thread nD τ).loc main_arg0)) (m ((c : Thread nD τ).loc main_arg1)) (ix2 r' q') := by
  rw [UpRef.gate_at]
  refine Finset.sum_congr rfl fun k _ => congrArg₂ (· * ·) (rows_blk m c t r k r' h0) (gate_w m c t k q _ ?_)
  exact h1

theorem val_blk (c : Dev nD) (t : Fin cfg0.N) (r : Fin 2048) (q : Fin 256) (r' : Fin 16384) (q' : Fin 11008)
    (h0 : r'.val = (grid0.coords t 0).val * 2048 + r.val) (h1 : q'.val = (grid0.coords t 1).val * 256 + q.val) :
    dot (iblk m c 0 t) (iblk m c 2 t) r q
      = UpRef.val (m ((c : Thread nD τ).loc main_arg0)) (m ((c : Thread nD τ).loc main_arg1)) (ix2 r' q') := by
  rw [UpRef.val_at]
  refine Finset.sum_congr rfl fun k _ => congrArg₂ (· * ·) (rows_blk m c t r k r' h0) (val_w m c t k q _ ?_)
  dsimp only
  omega

theorem cgate_blk (c : Dev nD) (t : Fin cfg0.N) (y : S2048x256.Idx) (r' : Fin 16384) (q' : Fin 11008)
    (h0 : r'.val = (grid0.coords t 0).val * 2048 + (y 0).val) (h1 : q'.val = (grid0.coords t 1).val * 256 + (y 1).val) :
    cgate (iblk m c 0 t) (iblk m c 1 t) (iblk m c 3 t) y
      = UpRef.conv (UpRef.gate (m ((c : Thread nD τ).loc main_arg0)) (m ((c : Thread nD τ).loc main_arg1))) (m ((c : Thread nD τ).loc main_arg2)) (ix2 r' q') := by
  have hy : (y 0).val < 2048 := (y 0).isLt
  rw [UpRef.conv_at]
  refine Taps.conv3_congr (by omega) (by omega) (fun _ => gate_blk m c t _ _ _ _ (by dsimp only; omega) h1) (gate_blk m c t _ _ _ _ h0 h1)
    (fun _ => gate_blk m c t _ _ _ _ (by dsimp only; omega) h1) (taps m c t 0 _ _ h1) (taps m c t 1 _ _ h1) (taps m c t 2 _ _ h1)

/-- What a grid point stores at an index of its block is the reference's value at the index's place in the array. -/
theorem point (c : Dev nD) (t : Fin cfg0.N) (y : S2048x256.Idx) :
    cgate (iblk m c 0 t) (iblk m c 1 t) (iblk m c 3 t) y * Ideal.logistic (cgate (iblk m c 0 t) (iblk m c 1 t) (iblk m c 3 t) y)
        * dot (iblk m c 0 t) (iblk m c 2 t) (y 0) (y 1)
      = UpRef.ref (m ((c : Thread nD τ).loc main_arg0)) (m ((c : Thread nD τ).loc main_arg1)) (m ((c : Thread nD τ).loc main_arg2)) (((cfg0.win 4).blk t).view.emb y) := by
  have hy0 : (y 0).val < 2048 := (y 0).isLt
  have hy1 : (y 1).val < 256 := (y 1).isLt
  have hc0 : (grid0.coords t 0).val < 8 := (grid0.coords t 0).isLt
  have hc1 : (grid0.coords t 1).val < 43 := (grid0.coords t 1).isLt
  have e : ((cfg0.win 4).blk t).view.emb y = (ix2 ⟨(grid0.coords t 0).val * 2048 + (y 0).val, by omega⟩ ⟨(grid0.coords t 1).val * 256 + (y 1).val, by omega⟩ : S16384x11008.Idx) := by
    blk_ext [idx t]
  rw [e, UpRef.ref_at]
  have g := cgate_blk m c t y ⟨(grid0.coords t 0).val * 2048 + (y 0).val, by omega⟩ ⟨(grid0.coords t 1).val * 256 + (y 1).val, by omega⟩ rfl rfl
  have v := val_blk m c t (y 0) (y 1) ⟨(grid0.coords t 0).val * 2048 + (y 0).val, by omega⟩ ⟨(grid0.coords t 1).val * 256 + (y 1).val, by omega⟩ rfl rfl
  rw [g, v]

/-- The result array after the run. -/
theorem final (c : Dev nD) : (dats m 0 c).arrAt 4 cfg0.N
    = UpRef.ref (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact (stored _ _ _ _ y).trans (point m c t y)

theorem frame_Kernel : quiescent_KernelUp := fun m ρ _ => Cert.KernelUp.Gen.frame m ρ

theorem frame_KernelIdeal : quiescent_KernelUpIdeal := fun m ρ _ => Cert.KernelUpIdeal.Gen.frame m ρ

theorem frame_Reference : quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

theorem preserves : preserves_KernelUp_KernelUpIdeal := trivial

/-- The kernel's result array and the reference's are equal. -/
theorem algebraic : algebraic_KernelUpIdeal_ReferenceUpIdeal := by
  intro m ρ m' ρ' _ hagree
  refine ⟨_, Cert.KernelUpIdeal.Value.run_blocks (F := Ideal) m ρ, ?_⟩
  refine (θ_run Cert.ReferenceUpIdeal.defs _ _).mono (fun _ h c => ⟨?_, (h c).2⟩) (Cert.ReferenceUpIdeal.Value.run (F := Ideal) m' ρ')
  rw [(h c).1, UpRef.ref_eq, (hagree c).1, (hagree c).2.1, (hagree c).2.2]
  exact (final m c).symm

end Cert.Proof.Up
-- ==== Proof.Down.lean ====
/- The down projection of the latent rows, with the residual step of the context rows that rides along: the kernel's two
   result arrays and the reference's are the same functions of the arguments. -/
module

public import proofs.«01_k».proof.Defs
public import proofs.«01_k».proof.Proof.Gen.KernelDown.Frame
public import proofs.«01_k».proof.Proof.Gen.KernelDownIdeal.Value
public import proofs.«01_k».proof.Proof.Gen.ReferenceDownIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.DownRef

open Idealize.ShloMosaic Cert.ReferenceDownIdeal Cert.ReferenceDownIdeal.Gen

/-- The reference's product of the latent rows with the down weights. -/
abbrev prod (f : FVec Ideal S16384x11008 .bf16) (w : FVec Ideal S1x11008x4096 .f32) : FVec Ideal S16384x4096 .bf16 :=
  truncf .bf16 (Host.dotGeneral dot_S16384x11008_S11008x4096_S16384x4096_1_0_0_1_n_n none (extf .f32 f bitsLt_bf16_f32) (shapeCast _ w shapeCasts_S1x11008x4096_S11008x4096)) bitsLt_bf16_f32

/-- The reference's context rows after the feed-forward residual: `x + gate * (norm y * g)`. -/
abbrev res (y : FVec Ideal S8192x4096 .bf16) (x : FVec Ideal S8192x4096 .f32) (g : FVec Ideal S1x4096 .f32)
    (s : FVec Ideal S1x6x4096 .f32) : FVec Ideal S8192x4096 .f32 :=
  addf x (mulf (broadcastInDim S8192x4096 ![0, 1] bcast_S1x4096_S8192x4096_0_1 (shapeCast _ (extractStridedSlice S1x1x4096 ![0, 5, 0] s slices_S1x6x4096_S1x1x4096_0_5_0) shapeCasts_S1x1x4096_S1x4096)) (mulf (mulf (extf .f32 y bitsLt_bf16_f32) (broadcastInDim S8192x4096 ![0, 1] bcast_S8192x1_S8192x4096_0_1 (Host.rsqrt (addf (Host.divf (broadcastInDim S8192x1 ![0] bcast_S8192_S8192x1_0 (Host.reduceAdd (mulf (extf .f32 y bitsLt_bf16_f32) (extf .f32 y bitsLt_bf16_f32)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast _ g shapeCasts_S1x4096_S4096)))))

end Cert.Proof.DownRef

namespace Cert.Proof.Down

open Idealize.ShloMosaic Idealize.ShloMosaic.TcCoe Idealize.SL.Sem
open Cert.KernelDownIdeal Cert.KernelDownIdeal.Gen

variable (m : (ℓ : Loc nD τ sig) → Buf (Elt Ideal) ℓ)

/-- Each window's block index at a grid point. -/
theorem idx : ∀ t : Fin cfg0.N, win0_0.index t = ![(grid0.coords t 0).val, 0] ∧ win0_1.index t = ![0, (grid0.coords t 1).val]
    ∧ win0_2.index t = ![t.val, 0] ∧ win0_3.index t = ![t.val, 0] ∧ win0_4.index t = ![0, 0] ∧ win0_5.index t = ![0, 0, 0]
    ∧ win0_6.index t = ![(grid0.coords t 0).val, (grid0.coords t 1).val] ∧ win0_7.index t = ![t.val, 0] :=
  (by decide +kernel : ∀ t : Fin grid0.N, _)

/-- What a grid point stores of the product is the reference's value at the same place. -/
theorem point6 (c : Dev nD) (t : Fin cfg0.N) (y) : k0_pay2 (iblk m c 0 t) (iblk m c 1 t) y
    = DownRef.prod (m ((c : Thread nD τ).loc main_arg0)) (m ((c : Thread nD τ).loc main_arg1)) (((cfg0.win 6).blk t).view.emb y) := by
  pointwise [k0_pay2, DownRef.prod]
  blk_point [iblk, V, idx t]

/-- The first result array after the run. -/
theorem final6 (c : Dev nD) : (dats m 0 c).arrAt 6 cfg0.N = DownRef.prod (m ((c : Thread nD τ).loc main_arg0)) (m ((c : Thread nD τ).loc main_arg1)) := by
  refine (dats m 0 c).arrAt_eq_of_covers 6 _ (by decide +kernel) fun t _ y => ?_
  blk_simp
  rw [after0_6]; frame_out
  exact point6 m c t y

/-- The modulation table: the context's modulation, then the latents', then rows of zeros. -/
theorem table (c : Dev nD) : V m c main_v5 = concatenate S16x6x4096 0
    [⟨S1x6x4096, m ((c : Thread nD τ).loc main_arg5)⟩, ⟨S8x6x4096, m ((c : Thread nD τ).loc main_arg6)⟩,
      ⟨S7x6x4096, broadcastInDim S7x6x4096 ![] bcast_S_S7x6x4096 (constant (F := Ideal) S_ .f32 0x00000000#32)⟩] concatenates_S1x6x4096_S8x6x4096_S7x6x4096_S16x6x4096_d0 := by
  unfold V
  after_results
  rfl

/-- The modulation table's block is the context's modulation: row 0 of the table. -/
theorem mod5 (c : Dev nD) (t : Fin cfg0.N) (k : Fin 4096) :
    iblk m c 5 t (ix3 0 5 k) = m ((c : Thread nD τ).loc main_arg5) (ix3 0 5 k) := by
  have e : (win0_5.blk t).view.emb (ix3 0 5 k) = (ix3 0 5 k : S16x6x4096.Idx) := by blk_ext [idx t]
  blk_simp [iblk]
  rw [e, table]
  pointwise

/-- What a grid point stores of the context rows is the reference's value at the same place. -/
theorem point7 (c : Dev nD) (t : Fin cfg0.N) (y) :
    k0_pay1 (iblk m c 3 t) (View.ld (iblk m c 5 t) r0_1) (iblk m c 2 t) (iblk m c 4 t) y
      = DownRef.res (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay1, DownRef.res]
  erw [mod5 m c t (y 1)]
  blk_point [iblk, V, idx t]

/-- The second result array after the run. -/
theorem final7 (c : Dev nD) : (dats m 0 c).arrAt 7 cfg0.N = DownRef.res (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point7 m c t y

theorem frame_Kernel : quiescent_KernelDown := fun m ρ _ => Cert.KernelDown.Gen.frame m ρ

theorem frame_KernelIdeal : quiescent_KernelDownIdeal := fun m ρ _ => Cert.KernelDownIdeal.Gen.frame m ρ

theorem frame_Reference : quiescent_ReferenceDownIdeal := fun m ρ _ =>
  (θ_run Cert.ReferenceDownIdeal.defs _ _).mono (fun r h => ⟨fun c => (h c).2.2, sem_eq_zero_of_no_sems (by decide) r.2⟩)
    (Cert.ReferenceDownIdeal.Value.run (F := Ideal) m ρ)

theorem preserves : preserves_KernelDown_KernelDownIdeal := trivial

/-- The kernel's results and the reference's are equal. -/
theorem algebraic : algebraic_KernelDownIdeal_ReferenceDownIdeal := by
  intro m ρ m' ρ' _ hagree
  refine ⟨_, _, Cert.KernelDownIdeal.Value.run_blocks (F := Ideal) m ρ, ?_⟩
  refine (θ_run Cert.ReferenceDownIdeal.defs _ _).mono (fun _ h c => ⟨?_, ?_, (h c).2.2⟩) (Cert.ReferenceDownIdeal.Value.run (F := Ideal) m' ρ')
  · rw [(h c).1, (hagree c).1, (hagree c).2.1]
    exact (final6 m c).symm
  · rw [(h c).2.1, (hagree c).2.2.1, (hagree c).2.2.2.1, (hagree c).2.2.2.2.1, (hagree c).2.2.2.2.2.1]
    exact (final7 m c).symm

end Cert.Proof.Down
-- ==== Proof.Merge.lean ====
/- The merge of the latents' attention and convolution branches, with the residual step and norm of the context rows that ride
   along: the kernel's three result arrays and the reference's are the same functions of the arguments. -/
module

public import proofs.«01_k».proof.Defs
public import proofs.«01_k».proof.Proof.Gen.KernelMerge.Frame
public import proofs.«01_k».proof.Proof.Gen.KernelMergeIdeal.Value
public import proofs.«01_k».proof.Proof.Gen.ReferenceMergeIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.MergeRef

open Idealize.ShloMosaic Cert.ReferenceMergeIdeal Cert.ReferenceMergeIdeal.Gen

/-- The reference's merged rows: each branch's projection times its gate, added. -/
abbrev merged (h : FVec Ideal S16384x4096 .bf16) (a : FVec Ideal S16384x4096 .bf16) (s : FVec Ideal S16384x2048 .bf16)
    (w : FVec Ideal S1x4096x20480 .f32) (wa : FVec Ideal S1x4096x4096 .f32) (wc : FVec Ideal S1x2048x4096 .f32) :
    FVec Ideal S16384x4096 .bf16 :=
  truncf .bf16 (addf (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 12288] (Host.dotGeneral dot_S16384x4096_S4096x20480_S16384x20480_1_0_0_1_n_n none (extf .f32 h bitsLt_bf16_f32) (shapeCast _ w shapeCasts_S1x4096x20480_S4096x20480)) slices_S16384x20480_S16384x4096_0_12288))))) (Host.dotGeneral dot_S16384x4096_S4096x4096_S16384x4096_1_0_0_1_n_n none (extf .f32 a bitsLt_bf16_f32) (shapeCast _ wa shapeCasts_S1x4096x4096_S4096x4096))) (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 16384] (Host.dotGeneral dot_S16384x4096_S4096x20480_S16384x20480_1_0_0_1_n_n none (extf .f32 h bitsLt_bf16_f32) (shapeCast _ w shapeCasts_S1x4096x20480_S4096x20480)) slices_S16384x20480_S16384x4096_0_16384))))) (Host.dotGeneral dot_S16384x2048_S2048x4096_S16384x4096_1_0_0_1_n_n none (extf .f32 s bitsLt_bf16_f32) (shapeCast _ wc shapeCasts_S1x2048x4096_S2048x4096)))) bitsLt_bf16_f32

/-- The reference's context rows after the mixer's residual: `x + gate * (norm y * g)`. -/
abbrev res (y : FVec Ideal S8192x4096 .bf16) (x : FVec Ideal S8192x4096 .f32) (g : FVec Ideal S1x4096 .f32)
    (t : FVec Ideal S1x6x4096 .f32) : FVec Ideal S8192x4096 .f32 :=
  addf x (mulf (broadcastInDim S8192x4096 ![0, 1] bcast_S1x4096_S8192x4096_0_1 (shapeCast _ (extractStridedSlice S1x1x4096 ![0, 2, 0] t slices_S1x6x4096_S1x1x4096_0_2_0) shapeCasts_S1x1x4096_S1x4096)) (mulf (mulf (extf .f32 y bitsLt_bf16_f32) (broadcastInDim S8192x4096 ![0, 1] bcast_S8192x1_S8192x4096_0_1 (Host.rsqrt (addf (Host.divf (broadcastInDim S8192x1 ![0] bcast_S8192_S8192x1_0 (Host.reduceAdd (mulf (extf .f32 y bitsLt_bf16_f32) (extf .f32 y bitsLt_bf16_f32)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast _ g shapeCasts_S1x4096_S4096)))))

/-- The reference's normed, modulated context rows. -/
abbrev normed (y : FVec Ideal S8192x4096 .bf16) (x : FVec Ideal S8192x4096 .f32) (g : FVec Ideal S1x4096 .f32)
    (g2 : FVec Ideal S1x4096 .f32) (t : FVec Ideal S1x6x4096 .f32) : FVec Ideal S8192x4096 .bf16 :=
  truncf .bf16 (addf (mulf (mulf (mulf (res y x g t) (broadcastInDim S8192x4096 ![0, 1] bcast_S8192x1_S8192x4096_0_1 (Host.rsqrt (addf (Host.divf (broadcastInDim S8192x1 ![0] bcast_S8192_S8192x1_0 (Host.reduceAdd (mulf (res y x g t) (res y x g t)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast _ g2 shapeCasts_S1x4096_S4096)))) (broadcastInDim S8192x4096 ![0, 1] bcast_S1x4096_S8192x4096_0_1 (addf (broadcastInDim S1x4096 ![] bcast_S_S1x4096 (constant S_ .f32 0x3F800000#32)) (shapeCast _ (extractStridedSlice S1x1x4096 ![0, 4, 0] t slices_S1x6x4096_S1x1x4096_0_4_0) shapeCasts_S1x1x4096_S1x4096)))) (broadcastInDim S8192x4096 ![0, 1] bcast_S1x4096_S8192x4096_0_1 (shapeCast _ (extractStridedSlice S1x1x4096 ![0, 3, 0] t slices_S1x6x4096_S1x1x4096_0_3_0) shapeCasts_S1x1x4096_S1x4096))) bitsLt_bf16_f32

end Cert.Proof.MergeRef

namespace Cert.Proof.Merge

open Idealize.ShloMosaic Idealize.ShloMosaic.TcCoe Idealize.SL.Sem
open Cert.KernelMergeIdeal Cert.KernelMergeIdeal.Gen

variable (m : (ℓ : Loc nD τ sig) → Buf (Elt Ideal) ℓ)

/-- Each window's block index at a grid point. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![0, 48 + (grid0.coords t 1).val]
    ∧ win0_4.index t = ![0, 64 + (grid0.coords t 1).val] ∧ win0_5.index t = ![0, (grid0.coords t 1).val]
    ∧ win0_6.index t = ![0, (grid0.coords t 1).val] ∧ win0_7.index t = ![t.val, 0] ∧ win0_8.index t = ![t.val, 0]
    ∧ win0_9.index t = ![0, 0] ∧ win0_10.index t = ![0, 0] ∧ win0_11.index t = ![0, 0, 0]
    ∧ win0_12.index t = ![(grid0.coords t 0).val, (grid0.coords t 1).val] ∧ win0_13.index t = ![t.val, 0]
    ∧ win0_14.index t = ![t.val, 0] :=
  (by decide +kernel : ∀ t : Fin grid0.N, _)

set_option maxHeartbeats 1600000 in
/-- What a grid point leaves of the merged rows is the reference's value at the same place. -/
theorem point12 (c : Dev nD) (t : Fin cfg0.N) (y) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = MergeRef.merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 12).blk t).view.emb y) := by
  unfold out0_12
  canon_tiles x h
  all_goals pointwise [k0_pay1, k0_pay5, k0_pay6, k0_pay7, k0_pay8, k0_pay9, MergeRef.merged]
  all_goals simp only [Ideal.logistic]
  all_goals blk_point [iblk, V, idx t]

/-- The first result array after the run. -/
theorem final12 (c : Dev nD) : (dats m 0 c).arrAt 12 cfg0.N = MergeRef.merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12]
  exact point12 m c t y

/-- The modulation table: the context's modulation, then the latents', then rows of zeros. -/
theorem table (c : Dev nD) : V m c main_v11 = concatenate S16x6x4096 0
    [⟨S1x6x4096, m ((c : Thread nD τ).loc main_arg10)⟩, ⟨S8x6x4096, m ((c : Thread nD τ).loc main_arg11)⟩,
      ⟨S7x6x4096, broadcastInDim S7x6x4096 ![] bcast_S_S7x6x4096 (constant (F := Ideal) S_ .f32 0x00000000#32)⟩] concatenates_S1x6x4096_S8x6x4096_S7x6x4096_S16x6x4096_d0 := by
  unfold V
  after_results
  rfl

/-- The modulation table's block is the context's modulation: row 0 of the table. -/
theorem mod11 (c : Dev nD) (t : Fin cfg0.N) (j : Fin 6) (k : Fin 4096) :
    iblk m c 11 t (ix3 0 j k) = m ((c : Thread nD τ).loc main_arg10) (ix3 0 j k) := by
  have e : (win0_11.blk t).view.emb (ix3 0 j k) = (ix3 0 j k : S16x6x4096.Idx) := by blk_ext [idx t]
  blk_simp [iblk]
  rw [e, table]
  pointwise

/-- What a grid point stores of the context rows is the reference's value at the same place. -/
theorem point13 (c : Dev nD) (t : Fin cfg0.N) (y) :
    k0_pay2 (iblk m c 8 t) (View.ld (iblk m c 11 t) r0_1) (iblk m c 7 t) (iblk m c 9 t) y
      = MergeRef.res (m ((c : Thread nD τ).loc main_arg6)) (m ((c : Thread nD τ).loc main_arg7)) (m ((c : Thread nD τ).loc main_arg8)) (m ((c : Thread nD τ).loc main_arg10)) (((cfg0.win 13).blk t).view.emb y) := by
  pointwise [k0_pay2, MergeRef.res]
  erw [mod11 m c t 2 (y 1)]
  blk_point [iblk, V, idx t]

/-- The second result array after the run. -/
theorem final13 (c : Dev nD) : (dats m 0 c).arrAt 13 cfg0.N = MergeRef.res (m ((c : Thread nD τ).loc main_arg6)) (m ((c : Thread nD τ).loc main_arg7)) (m ((c : Thread nD τ).loc main_arg8)) (m ((c : Thread nD τ).loc main_arg10)) := by
  refine (dats m 0 c).arrAt_eq_of_covers 13 _ (by decide +kernel) fun t _ y => ?_
  blk_simp
  rw [after0_13]; frame_out
  exact point13 m c t y

set_option maxHeartbeats 1600000 in
/-- What a grid point stores of the normed context rows is the reference's value at the same place. -/
theorem point14 (c : Dev nD) (t : Fin cfg0.N) (y) :
    k0_pay4 (k0_pay3 (iblk m c 8 t) (View.ld (iblk m c 11 t) r0_1) (iblk m c 7 t) (iblk m c 9 t) (iblk m c 10 t))
        (View.ld (iblk m c 11 t) r0_3) (View.ld (iblk m c 11 t) r0_4) y
      = MergeRef.normed (m ((c : Thread nD τ).loc main_arg6)) (m ((c : Thread nD τ).loc main_arg7)) (m ((c : Thread nD τ).loc main_arg8)) (m ((c : Thread nD τ).loc main_arg9)) (m ((c : Thread nD τ).loc main_arg10)) (((cfg0.win 14).blk t).view.emb y) := by
  pointwise [k0_pay4, k0_pay3, k0_pay2, MergeRef.normed, MergeRef.res]
  simp only [mod11 m c t]
  erw [mod11 m c t 2 (y 1), mod11 m c t 4 (y 1), mod11 m c t 3 (y 1)]
  blk_point [iblk, V, idx t]

/-- The third result array after the run. -/
theorem final14 (c : Dev nD) : (dats m 0 c).arrAt 14 cfg0.N = MergeRef.normed (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after0_14]; frame_out
  exact point14 m c t y

theorem frame_Kernel : quiescent_KernelMerge := fun m ρ _ => Cert.KernelMerge.Gen.frame m ρ

theorem frame_KernelIdeal : quiescent_KernelMergeIdeal := fun m ρ _ => Cert.KernelMergeIdeal.Gen.frame m ρ

theorem frame_Reference : quiescent_ReferenceMergeIdeal := fun m ρ _ =>
  (θ_run Cert.ReferenceMergeIdeal.defs _ _).mono (fun r h => ⟨fun c => (h c).2.2.2, sem_eq_zero_of_no_sems (by decide) r.2⟩)
    (Cert.ReferenceMergeIdeal.Value.run (F := Ideal) m ρ)

theorem preserves : preserves_KernelMerge_KernelMergeIdeal := trivial

/-- The kernel's results and the reference's are equal. -/
theorem algebraic : algebraic_KernelMergeIdeal_ReferenceMergeIdeal := by
  intro m ρ m' ρ' _ hagree
  refine ⟨_, _, _, Cert.KernelMergeIdeal.Value.run_blocks (F := Ideal) m ρ, ?_⟩
  refine (θ_run Cert.ReferenceMergeIdeal.defs _ _).mono (fun _ h c => ⟨?_, ?_, ?_, (h c).2.2.2⟩) (Cert.ReferenceMergeIdeal.Value.run (F := Ideal) m' ρ')
  · rw [(h c).1, (hagree c).1, (hagree c).2.1, (hagree c).2.2.1, (hagree c).2.2.2.1, (hagree c).2.2.2.2.1, (hagree c).2.2.2.2.2.1]
    exact (final12 m c).symm
  · rw [(h c).2.1, (hagree c).2.2.2.2.2.2.1, (hagree c).2.2.2.2.2.2.2.1, (hagree c).2.2.2.2.2.2.2.2.1, (hagree c).2.2.2.2.2.2.2.2.2.2.1]
    exact (final13 m c).symm
  · rw [(h c).2.2.1, Cert.ReferenceMergeIdeal.Value.res_main_v71, (hagree c).2.2.2.2.2.2.1, (hagree c).2.2.2.2.2.2.2.1, (hagree c).2.2.2.2.2.2.2.2.1, (hagree c).2.2.2.2.2.2.2.2.2.1, (hagree c).2.2.2.2.2.2.2.2.2.2.1]
    exact (final14 m c).symm

end Cert.Proof.Merge
-- ==== Proof.Conv.lean ====
/- The short convolution of the latent rows: three projections of the rows; the first times the three-tap convolution of the product
   of the other two. The kernel's result array and the reference's are the same function of the arguments. -/
module

public import proofs.«01_k».proof.Defs
public import proofs.«01_k».proof.Proof.Gen.KernelConv.Frame
public import proofs.«01_k».proof.Proof.Gen.KernelConvIdeal.Value
public import proofs.«01_k».proof.Proof.Gen.ReferenceConvIdeal.Run
public import proofs.«01_k».proof.Proof.Taps
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section
namespace Cert.Proof.ConvRef

open Idealize.ShloMosaic Cert.ReferenceConvIdeal Cert.ReferenceConvIdeal.Gen

/-- The projection: the rows by the weights. -/
def proj (x : FVec Ideal S16384x4096 .bf16) (w : FVec Ideal S1x4096x20480 .f32) : FVec Ideal S16384x20480 .f32 :=
  Host.dotGeneral dot_S16384x4096_S4096x20480_S16384x20480_1_0_0_1_n_n none (extf .f32 x bitsLt_bf16_f32) (shapeCast _ w shapeCasts_S1x4096x20480_S4096x20480)

/-- The columns that multiply the convolution. -/
def outer (x : FVec Ideal S16384x4096 .bf16) (w : FVec Ideal S1x4096x20480 .f32) : FVec Ideal S16384x2048 .f32 :=
  extractStridedSlice S16384x2048 ![0, 6144] (proj x w) slices_S16384x20480_S16384x2048_0_6144

/-- The convolution's input: the product of the other two column ranges. -/
def inner (x : FVec Ideal S16384x4096 .bf16) (w : FVec Ideal S1x4096x20480 .f32) : FVec Ideal S16384x2048 .f32 :=
  mulf (extractStridedSlice S16384x2048 ![0, 8192] (proj x w) slices_S16384x20480_S16384x2048_0_8192)
    (extractStridedSlice S16384x2048 ![0, 10240] (proj x w) slices_S16384x20480_S16384x2048_0_10240)

/-- Each batch's rows between two rows of zeros. -/
def padded (u : FVec Ideal S16384x2048 .f32) : FVec Ideal S8x2050x2048 .f32 :=
  pad S8x2050x2048 ![0, 1, 0] ![0, 1, 0] ![0, 0, 0] (shapeCast S8x2048x2048 u shapeCasts_S16384x2048_S8x2048x2048) (sitofp .f32 (constantI S_ 32 0#32)) pads_S8x2048x2048_S8x2050x2048_000_110_000 h_S_

theorem padded_at (u : FVec Ideal S16384x2048 .f32) (a : Fin 8) (b : Fin 2050) (c : Fin 2048) :
    padded u (ix3 a b c) = if b.val = 0 ∨ b.val = 2049 then 0 else u (ix2 ⟨(a.val * 2048 + b.val - 1) % 16384, by omega⟩ c) := by
  pointwise [padded]
  by_cases h : b.val = 0 ∨ b.val = 2049
  · rw [if_pos h, dif_neg (by omega)]
    show (((0#32 : BitVec 32).toInt : ℝ) : EReal) = 0
    simp
  · rw [if_neg h, dif_pos (by omega)]
    refine congrArg u (congrArg (fun r => ix2 r c) (Fin.ext ?_))
    dsimp only
    omega

/-- One weight row over every batch and row. -/
abbrev row (x : FVec Ideal S1x2048 .f32) : FVec Ideal S8x2048x2048 .f32 :=
  broadcastInDim S8x2048x2048 ![0, 1, 2] bcast_S1x1x2048_S8x2048x2048_0_1_2 (broadcastInDim S1x1x2048 ![2] bcast_S2048_S1x1x2048_2 (shapeCast _ x shapeCasts_S1x2048_S2048))

/-- The three-tap convolution along each batch's rows. -/
def conv (u : FVec Ideal S16384x2048 .f32) (k : FVec Ideal S1x3x2048 .f32) : FVec Ideal S16384x2048 .f32 :=
  shapeCast _ (addf (addf
      (mulf (extractStridedSlice S8x2048x2048 ![0, 0, 0] (padded u) slices_S8x2050x2048_S8x2048x2048_0_0_0)
        (row (extractStridedSlice S1x2048 ![0, 0] (shapeCast _ k shapeCasts_S1x3x2048_S3x2048) slices_S3x2048_S1x2048_0_0)))
      (mulf (extractStridedSlice S8x2048x2048 ![0, 1, 0] (padded u) slices_S8x2050x2048_S8x2048x2048_0_1_0)
        (row (extractStridedSlice S1x2048 ![1, 0] (shapeCast _ k shapeCasts_S1x3x2048_S3x2048) slices_S3x2048_S1x2048_1_0))))
      (mulf (extractStridedSlice S8x2048x2048 ![0, 2, 0] (padded u) slices_S8x2050x2048_S8x2048x2048_0_2_0)
        (row (extractStridedSlice S1x2048 ![2, 0] (shapeCast _ k shapeCasts_S1x3x2048_S3x2048) slices_S3x2048_S1x2048_2_0))))
    shapeCasts_S8x2048x2048_S16384x2048

set_option maxHeartbeats 1600000 in
theorem conv_at (u : FVec Ideal S16384x2048 .f32) (k : FVec Ideal S1x3x2048 .f32) (r : Fin 16384) (q : Fin 2048) :
    conv u k (ix2 r q) = Taps.conv3 (r.val % 2048 = 0) (r.val % 2048 = 2047)
      (u (ix2 ⟨(r.val - 1) % 16384, by omega⟩ q)) (u (ix2 r q)) (u (ix2 ⟨(r.val + 1) % 16384, by omega⟩ q))
      (k (ix3 0 0 q)) (k (ix3 0 1 q)) (k (ix3 0 2 q)) := by
  pointwise [conv]
  simp only [padded_at]
  unfold Taps.conv3
  refine congrArg₂ (· + ·) (congrArg₂ (· + ·) (congrArg (· * _) ?_) (congrArg (· * _) ?_)) (congrArg (· * _) ?_)
  · by_cases h : r.val % 2048 = 0
    · rw [if_pos h, if_pos (Or.inl h)]
    · rw [if_neg h, if_neg (by omega)]
      refine congrArg (fun a => u (ix2 a q)) (Fin.ext ?_)
      dsimp only
      omega
  · rw [if_neg (by omega)]
    refine congrArg (fun a => u (ix2 a q)) (Fin.ext ?_)
    dsimp only
    omega
  · by_cases h : r.val % 2048 = 2047
    · rw [if_pos h, if_pos (by omega)]
    · rw [if_neg h, if_neg (by omega)]
      refine congrArg (fun a => u (ix2 a q)) (Fin.ext ?_)
      dsimp only
      omega

theorem outer_at (x : FVec Ideal S16384x4096 .bf16) (w : FVec Ideal S1x4096x20480 .f32) (r : Fin 16384) (q : Fin 2048) :
    outer x w (ix2 r q) = ∑ k : Fin 4096, x (ix2 r k) * w (ix3 0 k ⟨6144 + q.val, by omega⟩) := by
  pointwise [outer, proj]

theorem inner_at (x : FVec Ideal S16384x4096 .bf16) (w : FVec Ideal S1x4096x20480 .f32) (r : Fin 16384) (q : Fin 2048) :
    inner x w (ix2 r q) = (∑ k : Fin 4096, x (ix2 r k) * w (ix3 0 k ⟨8192 + q.val, by omega⟩))
      * ∑ k : Fin 4096, x (ix2 r k) * w (ix3 0 k ⟨10240 + q.val, by omega⟩) := by
  pointwise [inner, proj]

/-- The reference's result as a term of its arguments. -/
def ref (x : FVec Ideal S16384x4096 .bf16) (w : FVec Ideal S1x4096x20480 .f32) (k : FVec Ideal S1x3x2048 .f32) : FVec Ideal S16384x2048 .bf16 :=
  truncf .bf16 (mulf (outer x w) (conv (inner x w) k)) bitsLt_bf16_f32

theorem ref_at (x : FVec Ideal S16384x4096 .bf16) (w : FVec Ideal S1x4096x20480 .f32) (k : FVec Ideal S1x3x2048 .f32) (i : S16384x2048.Idx) :
    ref x w k i = outer x w i * conv (inner x w) k i := by
  unfold ref
  generalize conv (inner x w) k = g
  generalize outer x w = v
  pointwise

theorem ref_eq (m : (ℓ : Loc Cert.ReferenceConvIdeal.nD Cert.ReferenceConvIdeal.τ Cert.ReferenceConvIdeal.sig) → Buf (Elt Ideal) ℓ) (c : Dev Cert.ReferenceConvIdeal.nD) :
    Cert.ReferenceConvIdeal.Value.res_main_v32 m c = ref (m ((c.tc : Thread Cert.ReferenceConvIdeal.nD Cert.ReferenceConvIdeal.τ).loc main_arg0)) (m ((c.tc : Thread Cert.ReferenceConvIdeal.nD Cert.ReferenceConvIdeal.τ).loc main_arg1)) (m ((c.tc : Thread Cert.ReferenceConvIdeal.nD Cert.ReferenceConvIdeal.τ).loc main_arg2)) := rfl

end Cert.Proof.ConvRef

namespace Cert.Proof.Conv

open Idealize.ShloMosaic Idealize.ShloMosaic.TcCoe Idealize.SL.Sem
open Cert.KernelConvIdeal Cert.KernelConvIdeal.Gen

/-- One row chunk by the weights. -/
abbrev chunk (a : FVec Ideal S512x4096 .bf16) (w : FVec Ideal S4096x256 .bf16) : FVec Ideal S512x256 .f32 :=
  matmul dot_S512x4096_S4096x256_S512x256_1_0_0_1_n_n none a (shapeCast S4096x256 w shapeCasts_S4096x256_S4096x256) (constant S512x256 .f32 0x00000000#32)

/-- The four row chunks' products, stacked. -/
def stack (w : Vec Ideal S4096x256 .bf16) (a b c d : Vec Ideal S512x4096 .bf16) : FVec Ideal S2048x256 .f32 :=
  concatenate S2048x256 0 [⟨S512x256, chunk a w⟩, ⟨S512x256, chunk b w⟩, ⟨S512x256, chunk c w⟩, ⟨S512x256, chunk d w⟩]
    concatenates_S512x256_S512x256_S512x256_S512x256_S2048x256_d0

set_option maxHeartbeats 2000000 in
/-- The stacked products are the rows by the weights. -/
theorem tile (h : Vec Ideal S2048x4096 .bf16) (w : Vec Ideal S4096x256 .bf16) (y : S2048x256.Idx) :
    stack w (View.ld h r0_1) (View.ld h r0_2) (View.ld h r0_3) (View.ld h r0_4) y = ∑ k : Fin 4096, h (ix2 (y 0) k) * w (ix2 k (y 1)) := by
  pointwise [stack]
  split_ifs <;> refine Finset.sum_congr rfl fun k _ => congrArg (fun i => h i * w (ix2 k (y 1))) (congrArg (fun a => ix2 a k) (Fin.ext ?_)) <;> dsimp only <;> omega

/-- The rows by the weights at a row and a column of the blocks. -/
abbrev dot (h : Vec Ideal S2048x4096 .bf16) (w : Vec Ideal S4096x256 .bf16) (r : Fin 2048) (q : Fin 256) : EReal :=
  ∑ k : Fin 4096, h (ix2 r k) * w (ix2 k q)

/-- The product of the two inner projections. -/
theorem inner_tile (h : Vec Ideal S2048x4096 .bf16) (w v : Vec Ideal S4096x256 .bf16) (y : S2048x256.Idx) :
    k0_pay1 w (View.ld h r0_1) (View.ld h r0_2) (View.ld h r0_3) (View.ld h r0_4) v (View.ld h r0_1) (View.ld h r0_2) (View.ld h r0_3) (View.ld h r0_4) y
      = dot h w (y 0) (y 1) * dot h v (y 0) (y 1) :=
  congrArg₂ (· * ·) (tile h w y) (tile h v y)

/-- A mask over the rows, a row being `e`. -/
abbrev at_ (e : BitVec 32) : IVec S2048x256 1 :=
  broadcastTo S2048x256 (shapeCast S2048x1 (cmpi .eq (andi (iota .tc S2048x1 32 [0] iota_S2048x1_d0_w32) k0_pay3) (broadcast S2048x1 e)) shapeCasts_S2048x1_S2048x1) broadcasts_S2048x1_S2048x256

/-- The row after, zero at the last row. -/
theorem last_at (g : FVec Ideal S2048x256 .f32) (y : S2048x256.Idx) :
    select (at_ 2047#32) (broadcast S2048x256 (Scalar.ofBits (F := Ideal) .f32 0x00000000#32)) (dynamicRotate 0 2047#32 none g rotates_S2048x256_d0) y
      = if (y 0).val = 2047 then 0 else g (ix2 ⟨((y 0).val + 1) % 2048, by omega⟩ (y 1)) := by
  have hy : (y 0).val < 2048 := (y 0).isLt
  pointwise [k0_pay3]
  rw [Taps.sel_last _ hy]
  refine congrArg (fun r => if (y 0).val = 2047 then 0 else g (ix2 r (y 1))) (Fin.ext ?_)
  dsimp only
  omega

/-- The row before, zero at the first row. -/
theorem first_at (g : FVec Ideal S2048x256 .f32) (y : S2048x256.Idx) :
    select (at_ 0#32) (broadcast S2048x256 (Scalar.ofBits (F := Ideal) .f32 0x00000000#32)) (dynamicRotate 0 1#32 none g rotates_S2048x256_d0) y
      = if (y 0).val = 0 then 0 else g (ix2 ⟨((y 0).val - 1) % 2048, by omega⟩ (y 1)) := by
  have hy : (y 0).val < 2048 := (y 0).isLt
  pointwise [k0_pay3]
  rw [Taps.sel_first _ hy]
  by_cases q : (y 0).val = 0
  · rw [if_pos q, if_pos q]
  · rw [if_neg q, if_neg q]
    refine congrArg (fun r => g (ix2 r (y 1))) (Fin.ext ?_)
    dsimp only
    omega

theorem body (g : FVec Ideal S2048x256 .f32) (k : FVec Ideal S3x256 .f32) (w : Vec Ideal S4096x256 .bf16) (a b c d) (y : S2048x256.Idx) :
    k0_pay4 g k (iota .tc S2048x1 32 [0] iota_S2048x1_d0_w32) k0_pay3 w a b c d y = stack w a b c d y *
      Taps.conv3 ((y 0).val = 0) ((y 0).val = 2047) (g (ix2 ⟨((y 0).val - 1) % 2048, by omega⟩ (y 1))) (g y)
        (g (ix2 ⟨((y 0).val + 1) % 2048, by omega⟩ (y 1))) (k (ix2 0 (y 1))) (k (ix2 1 (y 1))) (k (ix2 2 (y 1))) := by
  have e : k0_pay4 g k (iota .tc S2048x1 32 [0] iota_S2048x1_d0_w32) k0_pay3 w a b c d = truncf .bf16 (mulf (stack w a b c d)
      (addf (addf
        (mulf (select (at_ 0#32) (broadcast S2048x256 (Scalar.ofBits (F := Ideal) .f32 0x00000000#32)) (dynamicRotate 0 1#32 none g rotates_S2048x256_d0))
          (broadcastTo S2048x256 (extractStridedSlice S1x256 ![0, 0] k slices_S3x256_o0_0_S1x256) broadcasts_S1x256_S2048x256))
        (mulf g (broadcastTo S2048x256 (extractStridedSlice S1x256 ![1, 0] k slices_S3x256_o1_0_S1x256) broadcasts_S1x256_S2048x256)))
        (mulf (select (at_ 2047#32) (broadcast S2048x256 (Scalar.ofBits (F := Ideal) .f32 0x00000000#32)) (dynamicRotate 0 2047#32 none g rotates_S2048x256_d0))
          (broadcastTo S2048x256 (extractStridedSlice S1x256 ![2, 0] k slices_S3x256_o2_0_S1x256) broadcasts_S1x256_S2048x256)))) bitsLt_bf16_f32 := rfl
  rw [e]
  have f := first_at g y
  have l := last_at g y
  unfold Taps.conv3
  rw [← f, ← l]
  generalize stack w a b c d = s
  generalize select (at_ 2047#32) _ _ = p
  generalize select (at_ 0#32) _ _ = n
  pointwise

/-- The convolved product at an index of the block. -/
def cinner (h : Vec Ideal S2048x4096 .bf16) (w v : Vec Ideal S4096x256 .bf16) (k : Vec Ideal S3x256 .f32) (y : S2048x256.Idx) : EReal :=
  Taps.conv3 ((y 0).val = 0) ((y 0).val = 2047)
    (dot h w ⟨((y 0).val - 1) % 2048, by omega⟩ (y 1) * dot h v ⟨((y 0).val - 1) % 2048, by omega⟩ (y 1))
    (dot h w (y 0) (y 1) * dot h v (y 0) (y 1))
    (dot h w ⟨((y 0).val + 1) % 2048, by omega⟩ (y 1) * dot h v ⟨((y 0).val + 1) % 2048, by omega⟩ (y 1))
    (k (ix2 0 (y 1))) (k (ix2 1 (y 1))) (k (ix2 2 (y 1)))

/-- What a grid point stores, of its blocks. -/
theorem stored (h : Vec Ideal S2048x4096 .bf16) (o w v : Vec Ideal S4096x256 .bf16) (k : Vec Ideal S3x256 .f32) (y : S2048x256.Idx) :
    k0_pay4 (k0_pay1 w (View.ld h r0_1) (View.ld h r0_2) (View.ld h r0_3) (View.ld h r0_4) v (View.ld h r0_1) (View.ld h r0_2) (View.ld h r0_3) (View.ld h r0_4))
      (k0_pay2 k) (iota .tc S2048x1 32 [0] iota_S2048x1_d0_w32) k0_pay3 o (View.ld h r0_1) (View.ld h r0_2) (View.ld h r0_3) (View.ld h r0_4) y
      = dot h o (y 0) (y 1) * cinner h w v k y := by
  have e : k0_pay2 k = k := funext fun i => by pointwise [k0_pay2]
  rw [e, body, tile]
  simp only [inner_tile]
  rfl

theorem flat_w (w : FVec Ideal S1x4096x20480 .f32) (k : Fin 4096) (q : Fin 20480) :
    (truncf .bf16 (shapeCast S4096x20480 w shapeCasts_S1x4096x20480_S4096x20480) bitsLt_bf16_f32 : FVec Ideal S4096x20480 .bf16) (ix2 k q) = w (ix3 0 k q) := by
  pointwise

theorem flat_k (w : FVec Ideal S1x3x2048 .f32) (j : Fin 3) (q : Fin 2048) :
    (shapeCast S3x2048 w shapeCasts_S1x3x2048_S3x2048 : FVec Ideal S3x2048 .f32) (ix2 j q) = w (ix3 0 j q) := by
  pointwise

variable (m : (ℓ : Loc nD τ sig) → Buf (Elt Ideal) ℓ)

/-- Each window's block index at a grid point. -/
theorem idx : ∀ t : Fin cfg0.N, win0_0.index t = ![(grid0.coords t 0).val, 0] ∧ win0_1.index t = ![0, 24 + (grid0.coords t 1).val]
    ∧ win0_2.index t = ![0, 32 + (grid0.coords t 1).val] ∧ win0_3.index t = ![0, 40 + (grid0.coords t 1).val]
    ∧ win0_4.index t = ![0, (grid0.coords t 1).val] ∧ win0_5.index t = ![(grid0.coords t 0).val, (grid0.coords t 1).val] :=
  (by decide +kernel : ∀ t : Fin grid0.N, _)

/-- The weights and the taps as the kernel reads them. -/
theorem vx (c : Dev nD) : V m c main_arg0 = m ((c : Thread nD τ).loc main_arg0) := by
  unfold V
  after_results

theorem vw (c : Dev nD) : V m c main_v1 = (truncf .bf16 (shapeCast S4096x20480 (m ((c : Thread nD τ).loc main_arg1) : FVec Ideal S1x4096x20480 .f32) shapeCasts_S1x4096x20480_S4096x20480) bitsLt_bf16_f32 : FVec Ideal S4096x20480 .bf16) := by
  unfold V
  after_results
  rfl

theorem vk (c : Dev nD) : V m c main_v2 = shapeCast _ (m ((c : Thread nD τ).loc main_arg2)) shapeCasts_S1x3x2048_S3x2048 := by
  unfold V
  after_results
  rfl

theorem vw_at (c : Dev nD) (k : Fin 4096) (q : Fin 20480) : V m c main_v1 (ix2 k q) = m ((c : Thread nD τ).loc main_arg1) (ix3 0 k q) := by
  rw [vw]
  exact flat_w _ k q

theorem vk_at (c : Dev nD) (j : Fin 3) (q : Fin 2048) : V m c main_v2 (ix2 j q) = m ((c : Thread nD τ).loc main_arg2) (ix3 0 j q) := by
  rw [vk]
  exact flat_k _ j q

theorem rows_blk (c : Dev nD) (t : Fin cfg0.N) (r : Fin 2048) (k : Fin 4096) (r' : Fin 16384) (h : r'.val = (grid0.coords t 0).val * 2048 + r.val) :
    iblk m c 0 t (ix2 r k) = m ((c : Thread nD τ).loc main_arg0) (ix2 r' k) := by
  have e : (win0_0.blk t).view.emb (ix2 r k) = (ix2 r' k : S16384x4096.Idx) := by blk_ext [idx t]
  blk_simp [iblk]
  rw [e, vx]

theorem outer_w (c : Dev nD) (t : Fin cfg0.N) (k : Fin 4096) (q : Fin 256) (q' : Fin 20480) (h : q'.val = 6144 + (grid0.coords t 1).val * 256 + q.val) :
    iblk m c 1 t (ix2 k q) = m ((c : Thread nD τ).loc main_arg1) (ix3 0 k q') := by
  have e : (win0_1.blk t).view.emb (ix2 k q) = (ix2 k q' : S4096x20480.Idx) := by blk_ext [idx t]
  blk_simp [iblk]
  rw [e, vw_at]

theorem left_w (c : Dev nD) (t : Fin cfg0.N) (k : Fin 4096) (q : Fin 256) (q' : Fin 20480) (h : q'.val = 8192 + (grid0.coords t 1).val * 256 + q.val) :
    iblk m c 2 t (ix2 k q) = m ((c : Thread nD τ).loc main_arg1) (ix3 0 k q') := by
  have e : (win0_2.blk t).view.emb (ix2 k q) = (ix2 k q' : S4096x20480.Idx) := by blk_ext [idx t]
  blk_simp [iblk]
  rw [e, vw_at]

theorem right_w (c : Dev nD) (t : Fin cfg0.N) (k : Fin 4096) (q : Fin 256) (q' : Fin 20480) (h : q'.val = 10240 + (grid0.coords t 1).val * 256 + q.val) :
    iblk m c 3 t (ix2 k q) = m ((c : Thread nD τ).loc main_arg1) (ix3 0 k q') := by
  have e : (win0_3.blk t).view.emb (ix2 k q) = (ix2 k q' : S4096x20480.Idx) := by blk_ext [idx t]
  blk_simp [iblk]
  rw [e, vw_at]

theorem taps (c : Dev nD) (t : Fin cfg0.N) (j : Fin 3) (q : Fin 256) (q' : Fin 2048) (h : q'.val = (grid0.coords t 1).val * 256 + q.val) :
    iblk m c 4 t (ix2 j q) = m ((c : Thread nD τ).loc main_arg2) (ix3 0 j q') := by
  have e : (win0_4.blk t).view.emb (ix2 j q) = (ix2 j q' : S3x2048.Idx) := by blk_ext [idx t]
  show V m c main_v2 ((win0_4.blk t).view.emb (ix2 j q)) = _
  rw [e, vk_at]

/-- The block's projections are the reference's at their place. -/
theorem outer_blk (c : Dev nD) (t : Fin cfg0.N) (r : Fin 2048) (q : Fin 256) (r' : Fin 16384) (q' : Fin 2048)
    (h0 : r'.val = (grid0.coords t 0).val * 2048 + r.val) (h1 : q'.val = (grid0.coords t 1).val * 256 + q.val) :
    dot (iblk m c 0 t) (iblk m c 1 t) r q
      = ConvRef.outer (m ((c : Thread nD τ).loc main_arg0)) (m ((c : Thread nD τ).loc main_arg1)) (ix2 r' q') := by
  rw [ConvRef.outer_at]
  refine Finset.sum_congr rfl fun k _ => congrArg₂ (· * ·) (rows_blk m c t r k r' h0) (outer_w m c t k q _ ?_)
  dsimp only
  omega

theorem inner_blk (c : Dev nD) (t : Fin cfg0.N) (r : Fin 2048) (q : Fin 256) (r' : Fin 16384) (q' : Fin 2048)
    (h0 : r'.val = (grid0.coords t 0).val * 2048 + r.val) (h1 : q'.val = (grid0.coords t 1).val * 256 + q.val) :
    dot (iblk m c 0 t) (iblk m c 2 t) r q * dot (iblk m c 0 t) (iblk m c 3 t) r q
      = ConvRef.inner (m ((c : Thread nD τ).loc main_arg0)) (m ((c : Thread nD τ).loc main_arg1)) (ix2 r' q') := by
  rw [ConvRef.inner_at]
  refine congrArg₂ (· * ·) (Finset.sum_congr rfl fun k _ => congrArg₂ (· * ·) (rows_blk m c t r k r' h0) (left_w m c t k q _ ?_))
    (Finset.sum_congr rfl fun k _ => congrArg₂ (· * ·) (rows_blk m c t r k r' h0) (right_w m c t k q _ ?_))
  · dsimp only
    omega
  · dsimp only
    omega

theorem cinner_blk (c : Dev nD) (t : Fin cfg0.N) (y : S2048x256.Idx) (r' : Fin 16384) (q' : Fin 2048)
    (h0 : r'.val = (grid0.coords t 0).val * 2048 + (y 0).val) (h1 : q'.val = (grid0.coords t 1).val * 256 + (y 1).val) :
    cinner (iblk m c 0 t) (iblk m c 2 t) (iblk m c 3 t) (iblk m c 4 t) y
      = ConvRef.conv (ConvRef.inner (m ((c : Thread nD τ).loc main_arg0)) (m ((c : Thread nD τ).loc main_arg1))) (m ((c : Thread nD τ).loc main_arg2)) (ix2 r' q') := by
  have hy : (y 0).val < 2048 := (y 0).isLt
  rw [ConvRef.conv_at]
  refine Taps.conv3_congr (by omega) (by omega) (fun _ => inner_blk m c t _ _ _ _ (by dsimp only; omega) h1) (inner_blk m c t _ _ _ _ h0 h1)
    (fun _ => inner_blk m c t _ _ _ _ (by dsimp only; omega) h1) (taps m c t 0 _ _ h1) (taps m c t 1 _ _ h1) (taps m c t 2 _ _ h1)

/-- What a grid point stores at an index of its block is the reference's value at the index's place in the array. -/
theorem point (c : Dev nD) (t : Fin cfg0.N) (y : S2048x256.Idx) :
    dot (iblk m c 0 t) (iblk m c 1 t) (y 0) (y 1) * cinner (iblk m c 0 t) (iblk m c 2 t) (iblk m c 3 t) (iblk m c 4 t) y
      = ConvRef.ref (m ((c : Thread nD τ).loc main_arg0)) (m ((c : Thread nD τ).loc main_arg1)) (m ((c : Thread nD τ).loc main_arg2)) (((cfg0.win 5).blk t).view.emb y) := by
  have hy0 : (y 0).val < 2048 := (y 0).isLt
  have hy1 : (y 1).val < 256 := (y 1).isLt
  have hc0 : (grid0.coords t 0).val < 8 := (grid0.coords t 0).isLt
  have hc1 : (grid0.coords t 1).val < 8 := (grid0.coords t 1).isLt
  have e : ((cfg0.win 5).blk t).view.emb y = (ix2 ⟨(grid0.coords t 0).val * 2048 + (y 0).val, by omega⟩ ⟨(grid0.coords t 1).val * 256 + (y 1).val, by omega⟩ : S16384x2048.Idx) := by
    blk_ext [idx t]
  rw [e, ConvRef.ref_at]
  have g := cinner_blk m c t y ⟨(grid0.coords t 0).val * 2048 + (y 0).val, by omega⟩ ⟨(grid0.coords t 1).val * 256 + (y 1).val, by omega⟩ rfl rfl
  have v := outer_blk m c t (y 0) (y 1) ⟨(grid0.coords t 0).val * 2048 + (y 0).val, by omega⟩ ⟨(grid0.coords t 1).val * 256 + (y 1).val, by omega⟩ rfl rfl
  rw [g, v]

/-- The result array after the run. -/
theorem final (c : Dev nD) : (dats m 0 c).arrAt 5 cfg0.N
    = ConvRef.ref (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact (stored _ _ _ _ _ y).trans (point m c t y)

theorem frame_Kernel : quiescent_KernelConv := fun m ρ _ => Cert.KernelConv.Gen.frame m ρ

theorem frame_KernelIdeal : quiescent_KernelConvIdeal := fun m ρ _ => Cert.KernelConvIdeal.Gen.frame m ρ

theorem frame_Reference : quiescent_ReferenceConvIdeal := fun m ρ _ =>
  (θ_run Cert.ReferenceConvIdeal.defs _ _).mono (fun r h => ⟨fun c => (h c).2, sem_eq_zero_of_no_sems (by decide) r.2⟩)
    (Cert.ReferenceConvIdeal.Value.run (F := Ideal) m ρ)

theorem preserves : preserves_KernelConv_KernelConvIdeal := trivial

/-- The kernel's result array and the reference's are equal. -/
theorem algebraic : algebraic_KernelConvIdeal_ReferenceConvIdeal := by
  intro m ρ m' ρ' _ hagree
  refine ⟨_, Cert.KernelConvIdeal.Value.run_blocks (F := Ideal) m ρ, ?_⟩
  refine (θ_run Cert.ReferenceConvIdeal.defs _ _).mono (fun _ h c => ⟨?_, (h c).2⟩) (Cert.ReferenceConvIdeal.Value.run (F := Ideal) m' ρ')
  rw [(h c).1, ConvRef.ref_eq, (hagree c).1, (hagree c).2.1, (hagree c).2.2]
  exact (final m c).symm

end Cert.Proof.Conv
-- ==== Proof.Out.lean ====
/- The projection after the merge (mix_out of the latent rows): the kernel's result array and the reference's are the same
   function of the arguments. -/
module

public import proofs.«01_k».proof.Defs
public import proofs.«01_k».proof.Proof.Gen.KernelOut.Frame
public import proofs.«01_k».proof.Proof.Gen.KernelOutIdeal.Value
public import proofs.«01_k».proof.Proof.Gen.ReferenceOutIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.Out

open Idealize.ShloMosaic Idealize.ShloMosaic.TcCoe Idealize.SL.Sem
open Cert.KernelOutIdeal Cert.KernelOutIdeal.Gen

/-- The reference's result as a term of its two arguments. -/
abbrev ref (x : FVec Ideal S16384x4096 .bf16) (w : FVec Ideal S1x4096x4096 .f32) : FVec Ideal S16384x4096 .bf16 :=
  truncf .bf16 (Host.dotGeneral Cert.ReferenceOutIdeal.dot_S16384x4096_S4096x4096_S16384x4096_1_0_0_1_n_n none
    (extf .f32 x Cert.ReferenceOutIdeal.Gen.bitsLt_bf16_f32)
    (shapeCast _ w Cert.ReferenceOutIdeal.Gen.shapeCasts_S1x4096x4096_S4096x4096)) Cert.ReferenceOutIdeal.Gen.bitsLt_bf16_f32

variable (m : (ℓ : Loc nD τ sig) → Buf (Elt Ideal) ℓ)

/-- Each window's block index at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- What a grid point stores at an index of its block is the reference's value at the index's place in the array. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref]
  blk_point [iblk, V, idx t]

/-- The result array after the run. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_Kernel : quiescent_KernelOut := fun m ρ _ => Cert.KernelOut.Gen.frame m ρ

theorem frame_KernelIdeal : quiescent_KernelOutIdeal := fun m ρ _ => Cert.KernelOutIdeal.Gen.frame m ρ

theorem frame_Reference : quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem preserves : preserves_KernelOut_KernelOutIdeal := trivial

/-- The kernel's result array and the reference's are equal. -/
theorem algebraic : algebraic_KernelOutIdeal_ReferenceOutIdeal := by
  intro m ρ m' ρ' _ hagree
  refine ⟨_, Cert.KernelOutIdeal.Value.run_blocks (F := Ideal) m ρ, ?_⟩
  refine (θ_run Cert.ReferenceOutIdeal.defs _ _).mono (fun _ h c => ⟨?_, (h c).2⟩) (Cert.ReferenceOutIdeal.Value.run (F := Ideal) m' ρ')
  rw [(h c).1, (hagree c).1, (hagree c).2]
  exact (final m c).symm

end Cert.Proof.Out
-- ==== Proof.Tail.lean ====
/- The residual step after the feed-forward of the latent rows: the kernel's result array and the reference's are the same
   function of the arguments. -/
module

public import proofs.«01_k».proof.Defs
public import proofs.«01_k».proof.Proof.Gen.KernelTail.Frame
public import proofs.«01_k».proof.Proof.Gen.KernelTailIdeal.Value
public import proofs.«01_k».proof.Proof.Gen.ReferenceTailIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.TailRef

open Idealize.ShloMosaic Cert.ReferenceTailIdeal Cert.ReferenceTailIdeal.Gen

/-- The reference's latent rows after the feed-forward residual, each latent with its own gate: `x + gate * (norm y * g)`. -/
abbrev res (y : FVec Ideal S16384x4096 .bf16) (x : FVec Ideal S16384x4096 .f32) (g : FVec Ideal S1x4096 .f32)
    (s : FVec Ideal S8x6x4096 .f32) : FVec Ideal S16384x4096 .f32 :=
  shapeCast _ (addf (shapeCast _ x shapeCasts_S16384x4096_S8x2048x4096) (mulf (broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 5, 0] s slices_S8x6x4096_S8x1x4096_0_5_0) shapeCasts_S8x1x4096_S8x4096))) (mulf (mulf (shapeCast _ (extf .f32 y bitsLt_bf16_f32) shapeCasts_S16384x4096_S8x2048x4096) (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf (shapeCast _ (extf .f32 y bitsLt_bf16_f32) shapeCasts_S16384x4096_S8x2048x4096) (shapeCast _ (extf .f32 y bitsLt_bf16_f32) shapeCasts_S16384x4096_S8x2048x4096)) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 (shapeCast _ g shapeCasts_S1x4096_S4096)))))) shapeCasts_S8x2048x4096_S16384x4096

end Cert.Proof.TailRef

namespace Cert.Proof.Tail

open Idealize.ShloMosaic Idealize.ShloMosaic.TcCoe Idealize.SL.Sem
open Cert.KernelTailIdeal Cert.KernelTailIdeal.Gen

variable (m : (ℓ : Loc nD τ sig) → Buf (Elt Ideal) ℓ)

/-- Each window's block index at a grid point. -/
theorem idx : ∀ t : Fin cfg0.N, win0_0.index t = ![t.val, 0] ∧ win0_1.index t = ![t.val, 0] ∧ win0_2.index t = ![0, 0]
    ∧ win0_3.index t = ![1 + t.val / 8, 0, 0] ∧ win0_4.index t = ![t.val, 0] :=
  (by decide +kernel : ∀ t : Fin grid0.N, _)

/-- The modulation table: the context's modulation, then the latents', then rows of zeros. -/
theorem table (c : Dev nD) : V m c main_v3 = concatenate S16x6x4096 0
    [⟨S1x6x4096, m ((c : Thread nD τ).loc main_arg3)⟩, ⟨S8x6x4096, m ((c : Thread nD τ).loc main_arg4)⟩,
      ⟨S7x6x4096, broadcastInDim S7x6x4096 ![] bcast_S_S7x6x4096 (constant (F := Ideal) S_ .f32 0x00000000#32)⟩] concatenates_S1x6x4096_S8x6x4096_S7x6x4096_S16x6x4096_d0 := by
  unfold V
  after_results
  rfl

/-- A grid point lies among the rows of one latent. -/
theorem latent_lt (t : Fin cfg0.N) : t.val / 8 < 8 := by
  have h := t.isLt
  have e : cfg0.N = 64 := by decide +kernel
  omega

/-- The modulation table's block is the modulation of the rows' own latent. -/
theorem mod3 (c : Dev nD) (t : Fin cfg0.N) (k : Fin 4096) :
    iblk m c 3 t (ix3 0 5 k) = m ((c : Thread nD τ).loc main_arg4) (ix3 ⟨t.val / 8, latent_lt t⟩ 5 k) := by
  have h := latent_lt t
  have e : (win0_3.blk t).view.emb (ix3 0 5 k) = (ix3 ⟨1 + t.val / 8, by omega⟩ 5 k : S16x6x4096.Idx) := by blk_ext [idx t]
  blk_simp [iblk]
  rw [e, table]
  pointwise
  exact dif_pos h

/-- What a grid point stores is the reference's value at the same place. -/
theorem point (c : Dev nD) (t : Fin cfg0.N) (y) :
    k0_pay1 (iblk m c 1 t) (View.ld (iblk m c 3 t) r0_1) (iblk m c 0 t) (iblk m c 2 t) y
      = TailRef.res (m ((c : Thread nD τ).loc main_arg0)) (m ((c : Thread nD τ).loc main_arg1)) (m ((c : Thread nD τ).loc main_arg2)) (m ((c : Thread nD τ).loc main_arg4)) (((cfg0.win 4).blk t).view.emb y) := by
  pointwise [k0_pay1, TailRef.res]
  erw [mod3 m c t (y 1)]
  blk_point [iblk, V, idx t]

/-- The result array after the run. -/
theorem final (c : Dev nD) : (dats m 0 c).arrAt 4 cfg0.N = TailRef.res (m ((c : Thread nD τ).loc main_arg0)) (m ((c : Thread nD τ).loc main_arg1)) (m ((c : Thread nD τ).loc main_arg2)) (m ((c : Thread nD τ).loc main_arg4)) := by
  refine (dats m 0 c).arrAt_eq_of_covers 4 _ (by decide +kernel) fun t _ y => ?_
  blk_simp
  rw [after0_4]; frame_out
  exact point m c t y

theorem frame_Kernel : quiescent_KernelTail := fun m ρ _ => Cert.KernelTail.Gen.frame m ρ

theorem frame_KernelIdeal : quiescent_KernelTailIdeal := fun m ρ _ => Cert.KernelTailIdeal.Gen.frame m ρ

theorem frame_Reference : quiescent_ReferenceTailIdeal := fun m ρ _ =>
  (θ_run Cert.ReferenceTailIdeal.defs _ _).mono (fun r h => ⟨fun c => (h c).2, sem_eq_zero_of_no_sems (by decide) r.2⟩)
    (Cert.ReferenceTailIdeal.Value.run (F := Ideal) m ρ)

theorem preserves : preserves_KernelTail_KernelTailIdeal := trivial

/-- The kernel's result array and the reference's are equal. -/
theorem algebraic : algebraic_KernelTailIdeal_ReferenceTailIdeal := by
  intro m ρ m' ρ' _ hagree
  refine ⟨_, Cert.KernelTailIdeal.Value.run_blocks (F := Ideal) m ρ, ?_⟩
  refine (θ_run Cert.ReferenceTailIdeal.defs _ _).mono (fun _ h c => ⟨?_, (h c).2⟩) (Cert.ReferenceTailIdeal.Value.run (F := Ideal) m' ρ')
  rw [(h c).1, (hagree c).1, (hagree c).2.1, (hagree c).2.2.1, (hagree c).2.2.2.2]
  exact (final m c).symm

end Cert.Proof.Tail
-- ==== Proof.Keys.lean ====
/- The key projection of the context rows: the kernel's result array and the reference's are the same
   function of the arguments. -/
module

public import proofs.«01_k».proof.Defs
public import proofs.«01_k».proof.Proof.Gen.KernelKeys.Frame
public import proofs.«01_k».proof.Proof.Gen.KernelKeysIdeal.Value
public import proofs.«01_k».proof.Proof.Gen.ReferenceKeysIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.Keys

open Idealize.ShloMosaic Idealize.ShloMosaic.TcCoe Idealize.SL.Sem
open Cert.KernelKeysIdeal Cert.KernelKeysIdeal.Gen

/-- The reference's result as a term of its two arguments: the projection's columns from 4096 on. -/
abbrev ref (x : FVec Ideal S8192x4096 .bf16) (w : FVec Ideal S1x4096x20480 .f32) : FVec Ideal S8192x1024 .f32 :=
  extractStridedSlice Cert.ReferenceKeysIdeal.S8192x1024 ![0, 4096] (Host.dotGeneral Cert.ReferenceKeysIdeal.dot_S8192x4096_S4096x20480_S8192x20480_1_0_0_1_n_n none
    (extf .f32 x Cert.ReferenceKeysIdeal.Gen.bitsLt_bf16_f32)
    (shapeCast _ w Cert.ReferenceKeysIdeal.Gen.shapeCasts_S1x4096x20480_S4096x20480)) Cert.ReferenceKeysIdeal.Gen.slices_S8192x20480_S8192x1024_0_4096

variable (m : (ℓ : Loc nD τ sig) → Buf (Elt Ideal) ℓ)

/-- Each window's block index at a grid point. -/
theorem idx : ∀ t : Fin cfg0.N, win0_0.index t = ![(grid0.coords t 0).val, 0] ∧ win0_1.index t = ![0, 4]
    ∧ win0_2.index t = ![(grid0.coords t 0).val, 0] :=
  (by decide +kernel : ∀ t : Fin grid0.N, _)

/-- What a grid point stores at an index of its block is the reference's value at the index's place in the array. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref]
  blk_point [iblk, V, idx t]

/-- The result array after the run. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_Kernel : quiescent_KernelKeys := fun m ρ _ => Cert.KernelKeys.Gen.frame m ρ

theorem frame_KernelIdeal : quiescent_KernelKeysIdeal := fun m ρ _ => Cert.KernelKeysIdeal.Gen.frame m ρ

theorem frame_Reference : quiescent_ReferenceKeysIdeal := fun m ρ _ =>
  (θ_run Cert.ReferenceKeysIdeal.defs _ _).mono (fun r h => ⟨fun c => (h c).2, sem_eq_zero_of_no_sems (by decide) r.2⟩)
    (Cert.ReferenceKeysIdeal.Value.run (F := Ideal) m ρ)

theorem preserves : preserves_KernelKeys_KernelKeysIdeal := trivial

/-- The kernel's result array and the reference's are equal. -/
theorem algebraic : algebraic_KernelKeysIdeal_ReferenceKeysIdeal := by
  intro m ρ m' ρ' _ hagree
  refine ⟨_, Cert.KernelKeysIdeal.Value.run_blocks (F := Ideal) m ρ, ?_⟩
  refine (θ_run Cert.ReferenceKeysIdeal.defs _ _).mono (fun _ h c => ⟨?_, (h c).2⟩) (Cert.ReferenceKeysIdeal.Value.run (F := Ideal) m' ρ')
  rw [(h c).1, (hagree c).1, (hagree c).2]
  exact (final m c).symm

end Cert.Proof.Keys
-- ==== Proof.Values.lean ====
/- The value projection of the context rows: the kernel's result array and the reference's are the same
   function of the arguments. -/
module

public import proofs.«01_k».proof.Defs
public import proofs.«01_k».proof.Proof.Gen.KernelValues.Frame
public import proofs.«01_k».proof.Proof.Gen.KernelValuesIdeal.Value
public import proofs.«01_k».proof.Proof.Gen.ReferenceValuesIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.Values

open Idealize.ShloMosaic Idealize.ShloMosaic.TcCoe Idealize.SL.Sem
open Cert.KernelValuesIdeal Cert.KernelValuesIdeal.Gen

/-- The reference's result as a term of its two arguments: the projection's columns from 5120 on. -/
abbrev ref (x : FVec Ideal S8192x4096 .bf16) (w : FVec Ideal S1x4096x20480 .f32) : FVec Ideal S8192x1024 .f32 :=
  extractStridedSlice Cert.ReferenceValuesIdeal.S8192x1024 ![0, 5120] (Host.dotGeneral Cert.ReferenceValuesIdeal.dot_S8192x4096_S4096x20480_S8192x20480_1_0_0_1_n_n none
    (extf .f32 x Cert.ReferenceValuesIdeal.Gen.bitsLt_bf16_f32)
    (shapeCast _ w Cert.ReferenceValuesIdeal.Gen.shapeCasts_S1x4096x20480_S4096x20480)) Cert.ReferenceValuesIdeal.Gen.slices_S8192x20480_S8192x1024_0_5120

variable (m : (ℓ : Loc nD τ sig) → Buf (Elt Ideal) ℓ)

/-- Each window's block index at a grid point. -/
theorem idx : ∀ t : Fin cfg0.N, win0_0.index t = ![(grid0.coords t 0).val, 0] ∧ win0_1.index t = ![0, 5]
    ∧ win0_2.index t = ![(grid0.coords t 0).val, 0] :=
  (by decide +kernel : ∀ t : Fin grid0.N, _)

/-- What a grid point stores at an index of its block is the reference's value at the index's place in the array. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref]
  blk_point [iblk, V, idx t]

/-- The result array after the run. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_Kernel : quiescent_KernelValues := fun m ρ _ => Cert.KernelValues.Gen.frame m ρ

theorem frame_KernelIdeal : quiescent_KernelValuesIdeal := fun m ρ _ => Cert.KernelValuesIdeal.Gen.frame m ρ

theorem frame_Reference : quiescent_ReferenceValuesIdeal := fun m ρ _ =>
  (θ_run Cert.ReferenceValuesIdeal.defs _ _).mono (fun r h => ⟨fun c => (h c).2, sem_eq_zero_of_no_sems (by decide) r.2⟩)
    (Cert.ReferenceValuesIdeal.Value.run (F := Ideal) m ρ)

theorem preserves : preserves_KernelValues_KernelValuesIdeal := trivial

/-- The kernel's result array and the reference's are equal. -/
theorem algebraic : algebraic_KernelValuesIdeal_ReferenceValuesIdeal := by
  intro m ρ m' ρ' _ hagree
  refine ⟨_, Cert.KernelValuesIdeal.Value.run_blocks (F := Ideal) m ρ, ?_⟩
  refine (θ_run Cert.ReferenceValuesIdeal.defs _ _).mono (fun _ h c => ⟨?_, (h c).2⟩) (Cert.ReferenceValuesIdeal.Value.run (F := Ideal) m' ρ')
  rw [(h c).1, (hagree c).1, (hagree c).2]
  exact (final m c).symm

end Cert.Proof.Values
-- ==== Proof.Rope.lean ====
/- The query projection of the latent rows with its rotary embedding: the kernel's result array and the reference's are the
   same function of the arguments. The kernel reads a column's partner by a rotation by 32 lanes and has the sign in its sine
   table; the reference splits each 64 columns in two halves of 32. -/
module

public import proofs.«01_k».proof.Defs
public import proofs.«01_k».proof.Proof.Gen.KernelRope.Frame
public import proofs.«01_k».proof.Proof.Gen.KernelRopeIdeal.Value
public import proofs.«01_k».proof.Proof.Gen.ReferenceRopeIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.RopeRef

open Idealize.ShloMosaic Cert.ReferenceRopeIdeal Cert.ReferenceRopeIdeal.Gen

/-- The column a column turns with: 32 on in the lower half of 64 columns, 32 back in the upper. -/
def pair (n : Nat) : Nat := if n % 64 < 32 then n + 32 else n - 32

theorem pair_lt {n b : Nat} (h : n < 64 * b) : pair n < 64 * b := by
  unfold pair
  split <;> omega

theorem pair_add (n b : Nat) : pair (64 * b + n) = 64 * b + pair n := by
  unfold pair
  split <;> split <;> omega

/-- A block's entry: the product times the cosine table, plus the paired column's product times the sine table. -/
def turned {n : Nat} (x : Fin 4096 → EReal) (w : Fin 4096 → Fin (64 * n) → EReal) (q : Fin (64 * n)) (a b : EReal) : EReal :=
  (∑ j, x j * w j q) * a + (∑ j, x j * w j ⟨pair q.val, pair_lt q.isLt⟩) * b

theorem turned_congr {n : Nat} {x x' : Fin 4096 → EReal} {w w' : Fin 4096 → Fin (64 * n) → EReal} {q q' : Fin (64 * n)} {a a' b b' : EReal}
    (hx : ∀ j, x j = x' j) (hw : ∀ j q, w j q = w' j q) (hq : q.val = q'.val) (ha : a = a') (hb : b = b') :
    turned x w q a b = turned x' w' q' a' b' := by
  rw [funext hx, funext fun j => funext (hw j), Fin.ext hq, ha, hb]

/-- A band of columns: its entries turn within the band. -/
theorem turned_band {n k b : Nat} {x : Fin 4096 → EReal} {w : Fin 4096 → Fin (64 * n) → EReal} {w' : Fin 4096 → Fin (64 * k) → EReal}
    {q : Fin (64 * n)} {q' : Fin (64 * k)} {c d : EReal} (hb : b + n ≤ k) (hw : ∀ j i, w j i = w' j ⟨64 * b + i.val, by omega⟩) (hq : q'.val = 64 * b + q.val) :
    turned x w q c d = turned x w' q' c d := by
  have e : q' = ⟨64 * b + q.val, by omega⟩ := Fin.ext hq
  rw [e]
  unfold turned
  simp only [hw, pair_add]

/-- The angle of a position's row on the grid, for each of the 32 frequencies. -/
def rowAngle : FVec Ideal S2048x32 .f32 := (mulf (broadcastInDim S2048x32 ![0, 1] bcast_S2048x1_S2048x32_0_1 (broadcastInDim S2048x1 ![0] bcast_S2048_S2048x1_0 (sitofp .f32 (shapeCast _ (broadcastInDim S32x64 ![0] bcast_S32_S32x64_0 (iotaInDim S32 32 0)) shapeCasts_S32x64_S2048)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The angle of a position's column on the grid. -/
def colAngle : FVec Ideal S2048x32 .f32 := (mulf (broadcastInDim S2048x32 ![0, 1] bcast_S2048x1_S2048x32_0_1 (broadcastInDim S2048x1 ![0] bcast_S2048_S2048x1_0 (sitofp .f32 (shapeCast _ (broadcastInDim S32x64 ![0, 1] bcast_S1x64_S32x64_0_1 (shapeCast _ (iotaInDim S64 32 0) shapeCasts_S64_S1x64)) shapeCasts_S32x64_S2048)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The angles of the row and of the column side by side. -/
def angle : FVec Ideal S2048x64 .f32 :=
  concatenate S2048x64 1 [⟨S2048x32, rowAngle⟩, ⟨S2048x32, colAngle⟩] concatenates_S2048x32_S2048x32_S2048x64_d1

/-- The query columns of the reference's projection. -/
def proj (x : FVec Ideal S16384x4096 .bf16) (w : FVec Ideal S1x4096x20480 .f32) : FVec Ideal S16384x4096 .f32 :=
  extractStridedSlice S16384x4096 ![0, 0] (Host.dotGeneral dot_S16384x4096_S4096x20480_S16384x20480_1_0_0_1_n_n none (extf .f32 x bitsLt_bf16_f32) (shapeCast _ w shapeCasts_S1x4096x20480_S4096x20480)) slices_S16384x20480_S16384x4096_0_0

/-- The lower 32 columns of each 64. -/
def lower (P : FVec Ideal S16384x4096 .f32) : FVec Ideal S8x2048x32x2x32 .f32 := (shapeCast _ (extractStridedSlice S8x2048x32x2x1x32 ![0, 0, 0, 0, 0, 0] (shapeCast _ (shapeCast _ P shapeCasts_S16384x4096_S8x2048x32x128) shapeCasts_S8x2048x32x128_S8x2048x32x2x2x32) slices_S8x2048x32x2x2x32_S8x2048x32x2x1x32_0_0_0_0_0_0) shapeCasts_S8x2048x32x2x1x32_S8x2048x32x2x32)

/-- The upper 32 columns of each 64. -/
def upper (P : FVec Ideal S16384x4096 .f32) : FVec Ideal S8x2048x32x2x32 .f32 := (shapeCast _ (extractStridedSlice S8x2048x32x2x1x32 ![0, 0, 0, 0, 1, 0] (shapeCast _ (shapeCast _ P shapeCasts_S16384x4096_S8x2048x32x128) shapeCasts_S8x2048x32x128_S8x2048x32x2x2x32) slices_S8x2048x32x2x2x32_S8x2048x32x2x1x32_0_0_0_0_1_0) shapeCasts_S8x2048x32x2x1x32_S8x2048x32x2x32)

/-- A table for every sequence and head. -/
def wide (T : FVec Ideal S2048x64 .f32) : FVec Ideal S8x2048x32x2x32 .f32 := (broadcastInDim S8x2048x32x2x32 ![0, 1, 2, 3, 4] bcast_S1x2048x1x2x32_S8x2048x32x2x32_0_1_2_3_4 (broadcastInDim S1x2048x1x2x32 ![1, 2, 3, 4] bcast_S2048x1x2x32_S1x2048x1x2x32_1_2_3_4 (shapeCast _ T shapeCasts_S2048x64_S2048x1x2x32)))

/-- The two halves side by side again. -/
def join (x y : FVec Ideal S8x2048x32x2x32 .f32) : FVec Ideal S16384x4096 .bf16 :=
  truncf .bf16 (shapeCast _ (shapeCast _ (concatenate S8x2048x32x2x2x32 4 [⟨S8x2048x32x2x1x32, (broadcastInDim S8x2048x32x2x1x32 ![0, 1, 2, 3, 5] bcast_S8x2048x32x2x32_S8x2048x32x2x1x32_0_1_2_3_5 x)⟩, ⟨S8x2048x32x2x1x32, (broadcastInDim S8x2048x32x2x1x32 ![0, 1, 2, 3, 5] bcast_S8x2048x32x2x32_S8x2048x32x2x1x32_0_1_2_3_5 y)⟩] concatenates_S8x2048x32x2x1x32_S8x2048x32x2x1x32_S8x2048x32x2x2x32_d4) shapeCasts_S8x2048x32x2x2x32_S8x2048x32x128) shapeCasts_S8x2048x32x128_S16384x4096) bitsLt_bf16_f32

/-- Columns turned by angles with the given cosines and sines. -/
def rotate (P : FVec Ideal S16384x4096 .f32) (C S : FVec Ideal S2048x64 .f32) : FVec Ideal S16384x4096 .bf16 :=
  join (subf (mulf (lower P) (wide C)) (mulf (upper P) (wide S))) (addf (mulf (lower P) (wide S)) (mulf (upper P) (wide C)))

/-- The reference's result as a term of its two arguments. -/
def ref (x : FVec Ideal S16384x4096 .bf16) (w : FVec Ideal S1x4096x20480 .f32) : FVec Ideal S16384x4096 .bf16 :=
  rotate (proj x w) (Host.cos angle) (Host.sin angle)

theorem ref_eq (m : (ℓ : Loc nD τ sig) → Buf (Elt Ideal) ℓ) (c : Dev nD) : Cert.ReferenceRopeIdeal.Value.res_main_v59 (F := Ideal) m c
    = ref (m ((c.tc : Thread nD τ).loc main_arg0)) (m ((c.tc : Thread nD τ).loc main_arg1)) := rfl

theorem lower_at (P : FVec Ideal S16384x4096 .f32) (s : Fin 8) (p : Fin 2048) (h : Fin 32) (a : Fin 2) (f : Fin 32) :
    lower P (ix5 s p h a f) = P (ix2 ⟨s.val * 2048 + p.val, by omega⟩ ⟨h.val * 128 + a.val * 64 + f.val, by omega⟩) := by
  pointwise [lower]

theorem upper_at (P : FVec Ideal S16384x4096 .f32) (s : Fin 8) (p : Fin 2048) (h : Fin 32) (a : Fin 2) (f : Fin 32) :
    upper P (ix5 s p h a f) = P (ix2 ⟨s.val * 2048 + p.val, by omega⟩ ⟨h.val * 128 + a.val * 64 + 32 + f.val, by omega⟩) := by
  pointwise [upper]

theorem wide_at (T : FVec Ideal S2048x64 .f32) (s : Fin 8) (p : Fin 2048) (h : Fin 32) (a : Fin 2) (f : Fin 32) :
    wide T (ix5 s p h a f) = T (ix2 p ⟨a.val * 32 + f.val, by omega⟩) := by
  pointwise [wide]

theorem join_at (x y : FVec Ideal S8x2048x32x2x32 .f32) (r : Fin 16384) (n : Fin 4096) :
    join x y (ix2 r n) = if h : n.val / 32 % 2 < 1 then x (ix5 ⟨r.val / 2048, by omega⟩ ⟨r.val % 2048, by omega⟩ ⟨n.val / 128, by omega⟩ ⟨n.val / 64 % 2, by omega⟩ ⟨n.val % 32, by omega⟩)
      else y (ix5 ⟨r.val / 2048, by omega⟩ ⟨r.val % 2048, by omega⟩ ⟨n.val / 128, by omega⟩ ⟨n.val / 64 % 2, by omega⟩ ⟨n.val % 32, by omega⟩) := by
  pointwise [join]

theorem proj_at (x : FVec Ideal S16384x4096 .bf16) (w : FVec Ideal S1x4096x20480 .f32) (r : Fin 16384) (n : Fin 4096) :
    proj x w (ix2 r n) = ∑ j : Fin 4096, x (ix2 r j) * w (ix3 0 j ⟨n.val, by omega⟩) := by
  pointwise [proj]

/-- An entry of the turned columns: the entry times the cosine, plus its pair's entry times the sine, negative in the lower half. -/
theorem rotate_at (P : FVec Ideal S16384x4096 .f32) (C S : FVec Ideal S2048x64 .f32) (r : Fin 16384) (n : Fin 4096) :
    rotate P C S (ix2 r n) = (P (ix2 r n) : EReal) * (C (ix2 ⟨r.val % 2048, by omega⟩ ⟨n.val / 64 % 2 * 32 + n.val % 32, by omega⟩) : EReal)
      + (P (ix2 r ⟨pair n.val, pair_lt (b := 64) n.isLt⟩) : EReal)
        * (if n.val % 64 < 32 then -(S (ix2 ⟨r.val % 2048, by omega⟩ ⟨n.val / 64 % 2 * 32 + n.val % 32, by omega⟩) : EReal)
            else S (ix2 ⟨r.val % 2048, by omega⟩ ⟨n.val / 64 % 2 * 32 + n.val % 32, by omega⟩)) := by
  have er : (⟨r.val / 2048 * 2048 + r.val % 2048, by omega⟩ : Fin 16384) = r := Fin.ext (by show r.val / 2048 * 2048 + r.val % 2048 = r.val; omega)
  unfold rotate
  rw [join_at]
  by_cases hn : n.val % 64 < 32
  · have e0 : (⟨n.val / 128 * 128 + n.val / 64 % 2 * 64 + n.val % 32, by omega⟩ : Fin 4096) = n :=
      Fin.ext (by show n.val / 128 * 128 + n.val / 64 % 2 * 64 + n.val % 32 = n.val; omega)
    have e1 : (⟨n.val / 128 * 128 + n.val / 64 % 2 * 64 + 32 + n.val % 32, by omega⟩ : Fin 4096) = ⟨pair n.val, pair_lt (b := 64) n.isLt⟩ :=
      Fin.ext (by show n.val / 128 * 128 + n.val / 64 % 2 * 64 + 32 + n.val % 32 = pair n.val; unfold pair; rw [if_pos hn]; omega)
    rw [dif_pos (by omega), if_pos hn]
    show (_ : EReal) * (_ : EReal) - (_ : EReal) * (_ : EReal) = _
    rw [lower_at, upper_at, wide_at, wide_at]
    simp only [er, e0, e1]
    rw [mul_neg, ← sub_eq_add_neg]
  · have e0 : (⟨n.val / 128 * 128 + n.val / 64 % 2 * 64 + 32 + n.val % 32, by omega⟩ : Fin 4096) = n :=
      Fin.ext (by show n.val / 128 * 128 + n.val / 64 % 2 * 64 + 32 + n.val % 32 = n.val; omega)
    have e1 : (⟨n.val / 128 * 128 + n.val / 64 % 2 * 64 + n.val % 32, by omega⟩ : Fin 4096) = ⟨pair n.val, pair_lt (b := 64) n.isLt⟩ :=
      Fin.ext (by show n.val / 128 * 128 + n.val / 64 % 2 * 64 + n.val % 32 = pair n.val; unfold pair; rw [if_neg hn]; omega)
    rw [dif_neg (by omega), if_neg hn]
    show (_ : EReal) * (_ : EReal) + (_ : EReal) * (_ : EReal) = _
    rw [lower_at, upper_at, wide_at, wide_at]
    simp only [er, e0, e1]
    exact add_comm _ _

/-- The angle at a position and a pair of columns. -/
theorem angle_at (p : Fin 2048) (q : Fin 64) : angle (ix2 p q) = if h : q.val < 32 then rowAngle (ix2 p ⟨q.val, h⟩)
    else colAngle (ix2 p ⟨q.val - 32, by omega⟩) := by
  pointwise [angle]

theorem cos_at (p : Fin 2048) (q : Fin 64) : Host.cos angle (ix2 p q) = if h : q.val < 32 then Host.cos rowAngle (ix2 p ⟨q.val, h⟩)
    else Host.cos colAngle (ix2 p ⟨q.val - 32, by omega⟩) := by
  have e : Host.cos angle (ix2 p q) = Host.cos (fun _ : S2048x64.Idx => angle (ix2 p q)) (ix2 p q) := rfl
  rw [e, angle_at]
  split <;> rfl

theorem sin_at (p : Fin 2048) (q : Fin 64) : Host.sin angle (ix2 p q) = if h : q.val < 32 then Host.sin rowAngle (ix2 p ⟨q.val, h⟩)
    else Host.sin colAngle (ix2 p ⟨q.val - 32, by omega⟩) := by
  have e : Host.sin angle (ix2 p q) = Host.sin (fun _ : S2048x64.Idx => angle (ix2 p q)) (ix2 p q) := rfl
  rw [e, angle_at]
  split <;> rfl

/-- An entry of the reference's result. -/
theorem ref_at (x : FVec Ideal S16384x4096 .bf16) (w : FVec Ideal S1x4096x20480 .f32) (r : Fin 16384) (n : Fin 4096) :
    ref x w (ix2 r n) = turned (n := 64) (fun j => x (ix2 r j)) (fun j q => w (ix3 0 j ⟨q.val, by omega⟩)) n
      (Host.cos angle (ix2 ⟨r.val % 2048, by omega⟩ ⟨n.val / 64 % 2 * 32 + n.val % 32, by omega⟩))
      (if n.val % 64 < 32 then -(Host.sin angle (ix2 ⟨r.val % 2048, by omega⟩ ⟨n.val / 64 % 2 * 32 + n.val % 32, by omega⟩) : EReal)
        else Host.sin angle (ix2 ⟨r.val % 2048, by omega⟩ ⟨n.val / 64 % 2 * 32 + n.val % 32, by omega⟩)) := by
  unfold ref turned
  rw [rotate_at, proj_at, proj_at]

end Cert.Proof.RopeRef

namespace Cert.Proof.Rope

open Idealize.ShloMosaic Idealize.ShloMosaic.TcCoe Idealize.SL.Sem
open Cert.KernelRopeIdeal Cert.KernelRopeIdeal.Gen Cert.Proof.RopeRef

/-- The kernel's mask: the lower halves. -/
theorem mask_at (r : Fin 256) (k : Fin 128) : k0_pay3 (ix2 r k) = if k.val % 64 < 32 then 1#1 else 0#1 := by
  have e : ∀ k : Fin 128, k0_pay3 (ix2 (0 : Fin 256) k) = if k.val % 64 < 32 then 1#1 else 0#1 := by decide +kernel
  exact e k

/-- The two rotations, chosen by the mask, read the column a column turns with. -/
theorem partner_at (p : FVec Ideal S256x128 .f32) (r : Fin 256) (k : Fin 128) :
    select k0_pay3 (dynamicRotate 1 96#32 none p rotates_S256x128_d1) (dynamicRotate 1 32#32 none p rotates_S256x128_d1) (ix2 r k)
      = p (ix2 r ⟨pair k.val, pair_lt (b := 2) k.isLt⟩) := by
  show Scalar.select (k0_pay3 (ix2 r k)) _ _ = _
  rw [mask_at]
  by_cases h : k.val % 64 < 32
  · rw [if_pos h]
    simp only [pair, if_pos h]
    pointwise
    exact congrArg p (congrArg (ix2 r) (Fin.ext (by show (k.val + 128 - 96) % 128 = k.val + 32; omega)))
  · rw [if_neg h]
    simp only [pair, if_neg h]
    pointwise
    exact congrArg p (congrArg (ix2 r) (Fin.ext (by show (k.val + 128 - 32) % 128 = k.val - 32; omega)))

/-- A tile of the kernel: 256 rows of a head's product, turned. -/
abbrev turn (x : FVec Ideal S256x4096 .bf16) (w : FVec Ideal S4096x512 .bf16) (a b : FVec Ideal S256x128 .f32) (o : Nat)
    (h : S256x512.Slices ![0, o] S256x128) : FVec Ideal S256x128 .bf16 :=
  truncf .bf16 (addf (mulf (extractStridedSlice S256x128 ![0, o] (k0_pay4 (F := Ideal) w x) h) (k0_pay5 a))
    (mulf (select k0_pay3 (dynamicRotate 1 96#32 none (extractStridedSlice S256x128 ![0, o] (k0_pay4 (F := Ideal) w x) h) rotates_S256x128_d1)
      (dynamicRotate 1 32#32 none (extractStridedSlice S256x128 ![0, o] (k0_pay4 (F := Ideal) w x) h) rotates_S256x128_d1)) (k0_pay6 b))) bitsLt_bf16_f32

/-- A head's columns of the product. -/
theorem slice_at (x : FVec Ideal S256x4096 .bf16) (w : FVec Ideal S4096x512 .bf16) (o : Nat) (h : S256x512.Slices ![0, o] S256x128)
    (ho : o ≤ 384) (r : Fin 256) (k : Fin 128) :
    extractStridedSlice S256x128 ![0, o] (k0_pay4 (F := Ideal) w x) h (ix2 r k)
      = ∑ j : Fin 4096, x (ix2 r j) * w (ix2 j ⟨o + k.val, by omega⟩) := by
  pointwise [k0_pay4, k0_pay2]

theorem turn_at (x : FVec Ideal S256x4096 .bf16) (w : FVec Ideal S4096x512 .bf16) (a b : FVec Ideal S256x128 .f32) (o : Nat)
    (h : S256x512.Slices ![0, o] S256x128) (ho : o ≤ 384) (ho' : o % 64 = 0) (r : Fin 256) (k : Fin 128) :
    turn x w a b o h (ix2 r k) = turned (n := 8) (fun j => x (ix2 r j)) (fun j q => w (ix2 j q)) ⟨o + k.val, by omega⟩ (a (ix2 r k)) (b (ix2 r k)) := by
  have ea : k0_pay5 a = a := funext fun i => by pointwise [k0_pay5]
  have eb : k0_pay6 b = b := funext fun i => by pointwise [k0_pay6]
  have e : pair (o + k.val) = o + pair k.val := by
    have := pair_add k.val (o / 64)
    rwa [show 64 * (o / 64) = o by omega] at this
  unfold turn turned
  simp only [e]
  rw [ea, eb]
  show (_ : EReal) * (_ : EReal) + (_ : EReal) * (_ : EReal) = _
  rw [partner_at, slice_at _ _ _ _ ho, slice_at _ _ _ _ ho]

theorem out_at (x0 : FVec Ideal S1024x4096 .bf16) (x1 : FVec Ideal S4096x512 .bf16) (x2 x3 : FVec Ideal S1024x128 .f32) (y) :
    out0_4 (F := Ideal) x0 x1 x2 x3 y = turned (n := 8) (fun j => x0 (ix2 (y 0) j)) (fun j q => x1 (ix2 j q)) (y 1)
      (x2 (ix2 (y 0) ⟨(y 1).val % 128, Nat.mod_lt _ (by decide)⟩)) (x3 (ix2 (y 0) ⟨(y 1).val % 128, Nat.mod_lt _ (by decide)⟩)) := by
  unfold out0_4
  canon_tiles x h
  all_goals
    obtain ⟨r, k, rfl⟩ : ∃ r k, x = ix2 r k := ⟨x 0, x 1, funext fun d => by fin_cases d <;> rfl⟩
    refine (turn_at _ _ _ _ _ (by first | assumption | decide) (by decide) (by decide) r k).trans ?_
    have h0' : (y 0).val = _ := h0
    have h1' : (y 1).val = _ := h1
    refine turned_congr (fun j => View.ld_unit_apply_of _ _ _ _ _ _ ?_) (fun j q => View.ld_unit_apply_of _ _ _ _ _ _ ?_) ?_
      (View.ld_unit_apply_of _ _ _ _ _ _ ?_) (View.ld_unit_apply_of _ _ _ _ _ _ ?_)
    · intro d
      match d with
      | ⟨0, _⟩ => exact h0.trans (by first | rfl | exact (Nat.zero_add _).symm)
      | ⟨1, _⟩ => exact (Nat.zero_add _).symm
    · intro d
      match d with
      | ⟨0, _⟩ => exact (Nat.zero_add _).symm
      | ⟨1, _⟩ => exact (Nat.zero_add _).symm
    · exact (h1.trans (by first | rfl | exact (Nat.zero_add _).symm)).symm
    · intro d
      match d with
      | ⟨0, _⟩ => exact h0.trans (by first | rfl | exact (Nat.zero_add _).symm)
      | ⟨1, _⟩ => show (y 1).val % 128 = 0 + k.val; rw [show (y 1).val = _ + k.val from h1.trans (by first | rfl | exact (Nat.zero_add _).symm)]; omega
    · intro d
      match d with
      | ⟨0, _⟩ => exact h0.trans (by first | rfl | exact (Nat.zero_add _).symm)
      | ⟨1, _⟩ => show (y 1).val % 128 = 0 + k.val; rw [show (y 1).val = _ + k.val from h1.trans (by first | rfl | exact (Nat.zero_add _).symm)]; omega

variable (m : (ℓ : Loc nD τ sig) → Buf (Elt Ideal) ℓ)

/-- Each window's block index at a grid point. -/
theorem idx : ∀ t : Fin cfg0.N, win0_0.index t = ![(grid0.coords t 0).val, 0] ∧ win0_1.index t = ![0, (grid0.coords t 1).val]
    ∧ win0_2.index t = ![(grid0.coords t 0).val % 2, 0] ∧ win0_3.index t = ![(grid0.coords t 0).val % 2, 0]
    ∧ win0_4.index t = ![(grid0.coords t 0).val, (grid0.coords t 1).val] :=
  (by decide +kernel : ∀ t : Fin grid0.N, _)

/-- The kernel's cosine table. -/
theorem cosines (c : Dev nD) : V m c main_v41 = concatenate S2048x128 1
    [⟨S2048x32, Host.cos rowAngle⟩, ⟨S2048x32, Host.cos rowAngle⟩, ⟨S2048x32, Host.cos colAngle⟩, ⟨S2048x32, Host.cos colAngle⟩]
    concatenates_S2048x32_S2048x32_S2048x32_S2048x32_S2048x128_d1 := by
  unfold V
  after_results
  rfl

/-- The kernel's sine table, negative in the lower halves. -/
theorem sines (c : Dev nD) : V m c main_v44 = concatenate S2048x128 1
    [⟨S2048x32, Host.negf (Host.sin rowAngle)⟩, ⟨S2048x32, Host.sin rowAngle⟩, ⟨S2048x32, Host.negf (Host.sin colAngle)⟩, ⟨S2048x32, Host.sin colAngle⟩]
    concatenates_S2048x32_S2048x32_S2048x32_S2048x32_S2048x128_d1 := by
  unfold V
  after_results
  rfl

theorem cat_at (a b x y : FVec Ideal S2048x32 .f32) (p : Fin 2048) (k : Fin 128) :
    concatenate S2048x128 1 [⟨S2048x32, a⟩, ⟨S2048x32, b⟩, ⟨S2048x32, x⟩, ⟨S2048x32, y⟩]
      concatenates_S2048x32_S2048x32_S2048x32_S2048x32_S2048x128_d1 (ix2 p k)
      = if h : k.val < 32 then a (ix2 p ⟨k.val, h⟩)
        else if h : k.val - 32 < 32 then b (ix2 p ⟨k.val - 32, h⟩)
        else if h : k.val - 32 - 32 < 32 then x (ix2 p ⟨k.val - 32 - 32, h⟩)
        else y (ix2 p ⟨k.val - 32 - 32 - 32, by omega⟩) := by
  pointwise

theorem cos_cols (a b : FVec Ideal S2048x32 .f32) (p : Fin 2048) (k : Fin 128) :
    concatenate S2048x128 1 [⟨S2048x32, a⟩, ⟨S2048x32, a⟩, ⟨S2048x32, b⟩, ⟨S2048x32, b⟩]
      concatenates_S2048x32_S2048x32_S2048x32_S2048x32_S2048x128_d1 (ix2 p k)
      = if h : k.val / 64 * 32 + k.val % 32 < 32 then a (ix2 p ⟨k.val / 64 * 32 + k.val % 32, h⟩)
        else b (ix2 p ⟨k.val / 64 * 32 + k.val % 32 - 32, by omega⟩) := by
  rw [cat_at]
  split_ifs
  all_goals first
    | exact congrArg (fun i => a (ix2 p i)) (Fin.ext (by dsimp only; omega))
    | exact congrArg (fun i => b (ix2 p i)) (Fin.ext (by dsimp only; omega))
    | (exfalso; omega)

theorem sin_cols (a b : FVec Ideal S2048x32 .f32) (p : Fin 2048) (k : Fin 128) :
    concatenate S2048x128 1 [⟨S2048x32, Host.negf a⟩, ⟨S2048x32, a⟩, ⟨S2048x32, Host.negf b⟩, ⟨S2048x32, b⟩]
      concatenates_S2048x32_S2048x32_S2048x32_S2048x32_S2048x128_d1 (ix2 p k)
      = if k.val % 64 < 32 then -((if h : k.val / 64 * 32 + k.val % 32 < 32 then a (ix2 p ⟨k.val / 64 * 32 + k.val % 32, h⟩)
          else b (ix2 p ⟨k.val / 64 * 32 + k.val % 32 - 32, by omega⟩) : EReal))
        else (if h : k.val / 64 * 32 + k.val % 32 < 32 then a (ix2 p ⟨k.val / 64 * 32 + k.val % 32, h⟩)
          else b (ix2 p ⟨k.val / 64 * 32 + k.val % 32 - 32, by omega⟩)) := by
  rw [cat_at]
  split_ifs
  all_goals first
    | exact congrArg (fun i => a (ix2 p i)) (Fin.ext (by dsimp only; omega))
    | exact congrArg (fun i => b (ix2 p i)) (Fin.ext (by dsimp only; omega))
    | exact congrArg (fun i => -(a (ix2 p i) : EReal)) (Fin.ext (by dsimp only; omega))
    | exact congrArg (fun i => -(b (ix2 p i) : EReal)) (Fin.ext (by dsimp only; omega))
    | (exfalso; omega)

/-- The kernel's cosine table holds, at a column, the reference's cosine of the column's pair. -/
theorem cosines_at (c : Dev nD) (p : Fin 2048) (k : Fin 128) :
    V m c main_v41 (ix2 p k) = Host.cos angle (ix2 p ⟨k.val / 64 * 32 + k.val % 32, by omega⟩) := by
  rw [cosines, cos_at]
  exact cos_cols _ _ p k

/-- The kernel's sine table: the reference's sine of the column's pair, negative in the lower half. -/
theorem sines_at (c : Dev nD) (p : Fin 2048) (k : Fin 128) :
    V m c main_v44 (ix2 p k) = if k.val % 64 < 32 then -(Host.sin angle (ix2 p ⟨k.val / 64 * 32 + k.val % 32, by omega⟩) : EReal)
      else Host.sin angle (ix2 p ⟨k.val / 64 * 32 + k.val % 32, by omega⟩) := by
  rw [sines, sin_at]
  exact sin_cols _ _ p k

theorem vx (c : Dev nD) : V m c main_arg0 = m ((c : Thread nD τ).loc main_arg0) := V_main_arg0 m c

theorem vw (c : Dev nD) : V m c main_v1 = truncf (F := Ideal) .bf16 (shapeCast S4096x20480 (m ((c : Thread nD τ).loc main_arg1) : FVec Ideal S1x4096x20480 .f32) shapeCasts_S1x4096x20480_S4096x20480) bitsLt_bf16_f32 := by
  unfold V
  after_results
  rfl

theorem flat_w (w : FVec Ideal S1x4096x20480 .f32) (k : Fin 4096) (q : Fin 20480) :
    (truncf .bf16 (shapeCast S4096x20480 w shapeCasts_S1x4096x20480_S4096x20480) bitsLt_bf16_f32 : FVec Ideal S4096x20480 .bf16) (ix2 k q) = w (ix3 0 k q) := by
  pointwise

theorem coords (t : Fin cfg0.N) : (grid0.coords t 0).val < 16 ∧ (grid0.coords t 1).val < 8 := ⟨(grid0.coords t 0).isLt, (grid0.coords t 1).isLt⟩

theorem rows_blk (c : Dev nD) (t : Fin cfg0.N) (r : Fin 1024) (k : Fin 4096) (r' : Fin 16384) (hr : r'.val = (grid0.coords t 0).val * 1024 + r.val) :
    iblk m c 0 t (ix2 r k) = m ((c : Thread nD τ).loc main_arg0) (ix2 r' k) := by
  have e : (win0_0.blk t).view.emb (ix2 r k) = (ix2 r' k : S16384x4096.Idx) := by blk_ext [idx t]
  blk_simp [iblk]
  rw [e, vx]

theorem cols_blk (c : Dev nD) (t : Fin cfg0.N) (k : Fin 4096) (q : Fin 512) (q' : Fin 20480) (hq : q'.val = (grid0.coords t 1).val * 512 + q.val) :
    iblk m c 1 t (ix2 k q) = m ((c : Thread nD τ).loc main_arg1) (ix3 0 k q') := by
  have e : (win0_1.blk t).view.emb (ix2 k q) = (ix2 k q' : S4096x20480.Idx) := by blk_ext [idx t]
  blk_simp [iblk]
  rw [e, vw]
  exact flat_w _ k q'

theorem cos_blk (c : Dev nD) (t : Fin cfg0.N) (r : Fin 1024) (k : Fin 128) (p : Fin 2048) (hp : p.val = (grid0.coords t 0).val % 2 * 1024 + r.val) :
    iblk m c 2 t (ix2 r k) = V m c main_v41 (ix2 p k) := by
  have e : (win0_2.blk t).view.emb (ix2 r k) = (ix2 p k : S2048x128.Idx) := by blk_ext [idx t]
  show V m c main_v41 ((win0_2.blk t).view.emb (ix2 r k)) = _
  rw [e]

theorem sin_blk (c : Dev nD) (t : Fin cfg0.N) (r : Fin 1024) (k : Fin 128) (p : Fin 2048) (hp : p.val = (grid0.coords t 0).val % 2 * 1024 + r.val) :
    iblk m c 3 t (ix2 r k) = V m c main_v44 (ix2 p k) := by
  have e : (win0_3.blk t).view.emb (ix2 r k) = (ix2 p k : S2048x128.Idx) := by blk_ext [idx t]
  show V m c main_v44 ((win0_3.blk t).view.emb (ix2 r k)) = _
  rw [e]

theorem signed_congr (p : Fin 2048) {q q' : Fin 64} {u v : Nat} (hq : q = q') (h : u = v) :
    (if u < 32 then -(Host.sin angle (ix2 p q) : EReal) else Host.sin angle (ix2 p q))
      = if v < 32 then -(Host.sin angle (ix2 p q') : EReal) else Host.sin angle (ix2 p q') := by
  rw [hq, h]

/-- What a grid point stores is the reference's value at the same place. -/
theorem point (c : Dev nD) (t : Fin cfg0.N) (y) : out0_4 (iblk m c 0 t) (iblk m c 1 t) (iblk m c 2 t) (iblk m c 3 t) y
    = ref (m ((c : Thread nD τ).loc main_arg0)) (m ((c : Thread nD τ).loc main_arg1)) (((cfg0.win 4).blk t).view.emb y) := by
  have hy0 : (y 0).val < 1024 := (y 0).isLt
  have hy1 : (y 1).val < 512 := (y 1).isLt
  obtain ⟨hc0, hc1⟩ := coords t
  have e : ((cfg0.win 4).blk t).view.emb y = (ix2 ⟨(grid0.coords t 0).val * 1024 + (y 0).val, by omega⟩
      ⟨(grid0.coords t 1).val * 512 + (y 1).val, by omega⟩ : S16384x4096.Idx) := by blk_ext [idx t]
  rw [e, ref_at]
  refine (out_at _ _ _ _ y).trans ?_
  refine (turned_congr (fun j => rows_blk m c t _ j ⟨(grid0.coords t 0).val * 1024 + (y 0).val, by omega⟩ rfl) (fun _ _ => rfl) rfl
    ((cos_blk m c t _ _ ⟨((grid0.coords t 0).val * 1024 + (y 0).val) % 2048, by omega⟩ (by dsimp only; omega)).trans (cosines_at m c _ _))
    ((sin_blk m c t _ _ ⟨((grid0.coords t 0).val * 1024 + (y 0).val) % 2048, by omega⟩ (by dsimp only; omega)).trans (sines_at m c _ _))).trans ?_
  have eq : (y 1).val % 128 / 64 * 32 + (y 1).val % 128 % 32
      = ((grid0.coords t 1).val * 512 + (y 1).val) / 64 % 2 * 32 + ((grid0.coords t 1).val * 512 + (y 1).val) % 32 := by omega
  have e2 : (⟨(y 1).val % 128 / 64 * 32 + (y 1).val % 128 % 32, by omega⟩ : Fin 64)
      = ⟨((grid0.coords t 1).val * 512 + (y 1).val) / 64 % 2 * 32 + ((grid0.coords t 1).val * 512 + (y 1).val) % 32, by omega⟩ := Fin.ext eq
  have em : (y 1).val % 128 % 64 = ((grid0.coords t 1).val * 512 + (y 1).val) % 64 := by omega
  refine (turned_congr (fun _ => rfl) (fun _ _ => rfl) rfl (congrArg (fun i => Host.cos angle (ix2 _ i)) e2) (signed_congr _ e2 em)).trans ?_
  exact turned_band (b := 8 * (grid0.coords t 1).val) (by omega) (fun j i => cols_blk m c t j i _ (by dsimp only; omega)) (by dsimp only; omega)

/-- The result array after the run. -/
theorem final (c : Dev nD) : (dats m 0 c).arrAt 4 cfg0.N
    = ref (m ((c : Thread nD τ).loc main_arg0)) (m ((c : Thread nD τ).loc main_arg1)) := by
  refine (dats m 0 c).arrAt_eq_of_covers 4 _ (by decide +kernel) fun t _ y => ?_
  blk_simp
  rw [after0_4]
  exact point m c t y

theorem frame_Kernel : quiescent_KernelRope := fun m ρ _ => Cert.KernelRope.Gen.frame m ρ

theorem frame_KernelIdeal : quiescent_KernelRopeIdeal := fun m ρ _ => Cert.KernelRopeIdeal.Gen.frame m ρ

theorem frame_Reference : quiescent_ReferenceRopeIdeal := fun m ρ _ =>
  (θ_run Cert.ReferenceRopeIdeal.defs _ _).mono (fun r h => ⟨fun c => (h c).2, sem_eq_zero_of_no_sems (by decide) r.2⟩)
    (Cert.ReferenceRopeIdeal.Value.run (F := Ideal) m ρ)

theorem preserves : preserves_KernelRope_KernelRopeIdeal := trivial

/-- The kernel's result array and the reference's are equal. -/
theorem algebraic : algebraic_KernelRopeIdeal_ReferenceRopeIdeal := by
  intro m ρ m' ρ' _ hagree
  refine ⟨_, Cert.KernelRopeIdeal.Value.run_blocks (F := Ideal) m ρ, ?_⟩
  refine (θ_run Cert.ReferenceRopeIdeal.defs _ _).mono (fun _ h c => ⟨?_, (h c).2⟩) (Cert.ReferenceRopeIdeal.Value.run (F := Ideal) m' ρ')
  rw [(h c).1, RopeRef.ref_eq, (hagree c).1, (hagree c).2]
  exact (final m c).symm

end Cert.Proof.Rope
-- ==== Proof.Norm.lean ====
/- The first norm of the latent rows: the kernel's result array and the reference's are the same function of the arguments. -/
module

public import proofs.«01_k».proof.Defs
public import proofs.«01_k».proof.Proof.Gen.KernelNorm.Frame
public import proofs.«01_k».proof.Proof.Gen.KernelNormIdeal.Value
public import proofs.«01_k».proof.Proof.Gen.ReferenceNormIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.NormRef

open Idealize.ShloMosaic Cert.ReferenceNormIdeal Cert.ReferenceNormIdeal.Gen

/-- The reference's normed latent rows, each latent with its own modulation: `norm x * g * (1 + scale) + shift`. -/
abbrev res (x : FVec Ideal S16384x4096 .f32) (g : FVec Ideal S1x4096 .f32) (s : FVec Ideal S8x6x4096 .f32) :
    FVec Ideal S16384x4096 .bf16 :=
  truncf .bf16 (shapeCast _ (addf (mulf (mulf (mulf (shapeCast _ x shapeCasts_S16384x4096_S8x2048x4096) (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf (shapeCast _ x shapeCasts_S16384x4096_S8x2048x4096) (shapeCast _ x shapeCasts_S16384x4096_S8x2048x4096)) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 (shapeCast _ g shapeCasts_S1x4096_S4096)))) (broadcastInDim S8x2048x4096 ![0, 1, 2] bcast_S8x1x4096_S8x2048x4096_0_1_2 (addf (broadcastInDim S8x1x4096 ![] bcast_S_S8x1x4096 (constant S_ .f32 0x3F800000#32)) (broadcastInDim S8x1x4096 ![0, 2] bcast_S8x4096_S8x1x4096_0_2 (shapeCast _ (extractStridedSlice S8x1x4096 ![0, 1, 0] s slices_S8x6x4096_S8x1x4096_0_1_0) shapeCasts_S8x1x4096_S8x4096))))) (broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 0, 0] s slices_S8x6x4096_S8x1x4096_0_0_0) shapeCasts_S8x1x4096_S8x4096)))) shapeCasts_S8x2048x4096_S16384x4096) bitsLt_bf16_f32

end Cert.Proof.NormRef

namespace Cert.Proof.Norm

open Idealize.ShloMosaic Idealize.ShloMosaic.TcCoe Idealize.SL.Sem
open Cert.KernelNormIdeal Cert.KernelNormIdeal.Gen

variable (m : (ℓ : Loc nD τ sig) → Buf (Elt Ideal) ℓ)

/-- Each window's block index at a grid point. -/
theorem idx : ∀ t : Fin cfg0.N, win0_0.index t = ![t.val, 0] ∧ win0_1.index t = ![0, 0]
    ∧ win0_2.index t = ![1 + t.val / 8, 0, 0] ∧ win0_3.index t = ![t.val, 0] :=
  (by decide +kernel : ∀ t : Fin grid0.N, _)

/-- The modulation table: the context's modulation, then the latents', then rows of zeros. -/
theorem table (c : Dev nD) : V m c main_v3 = concatenate S16x6x4096 0
    [⟨S1x6x4096, m ((c : Thread nD τ).loc main_arg2)⟩, ⟨S8x6x4096, m ((c : Thread nD τ).loc main_arg3)⟩,
      ⟨S7x6x4096, broadcastInDim S7x6x4096 ![] bcast_S_S7x6x4096 (constant (F := Ideal) S_ .f32 0x00000000#32)⟩] concatenates_S1x6x4096_S8x6x4096_S7x6x4096_S16x6x4096_d0 := by
  unfold V
  after_results
  rfl

/-- A grid point lies among the rows of one latent. -/
theorem latent_lt (t : Fin cfg0.N) : t.val / 8 < 8 := by
  have h := t.isLt
  have e : cfg0.N = 64 := by decide +kernel
  omega

/-- The modulation table's block is the modulation of the rows' own latent. -/
theorem mod2 (c : Dev nD) (t : Fin cfg0.N) (j : Fin 6) (k : Fin 4096) :
    iblk m c 2 t (ix3 0 j k) = m ((c : Thread nD τ).loc main_arg3) (ix3 ⟨t.val / 8, latent_lt t⟩ j k) := by
  have h := latent_lt t
  have e : (win0_2.blk t).view.emb (ix3 0 j k) = (ix3 ⟨1 + t.val / 8, by omega⟩ j k : S16x6x4096.Idx) := by blk_ext [idx t]
  blk_simp [iblk]
  rw [e, table]
  pointwise
  exact dif_pos h

/-- The load of a row of the modulation table's block. -/
theorem row_ld (c : Dev nD) (t : Fin cfg0.N) (j : Fin 6) (inb) :
    View.ld (iblk m c 2 t) (Rect.unit (s := S1x6x4096) ![0, j.val, 0] S1x1x4096.size inb)
      = fun i => m ((c : Thread nD τ).loc main_arg3) (ix3 ⟨t.val / 8, latent_lt t⟩ j (i 2)) := by
  funext i
  refine Eq.trans (congrArg (iblk m c 2 t) ?_) (mod2 m c t j (i 2))
  funext a
  refine Fin.ext ((Rect.emb_apply _ _ _).trans ?_)
  match a with
  | ⟨0, _⟩ => show 0 + 1 * (i 0).val = 0; have h : (i 0).val < 1 := (i 0).isLt; omega
  | ⟨1, _⟩ => show j.val + 1 * (i 1).val = j.val; have h : (i 1).val < 1 := (i 1).isLt; omega
  | ⟨2, _⟩ => show 0 + 1 * (i 2).val = (i 2).val; omega

/-- What a grid point stores is the reference's value at the same place. -/
theorem point (c : Dev nD) (t : Fin cfg0.N) (y) :
    k0_pay1 (iblk m c 0 t) (iblk m c 1 t) (View.ld (iblk m c 2 t) r0_2) (View.ld (iblk m c 2 t) r0_3) y
      = NormRef.res (m ((c : Thread nD τ).loc main_arg0)) (m ((c : Thread nD τ).loc main_arg1)) (m ((c : Thread nD τ).loc main_arg3)) (((cfg0.win 3).blk t).view.emb y) := by
  rw [show View.ld (iblk m c 2 t) r0_2 = _ from row_ld m c t 1 _, show View.ld (iblk m c 2 t) r0_3 = _ from row_ld m c t 0 _]
  pointwise [k0_pay1, NormRef.res]
  blk_point [iblk, V, idx t]

/-- The result array after the run. -/
theorem final (c : Dev nD) : (dats m 0 c).arrAt 3 cfg0.N = NormRef.res (m ((c : Thread nD τ).loc main_arg0)) (m ((c : Thread nD τ).loc main_arg1)) (m ((c : Thread nD τ).loc main_arg3)) := by
  refine (dats m 0 c).arrAt_eq_of_covers 3 _ (by decide +kernel) fun t _ y => ?_
  blk_simp
  rw [after0_3]; frame_out
  exact point m c t y

theorem frame_Kernel : quiescent_KernelNorm := fun m ρ _ => Cert.KernelNorm.Gen.frame m ρ

theorem frame_KernelIdeal : quiescent_KernelNormIdeal := fun m ρ _ => Cert.KernelNormIdeal.Gen.frame m ρ

theorem frame_Reference : quiescent_ReferenceNormIdeal := fun m ρ _ =>
  (θ_run Cert.ReferenceNormIdeal.defs _ _).mono (fun r h => ⟨fun c => (h c).2, sem_eq_zero_of_no_sems (by decide) r.2⟩)
    (Cert.ReferenceNormIdeal.Value.run (F := Ideal) m ρ)

theorem preserves : preserves_KernelNorm_KernelNormIdeal := trivial

/-- The kernel's result array and the reference's are equal. -/
theorem algebraic : algebraic_KernelNormIdeal_ReferenceNormIdeal := by
  intro m ρ m' ρ' _ hagree
  refine ⟨_, Cert.KernelNormIdeal.Value.run_blocks (F := Ideal) m ρ, ?_⟩
  refine (θ_run Cert.ReferenceNormIdeal.defs _ _).mono (fun _ h c => ⟨?_, (h c).2⟩) (Cert.ReferenceNormIdeal.Value.run (F := Ideal) m' ρ')
  rw [(h c).1, (hagree c).1, (hagree c).2.1, (hagree c).2.2.2]
  exact (final m c).symm

end Cert.Proof.Norm
-- ==== Proof.Mod.lean ====
/- The modulation's product: the kernel's result array and the reference's are the same function of the arguments. -/
module

public import proofs.«01_k».proof.Defs
public import proofs.«01_k».proof.Proof.Gen.KernelMod.Frame
public import proofs.«01_k».proof.Proof.Gen.KernelModIdeal.Value
public import proofs.«01_k».proof.Proof.Gen.ReferenceModIdeal.Run
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie
public import Idealize.ShloMosaic.Lib.Pointwise

@[expose] public section

set_option maxRecDepth 16384

noncomputable section

namespace Cert.Proof.ModRef

open Idealize.ShloMosaic Cert.ReferenceModIdeal Cert.ReferenceModIdeal.Gen

/-- The condition of a row: the context's, a latent's, or zeros. -/
def cond (c : FVec Ideal S8x4096 .f32) (d : FVec Ideal S4096 .f32) (i : Fin 16) (k : Fin 4096) : EReal :=
  if h : i.val < 1 then d (ix1 k) else if h : i.val - 1 < 8 then c (ix2 ⟨i.val - 1, h⟩ k) else 0

/-- The reference's modulation of a condition, at a column: the condition's swish against the weights, and the bias. -/
def modAt (x : Fin 4096 → EReal) (w : FVec Ideal S1x4096x24576 .f32) (b : FVec Ideal S1x24576 .f32) (j : Fin 24576) : EReal :=
  (∑ k : Fin 4096, x k * Ideal.logistic (x k) * w (ix3 0 k j)) + b (ix2 0 j)

/-- The reference's result: the modulations of the context's condition, of the latents' and of zeros. -/
abbrev res (c : FVec Ideal S8x4096 .f32) (d : FVec Ideal S4096 .f32) (w : FVec Ideal S1x4096x24576 .f32) (b : FVec Ideal S1x24576 .f32) :
    FVec Ideal S16x24576 .f32 :=
  (concatenate S16x24576 0 [⟨S1x24576, ((addf (Host.dotGeneral dot_S1x4096_S4096x24576_S1x24576_1_0_0_1_n_n none (mulf (broadcastInDim S1x4096 ![1] bcast_S4096_S1x4096_1 d) (Host.divf (broadcastInDim S1x4096 ![] bcast_S_S1x4096 (constant (F := Ideal) S_ .f32 0x3F800000#32)) (addf (broadcastInDim S1x4096 ![] bcast_S_S1x4096 (constant (F := Ideal) S_ .f32 0x3F800000#32)) (Host.exp (Host.negf (broadcastInDim S1x4096 ![1] bcast_S4096_S1x4096_1 d)))))) (shapeCast _ w shapeCasts_S1x4096x24576_S4096x24576)) (broadcastInDim S1x24576 ![1] bcast_S24576_S1x24576_1 (shapeCast _ b shapeCasts_S1x24576_S24576))) : (⟨S1x24576, .f32⟩ : BufTy).Contents (Elt Ideal))⟩, ⟨S8x24576, ((addf (Host.dotGeneral dot_S8x4096_S4096x24576_S8x24576_1_0_0_1_n_n none (mulf c (Host.divf (broadcastInDim S8x4096 ![] bcast_S_S8x4096 (constant (F := Ideal) S_ .f32 0x3F800000#32)) (addf (broadcastInDim S8x4096 ![] bcast_S_S8x4096 (constant (F := Ideal) S_ .f32 0x3F800000#32)) (Host.exp (Host.negf c))))) (shapeCast _ w shapeCasts_S1x4096x24576_S4096x24576)) (broadcastInDim S8x24576 ![0, 1] bcast_S1x24576_S8x24576_0_1 (broadcastInDim S1x24576 ![1] bcast_S24576_S1x24576_1 (shapeCast _ b shapeCasts_S1x24576_S24576)))) : (⟨S8x24576, .f32⟩ : BufTy).Contents (Elt Ideal))⟩, ⟨S7x24576, ((addf (Host.dotGeneral dot_S7x4096_S4096x24576_S7x24576_1_0_0_1_n_n none (mulf (broadcastInDim S7x4096 ![] bcast_S_S7x4096 (constant (F := Ideal) S_ .f32 0x00000000#32)) (Host.divf (broadcastInDim S7x4096 ![] bcast_S_S7x4096 (constant (F := Ideal) S_ .f32 0x3F800000#32)) (addf (broadcastInDim S7x4096 ![] bcast_S_S7x4096 (constant (F := Ideal) S_ .f32 0x3F800000#32)) (Host.exp (Host.negf (broadcastInDim S7x4096 ![] bcast_S_S7x4096 (constant (F := Ideal) S_ .f32 0x00000000#32))))))) (shapeCast _ w shapeCasts_S1x4096x24576_S4096x24576)) (broadcastInDim S7x24576 ![0, 1] bcast_S1x24576_S7x24576_0_1 (broadcastInDim S1x24576 ![1] bcast_S24576_S1x24576_1 (shapeCast _ b shapeCasts_S1x24576_S24576)))) : (⟨S7x24576, .f32⟩ : BufTy).Contents (Elt Ideal))⟩] concatenates_S1x24576_S8x24576_S7x24576_S16x24576_d0 : (⟨S16x24576, .f32⟩ : BufTy).Contents (Elt Ideal))

theorem res_apply (c : FVec Ideal S8x4096 .f32) (d : FVec Ideal S4096 .f32) (w : FVec Ideal S1x4096x24576 .f32) (b : FVec Ideal S1x24576 .f32)
    (i : Fin 16) (j : Fin 24576) : res c d w b (ix2 i j) = modAt (cond c d i) w b j := by
  unfold modAt
  pointwise [res, cond]
  split_ifs <;> rfl

end Cert.Proof.ModRef

namespace Cert.Proof.Mod

open Idealize.ShloMosaic Idealize.ShloMosaic.TcCoe Idealize.SL.Sem
open Cert.KernelModIdeal Cert.KernelModIdeal.Gen

variable (m : (ℓ : Loc nD τ sig) → Buf (Elt Ideal) ℓ)

/-- Each window's block index at a grid point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The kernel's first operand: the condition's rows. -/
def rows (c : FVec Ideal S8x4096 .f32) (d : FVec Ideal S4096 .f32) : FVec Ideal S16x4096 .f32 :=
  concatenate S16x4096 0 [⟨S1x4096, broadcastInDim S1x4096 ![1] bcast_S4096_S1x4096_1 d⟩, ⟨S8x4096, c⟩,
    ⟨S7x4096, broadcastInDim S7x4096 ![] bcast_S_S7x4096 (constant (F := Ideal) S_ .f32 0x00000000#32)⟩]
    concatenates_S1x4096_S8x4096_S7x4096_S16x4096_d0

theorem rows_apply (c : FVec Ideal S8x4096 .f32) (d : FVec Ideal S4096 .f32) (i : Fin 16) (k : Fin 4096) :
    rows c d (ix2 i k) = ModRef.cond c d i k := by
  pointwise [rows, ModRef.cond]

theorem cond_eq (c : Dev nD) : V m c main_v2 = rows (m ((c : Thread nD τ).loc main_arg0)) (m ((c : Thread nD τ).loc main_arg1)) := by
  unfold V
  after_results
  rfl

/-- The first window's block is the whole array of rows. -/
theorem cond_blk (c : Dev nD) (t : Fin cfg0.N) :
    iblk m c 0 t = rows (m ((c : Thread nD τ).loc main_arg0)) (m ((c : Thread nD τ).loc main_arg1)) := by
  funext i
  have e : (win0_0.blk t).view.emb i = (i : S16x4096.Idx) := by blk_ext [idx t]
  blk_simp [iblk]
  rw [e, cond_eq]

/-- What a grid point stores is the reference's value at the same place. -/
theorem point (c : Dev nD) (t : Fin cfg0.N) (y) :
    k0_pay1 (iblk m c 0 t) (iblk m c 1 t) (iblk m c 2 t) y
      = ModRef.res (m ((c : Thread nD τ).loc main_arg0)) (m ((c : Thread nD τ).loc main_arg1)) (m ((c : Thread nD τ).loc main_arg2)) (m ((c : Thread nD τ).loc main_arg3)) (((cfg0.win 3).blk t).view.emb y) := by
  have e : ((cfg0.win 3).blk t).view.emb y = (ix2 (⟨(y 0).val, (y 0).isLt⟩ : Fin 16) (⟨t.val * 512 + (y 1).val, by have h : t.val < 48 := t.isLt; have h1 : (y 1).val < 512 := (y 1).isLt; omega⟩ : Fin 24576) : S16x24576.Idx) := by
    blk_ext [idx t]
  rw [e, ModRef.res_apply, cond_blk, ← funext (rows_apply (m ((c : Thread nD τ).loc main_arg0)) (m ((c : Thread nD τ).loc main_arg1)) ⟨(y 0).val, (y 0).isLt⟩)]
  generalize rows _ _ = R
  unfold ModRef.modAt
  pointwise [k0_pay1]
  blk_point [iblk, V, idx t]

/-- The result array after the run. -/
theorem final (c : Dev nD) : (dats m 0 c).arrAt 3 cfg0.N = ModRef.res (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  exact point m c t y

theorem frame_Kernel : quiescent_KernelMod := fun m ρ _ => Cert.KernelMod.Gen.frame m ρ

theorem frame_KernelIdeal : quiescent_KernelModIdeal := fun m ρ _ => Cert.KernelModIdeal.Gen.frame m ρ

theorem frame_Reference : quiescent_ReferenceModIdeal := fun m ρ _ =>
  (θ_run Cert.ReferenceModIdeal.defs _ _).mono (fun r h => ⟨fun c => (h c).2, sem_eq_zero_of_no_sems (by decide) r.2⟩)
    (Cert.ReferenceModIdeal.Value.run (F := Ideal) m ρ)

theorem preserves : preserves_KernelMod_KernelModIdeal := trivial

/-- The kernel's result array and the reference's are equal. -/
theorem algebraic : algebraic_KernelModIdeal_ReferenceModIdeal := by
  intro m ρ m' ρ' _ hagree
  refine ⟨_, Cert.KernelModIdeal.Value.run_blocks (F := Ideal) m ρ, ?_⟩
  refine (θ_run Cert.ReferenceModIdeal.defs _ _).mono (fun _ h c => ⟨?_, (h c).2⟩) (Cert.ReferenceModIdeal.Value.run (F := Ideal) m' ρ')
  rw [(h c).1, (hagree c).1, (hagree c).2.1, (hagree c).2.2.1, (hagree c).2.2.2]
  exact (final m c).symm

end Cert.Proof.Mod
-- ==== Proof.CtxHead.lean ====
module

public import proofs.«01_k».proof.Proof.Gen.KernelCtxIdeal.Value
public import proofs.«01_k».proof.Proof.AttnEq
public import Idealize.ShloMosaic.Lib.Pointwise
public import Idealize.ShloMosaic.Lib.Pipeline.ValueKit

@[expose] public section

set_option maxRecDepth 16384
noncomputable section

/-! # One head of the context's attention -/

namespace Cert.Proof.Ctx
open Cert.KernelCtxIdeal Cert.KernelCtxIdeal.Gen Idealize.ShloMosaic Idealize.ShloMosaic.TcCoe Idealize.SL.Sem
open Cert.Proof.Attn (tile tile_apply ld_tile ld_one sitofp_one sum_sink)

section
variable {F : FTy → Type} [FloatOps F] [Named F]

/-- What one key/value head's part of the body computes, as a function of the four query tiles, the four sinks, the key tile and the value tile: the
    1024 rows (four query heads of 256 queries) of attention outputs. -/
def headOut (q0 q1 q2 q3 : FVec F S256x128 .bf16) (s0 s1 s2 s3 : Elt F .f32) (k v : FVec F S256x128 .f32) : FVec F S1024x128 .f32 :=
  k0_pay13 (k0_pay8 v) (k0_pay10 q0 q1 q2 q3 s0 s1 s2 s3 k) k0_pay11 (k0_pay12 q0 q1 q2 q3 s0 s1 s2 s3 k)

/-- The stacked queries. -/
def stack (q0 q1 q2 q3 : FVec F S256x128 .bf16) : FVec F S1024x128 .bf16 :=
  concatenate S1024x128 0 [⟨S256x128, q0⟩, ⟨S256x128, q1⟩, ⟨S256x128, q2⟩, ⟨S256x128, q3⟩] concatenates_S256x128_S256x128_S256x128_S256x128_S1024x128_d0

end

/-- The last step of a head: the weighted sum of the values over the sum of the weights and the sink's. -/
theorem pay13_apply (V : FVec Ideal S256x128 .bf16) (P : FVec Ideal S256x1024 .bf16) (E : FVec Ideal S1x1024 .f32) (r : Fin 1024) (d : Fin 128) :
    k0_pay13 (F := Ideal) V P k0_pay11 E (ix2 r d)
      = Ideal.div (∑ c : Fin 256, P (ix2 c r) * V (ix2 c d)) ((∑ c : Fin 256, P (ix2 c r)) + E (ix2 0 r)) := by
  pointwise [k0_pay13, k0_pay11]
  simp only [sitofp_one, mul_one, mul_zero, sum_sink, add_zero]

theorem named_scale : (Named.named (F := Ideal) κ "scale" (0x3DB504F3#32 : BitVec FTy.f32.bits) : Ideal .f32) = ((AttnMath.sc : ℝ) : EReal) :=
  IdealRules.named_const.ideal_named_scalar _ _ _ _ rfl

theorem named_log2e : (Named.named (F := Ideal) κ "log2e" (0x3FB8AA3B#32 : BitVec FTy.f32.bits) : Ideal .f32) = (((Real.log 2)⁻¹ : ℝ) : EReal) :=
  IdealRules.named_const.ideal_named_scalar _ _ _ _ rfl

theorem named_scale_log2e : (Named.named (F := Ideal) κ "scale_log2e" (0x3E0293EE#32 : BitVec FTy.f32.bits) : Ideal .f32)
    = ((AttnMath.sc * (Real.log 2)⁻¹ : ℝ) : EReal) :=
  IdealRules.named_const.ideal_named_scalar _ _ _ _ rfl

theorem dot_apply (K : FVec Ideal S256x128 .f32) (Q : FVec Ideal S1024x128 .bf16) (c : Fin 256) (r : Fin 1024) :
    matmul dot_S256x128_S1024x128_S256x1024_1_1_0_0_n_n none (truncf (F := Ideal) .bf16 K bitsLt_bf16_f32) Q (constant S256x1024 .f32 0x00000000#32) (ix2 c r)
      = (∑ x : Fin 128, K (ix2 c x) * Q (ix2 r x) : EReal) := by
  pointwise []

/-- The scores: the plain products. -/
theorem pay7_apply (q0 q1 q2 q3 : FVec Ideal S256x128 .bf16) (k : FVec Ideal S256x128 .f32) (c : Fin 256) (r : Fin 1024) :
   k0_pay7 (F := Ideal) q0 q1 q2 q3 k (ix2 c r) = ∑ x : Fin 128, k (ix2 c x) * stack q0 q1 q2 q3 (ix2 r x) :=
  dot_apply k (stack q0 q1 q2 q3) c r

/-- The row's maximum: of the scaled scores and the sink. -/
theorem pay9_apply (q0 q1 q2 q3 : FVec Ideal S256x128 .bf16) (s0 s1 s2 s3 : Elt Ideal .f32) (k : FVec Ideal S256x128 .f32) (r : Fin 1024) :
   k0_pay9 (F := Ideal) q0 q1 q2 q3 s0 s1 s2 s3 k (ix2 0 r)
     = max ((Finset.univ.fold max ⊥ fun c : Fin 256 => k0_pay7 (F := Ideal) q0 q1 q2 q3 k (ix2 c r)) * ((AttnMath.sc : ℝ) : EReal))
        (k0_pay6 (F := Ideal) s0 s1 s2 s3 (ix2 0 r)) := by
  rw [← named_scale, ← AttnRef.ofBits_neg_inf]
  pointwise [k0_pay9]

/-- The weights. -/
theorem pay10_apply (q0 q1 q2 q3 : FVec Ideal S256x128 .bf16) (s0 s1 s2 s3 : Elt Ideal .f32) (k : FVec Ideal S256x128 .f32) (c : Fin 256) (r : Fin 1024) :
   k0_pay10 (F := Ideal) q0 q1 q2 q3 s0 s1 s2 s3 k (ix2 c r)
     = Ideal.exp2 (k0_pay7 (F := Ideal) q0 q1 q2 q3 k (ix2 c r) * ((AttnMath.sc * (Real.log 2)⁻¹ : ℝ) : EReal)
        - k0_pay9 (F := Ideal) q0 q1 q2 q3 s0 s1 s2 s3 k (ix2 0 r) * (((Real.log 2)⁻¹ : ℝ) : EReal)) := by
  rw [← named_scale_log2e, ← named_log2e]
  pointwise [k0_pay10]
  rfl

/-- The sink's weight. -/
theorem pay12_apply (q0 q1 q2 q3 : FVec Ideal S256x128 .bf16) (s0 s1 s2 s3 : Elt Ideal .f32) (k : FVec Ideal S256x128 .f32) (r : Fin 1024) :
   k0_pay12 (F := Ideal) q0 q1 q2 q3 s0 s1 s2 s3 k (ix2 0 r)
     = Ideal.exp (k0_pay6 (F := Ideal) s0 s1 s2 s3 (ix2 0 r) - k0_pay9 (F := Ideal) q0 q1 q2 q3 s0 s1 s2 s3 k (ix2 0 r)) := by
  pointwise [k0_pay12]

/-- The sinks of the four query heads, each for its 256 rows. -/
theorem pay6_apply (s0 s1 s2 s3 : Elt Ideal .f32) (r : Fin 1024) :
    k0_pay6 (F := Ideal) s0 s1 s2 s3 (ix2 0 r)
      = (if _h : r.val < 256 then s0 else if _h : r.val - 256 < 256 then s1 else if _h : r.val - 256 - 256 < 256 then s2 else s3 : EReal) := by
  pointwise [k0_pay6]

/-- The four stacked query tiles, at a row and a column. -/
theorem stack_apply (k0 k1 k2 k3 : FVec Ideal S256x128 .bf16) (c : Fin 1024) (d : Fin 128) :
   stack (F := Ideal) k0 k1 k2 k3 (ix2 c d) = if h : c.val < 256 then k0 (ix2 ⟨c.val, h⟩ d)
    else if h : c.val - 256 < 256 then k1 (ix2 ⟨c.val - 256, h⟩ d)
    else if h : c.val - 256 - 256 < 256 then k2 (ix2 ⟨c.val - 256 - 256, h⟩ d) else k3 (ix2 ⟨c.val - 256 - 256 - 256, by omega⟩ d) := by
  pointwise [stack]

/-- One head's outputs: the weighted mean of the values, with base-2 exponentials of the scores less the row's maximum, over the keys and the sink. -/
theorem headOut_apply (q0 q1 q2 q3 : FVec Ideal S256x128 .bf16) (s0 s1 s2 s3 : Elt Ideal .f32) (k v : FVec Ideal S256x128 .f32) (r : Fin 1024) (d : Fin 128)
    (S : Fin 256 → EReal) (hS : S = fun c => ∑ x : Fin 128, k (ix2 c x) * stack (F := Ideal) q0 q1 q2 q3 (ix2 r x))
    (σ : EReal) (hσ : k0_pay6 (F := Ideal) s0 s1 s2 s3 (ix2 0 r) = σ) :
    headOut (F := Ideal) q0 q1 q2 q3 s0 s1 s2 s3 k v (ix2 r d)
      = Ideal.div (∑ c, Ideal.exp2 (S c * ((AttnMath.sc * (Real.log 2)⁻¹ : ℝ) : EReal)
            - max (Finset.univ.fold max ⊥ S * ((AttnMath.sc : ℝ) : EReal)) σ * (((Real.log 2)⁻¹ : ℝ) : EReal)) * v (ix2 c d))
          ((∑ c, Ideal.exp2 (S c * ((AttnMath.sc * (Real.log 2)⁻¹ : ℝ) : EReal)
            - max (Finset.univ.fold max ⊥ S * ((AttnMath.sc : ℝ) : EReal)) σ * (((Real.log 2)⁻¹ : ℝ) : EReal)))
            + Ideal.exp (σ - max (Finset.univ.fold max ⊥ S * ((AttnMath.sc : ℝ) : EReal)) σ)) := by
  subst hS
  rw [headOut, pay13_apply, pay12_apply, hσ]
  simp only [pay10_apply, pay9_apply, hσ, pay7_apply]
  rfl

end Cert.Proof.Ctx
-- ==== Proof.CtxRef.lean ====
module

public import proofs.«01_k».proof.Proof.Gen.ReferenceCtxIdeal.Run
public import proofs.«01_k».proof.Proof.AttnRef
public import Idealize.ShloMosaic.Lib.Pointwise
public import Idealize.ShloMosaic.Lib.KernelVsHost
public import Idealize.ShloMosaic.Lib.Pipeline.ValueKit

@[expose] public section

set_option maxRecDepth 16384
noncomputable section

/-! # The reference's attention of the context, read at an index -/

namespace Cert.Proof.CtxRef
open Cert.ReferenceCtxIdeal Cert.ReferenceCtxIdeal.Gen Cert.ReferenceCtxIdeal.Value Idealize.ShloMosaic Idealize.ShloMosaic.TcCoe Idealize.SL.Sem

section
variable {F : FTy → Type} [FloatOps F] [Named F]

/-- The scaled scores. -/
def refScores (q : FVec F S8192x4096 .bf16) (k : FVec F S8192x1024 .f32) : FVec F S32x8x4x256x256 .f32 :=
  Host.divf (transpose S32x8x4x256x256 [0, 1, 4, 3, 2] (Host.dotGeneral dot_S32x256x8x128_S32x256x8x4x128_S32x8x256x256x4_3_4_1_13_02_02 none (shapeCast S32x256x8x128 k shapeCasts_S8192x1024_S32x256x8x128) (shapeCast S32x256x8x4x128 (extf .f32 q bitsLt_bf16_f32) shapeCasts_S8192x4096_S32x256x8x4x128)) transposes_S32x8x256x256x4_S32x8x4x256x256_0_1_4_3_2) (broadcastInDim S32x8x4x256x256 ![] bcast_S_S32x8x4x256x256 (Host.sqrt (constant S_ .f32 0x43000000#32)))

/-- The sinks, one per query head, over the batches and the queries. -/
def refSink (sk : FVec F S1x32 .f32) : FVec F S32x8x4x256x1 .f32 :=
  broadcastInDim S32x8x4x256x1 ![0, 1, 2, 3, 4] bcast_S1x8x4x1x1_S32x8x4x256x1_0_1_2_3_4 (shapeCast S1x8x4x1x1 (shapeCast S32 sk shapeCasts_S1x32_S32) shapeCasts_S32_S1x8x4x1x1)

/-- The greatest of a query's scores. -/
def refRowMax (s : FVec F S32x8x4x256x256 .f32) : FVec F S32x8x4x256 .f32 :=
  Host.reduce FloatOps.maximumf s (constant S_ .f32 0xFF800000#32) reducesTo_S32x8x4x256x256_S32x8x4x256_d4 h_S_

/-- The greatest of a query's scores and its sink. -/
def refMax (s : FVec F S32x8x4x256x256 .f32) (sk : FVec F S1x32 .f32) : FVec F S32x8x4x256x1 .f32 :=
  maximumf (broadcastInDim S32x8x4x256x1 ![0, 1, 2, 3] bcast_S32x8x4x256_S32x8x4x256x1_0_1_2_3 (refRowMax s)) (refSink sk)

/-- The exponentials. -/
def refExp (s : FVec F S32x8x4x256x256 .f32) (M : FVec F S32x8x4x256x1 .f32) : FVec F S32x8x4x256x256 .f32 :=
  Host.exp (subf s (broadcastInDim S32x8x4x256x256 ![0, 1, 2, 3, 4] bcast_S32x8x4x256x1_S32x8x4x256x256_0_1_2_3_4 M))

/-- The normalized exponentials: over their sum and the sink's exponential. -/
def refProbs (E : FVec F S32x8x4x256x256 .f32) (M : FVec F S32x8x4x256x1 .f32) (sk : FVec F S1x32 .f32) : FVec F S32x8x4x256x256 .f32 :=
  Host.divf E (broadcastInDim S32x8x4x256x256 ![0, 1, 2, 3, 4] bcast_S32x8x4x256x1_S32x8x4x256x256_0_1_2_3_4 (addf (broadcastInDim S32x8x4x256x1 ![0, 1, 2, 3] bcast_S32x8x4x256_S32x8x4x256x1_0_1_2_3 (Host.reduceAdd E (constant S_ .f32 0x00000000#32) reducesTo_S32x8x4x256x256_S32x8x4x256_d4 h_S_)) (Host.exp (subf (refSink sk) M))))

/-- The probabilities against the values, in the layout of the result. -/
def refMix (p : FVec F S32x8x4x256x256 .f32) (v : FVec F S8192x1024 .f32) : FVec F S8192x4096 .bf16 :=
  truncf .bf16 (shapeCast S8192x4096 (transpose S32x256x8x4x128 [0, 4, 1, 3, 2] (Host.dotGeneral dot_S32x256x8x128_S32x8x4x256x256_S32x8x128x4x256_1_4_3_23_02_01 none (shapeCast S32x256x8x128 v shapeCasts_S8192x1024_S32x256x8x128) p) transposes_S32x8x128x4x256_S32x256x8x4x128_0_4_1_3_2) shapeCasts_S32x256x8x4x128_S8192x4096) bitsLt_bf16_f32

/-- The whole reference as a function of its arguments. -/
def refOut (q : FVec F S8192x4096 .bf16) (k v : FVec F S8192x1024 .f32) (sk : FVec F S1x32 .f32) : FVec F S8192x4096 .bf16 :=
  refMix (refProbs (refExp (refScores q k) (refMax (refScores q k) sk)) (refMax (refScores q k) sk) sk) v

/-- The reference's result is that function of the argument arrays. -/
theorem res_eq (m : (ℓ : Loc nD τ sig) → Buf (Elt F) ℓ) (c : Dev nD) : res_main_v29 m c
    = refOut (m ((c.tc : Thread nD τ).loc main_arg0)) (m ((c.tc : Thread nD τ).loc main_arg1)) (m ((c.tc : Thread nD τ).loc main_arg2))
        (m ((c.tc : Thread nD τ).loc main_arg3)) := by
  rfl

end

theorem refScores_apply (q : FVec Ideal S8192x4096 .bf16) (k : FVec Ideal S8192x1024 .f32)
    (b : Fin 32) (kv : Fin 8) (g : Fin 4) (i t : Fin 256) :
    refScores (F := Ideal) q k (ix5 b kv g i t)
      = (∑ x : Fin 128, k (ix2 ⟨b.val * 256 + t.val, by omega⟩ ⟨kv.val * 128 + x.val, by omega⟩)
          * q (ix2 ⟨b.val * 256 + i.val, by omega⟩ ⟨kv.val * 512 + g.val * 128 + x.val, by omega⟩))
            * (((Real.sqrt 128)⁻¹ : ℝ) : EReal) := by
  pointwise [refScores]
  rw [AttnRef.sqrt_128, Ideal.div_coe (by positivity), one_div]

theorem reduces_scores : S32x8x4x256x256.Reduces [4] S32x8x4x256 := by decide

theorem lift_scores (b : Fin 32) (kv : Fin 8) (g : Fin 4) (i k : Fin 256) :
    reduces_scores.lift (ix4 b kv g i) k = ix5 b kv g i k := by
  funext a
  match a with
  | ⟨0, _⟩ => rfl
  | ⟨1, _⟩ => rfl
  | ⟨2, _⟩ => rfl
  | ⟨3, _⟩ => rfl
  | ⟨4, _⟩ => rfl

theorem reduceMax_apply (s : FVec Ideal S32x8x4x256x256 .f32) (b : Fin 32) (kv : Fin 8) (g : Fin 4) (i : Fin 256) :
    refRowMax (F := Ideal) s (ix4 b kv g i) = Finset.univ.fold max ⊥ fun x : Fin 256 => s (ix5 b kv g i x) := by
  unfold refRowMax
  rw [Host.reduce_eq_fold_single FloatOps.maximumf s _ _ reduces_scores]
  rw [← AttnRef.ofBits_neg_inf]
  exact Finset.fold_congr fun x _ => congrArg s (lift_scores b kv g i x)

theorem refSink_apply (sk : FVec Ideal S1x32 .f32) (b : Fin 32) (kv : Fin 8) (g : Fin 4) (i : Fin 256) :
    refSink (F := Ideal) sk (ix5 b kv g i 0) = sk (ix2 0 ⟨kv.val * 4 + g.val, by omega⟩) := by
  pointwise [refSink]

theorem max_apply (R : FVec Ideal S32x8x4x256 .f32) (K : FVec Ideal S32x8x4x256x1 .f32) (b : Fin 32) (kv : Fin 8) (g : Fin 4) (i : Fin 256) :
    maximumf (broadcastInDim S32x8x4x256x1 ![0, 1, 2, 3] bcast_S32x8x4x256_S32x8x4x256x1_0_1_2_3 R) K (ix5 b kv g i 0)
      = max (R (ix4 b kv g i)) (K (ix5 b kv g i 0)) := by
  pointwise []

theorem refMax_apply (s : FVec Ideal S32x8x4x256x256 .f32) (sk : FVec Ideal S1x32 .f32) (b : Fin 32) (kv : Fin 8) (g : Fin 4) (i : Fin 256) :
    refMax (F := Ideal) s sk (ix5 b kv g i 0)
      = max (Finset.univ.fold max ⊥ fun x : Fin 256 => s (ix5 b kv g i x)) (sk (ix2 0 ⟨kv.val * 4 + g.val, by omega⟩)) :=
  (max_apply (refRowMax s) (refSink sk) b kv g i).trans
    (congrArg₂ max (reduceMax_apply s b kv g i) (refSink_apply sk b kv g i))

theorem refProbs_apply (s : FVec Ideal S32x8x4x256x256 .f32) (M : FVec Ideal S32x8x4x256x1 .f32) (sk : FVec Ideal S1x32 .f32) (b : Fin 32) (kv : Fin 8) (g : Fin 4) (i t : Fin 256) :
    refProbs (F := Ideal) (refExp s M) M sk (ix5 b kv g i t)
      = Ideal.div (Ideal.exp (s (ix5 b kv g i t) - M (ix5 b kv g i 0)))
        ((∑ x : Fin 256, Ideal.exp (s (ix5 b kv g i x) - M (ix5 b kv g i 0)))
          + Ideal.exp (sk (ix2 0 ⟨kv.val * 4 + g.val, by omega⟩) - M (ix5 b kv g i 0))) := by
  pointwise [refProbs, refExp, refSink]

theorem refMix_at (p : FVec Ideal S32x8x4x256x256 .f32) (v : FVec Ideal S8192x1024 .f32) (r : Fin 8192) (l : Fin 4096) :
    refMix (F := Ideal) p v (ix2 r l)
      = ∑ x : Fin 256, v (ix2 ⟨r.val / 256 * 256 + x.val, by omega⟩ ⟨l.val / 512 * 128 + l.val % 128, by omega⟩)
          * p (ix5 ⟨r.val / 256, by omega⟩ ⟨l.val / 512, by omega⟩ ⟨l.val / 128 % 4, by omega⟩ ⟨r.val % 256, by omega⟩ x) := by
  pointwise [refMix]

theorem refMix_apply (p : FVec Ideal S32x8x4x256x256 .f32) (v : FVec Ideal S8192x1024 .f32) (r : Fin 8192) (l : Fin 4096)
    (b : Fin 32) (kv : Fin 8) (g : Fin 4) (i : Fin 256) (d : Fin 128) (hr : r.val = b.val * 256 + i.val) (hl : l.val = kv.val * 512 + g.val * 128 + d.val) :
    refMix (F := Ideal) p v (ix2 r l)
      = ∑ x : Fin 256, v (ix2 ⟨b.val * 256 + x.val, by omega⟩ ⟨kv.val * 128 + d.val, by omega⟩) * p (ix5 b kv g i x) := by
  have e1 : (⟨r.val / 256, by omega⟩ : Fin 32) = b := Fin.ext (by show r.val / 256 = b.val; omega)
  have e2 : (⟨l.val / 512, by omega⟩ : Fin 8) = kv := Fin.ext (by show l.val / 512 = kv.val; omega)
  have e4 : (⟨l.val / 128 % 4, by omega⟩ : Fin 4) = g := Fin.ext (by show l.val / 128 % 4 = g.val; omega)
  have e5 : (⟨r.val % 256, by omega⟩ : Fin 256) = i := Fin.ext (by show r.val % 256 = i.val; omega)
  rw [refMix_at, e1, e2, e4, e5]
  refine Finset.sum_congr rfl fun x _ => congrArg (· * _) (congrArg v (congrArg₂ ix2 (Fin.ext ?_) (Fin.ext ?_)))
  · show r.val / 256 * 256 + x.val = b.val * 256 + x.val; omega
  · show l.val / 512 * 128 + l.val % 128 = kv.val * 128 + d.val; omega

/-- The reference at an output row and lane: the normalized exponentials of the row's scores against the values. -/
theorem refOut_apply (q : FVec Ideal S8192x4096 .bf16) (k v : FVec Ideal S8192x1024 .f32) (sk : FVec Ideal S1x32 .f32)
    (r : Fin 8192) (l : Fin 4096) (b : Fin 32) (kv : Fin 8) (g : Fin 4) (i : Fin 256) (d : Fin 128)
    (hr : r.val = b.val * 256 + i.val) (hl : l.val = kv.val * 512 + g.val * 128 + d.val) :
    refOut (F := Ideal) q k v sk (ix2 r l)
      = ∑ t : Fin 256, Ideal.div (Ideal.exp (refScores q k (ix5 b kv g i t)
            - max (Finset.univ.fold max ⊥ fun x : Fin 256 => refScores q k (ix5 b kv g i x)) (sk (ix2 0 ⟨kv.val * 4 + g.val, by omega⟩))))
          ((∑ t' : Fin 256, Ideal.exp (refScores q k (ix5 b kv g i t')
            - max (Finset.univ.fold max ⊥ fun x : Fin 256 => refScores q k (ix5 b kv g i x)) (sk (ix2 0 ⟨kv.val * 4 + g.val, by omega⟩))))
            + Ideal.exp (sk (ix2 0 ⟨kv.val * 4 + g.val, by omega⟩)
              - max (Finset.univ.fold max ⊥ fun x : Fin 256 => refScores q k (ix5 b kv g i x)) (sk (ix2 0 ⟨kv.val * 4 + g.val, by omega⟩))))
          * v (ix2 ⟨b.val * 256 + t.val, by omega⟩ ⟨kv.val * 128 + d.val, by omega⟩) := by
  unfold refOut
  rw [refMix_apply _ _ r l b kv g i d hr hl]
  refine Finset.sum_congr rfl fun t _ => ?_
  rw [refProbs_apply, refMax_apply, mul_comm]

end Cert.Proof.CtxRef
-- ==== Proof.CtxBlock.lean ====
module

public import proofs.«01_k».proof.Proof.CtxHead
public import proofs.«01_k».proof.Proof.CtxRef

@[expose] public section

set_option maxRecDepth 16384
noncomputable section

/-! # What one grid point of the context's attention writes -/

namespace Cert.Proof.Ctx
open Cert.KernelCtxIdeal Cert.KernelCtxIdeal.Gen Idealize.ShloMosaic Idealize.ShloMosaic.TcCoe Idealize.SL.Sem
open Cert.Proof.Attn (tile tile_apply ld_tile ld_one dot_real)

/-- The load of one sink. -/
def sinkAt (X : Vec Ideal S32 .f32) (o : ℕ) (h : o < 32) : Elt Ideal .f32 :=
  View.ld (Val := Elt Ideal) X (Rect.unit (s := S32) ![o] ![1] (fun a => match a with | ⟨0, _⟩ => h)) (Shape.Idx.first (s := S1) (by decide))

theorem sinkAt_apply (X : Vec Ideal S32 .f32) (o : ℕ) (h : o < 32) : sinkAt X o h = X (ix1 ⟨o, h⟩) :=
  congrFun (ld_one (n := 32) X (fun a => match a with | ⟨0, _⟩ => h)) _

/-- One key/value head's outputs, from the blocks of the windows: the head's columns of each. -/
def headBlk (X0 : Vec Ideal S32 .f32) (X1 : Vec Ideal S256x4096 .bf16) (X2 X3 : Vec Ideal S256x1024 .f32) (kv : ℕ) (h : kv < 8) : FVec Ideal S1024x128 .f32 :=
  headOut (F := Ideal) (tile X1 (512 * kv) (by omega)) (tile X1 (512 * kv + 128) (by omega)) (tile X1 (512 * kv + 256) (by omega))
    (tile X1 (512 * kv + 384) (by omega)) (sinkAt X0 (4 * kv) (by omega)) (sinkAt X0 (4 * kv + 1) (by omega)) (sinkAt X0 (4 * kv + 2) (by omega))
    (sinkAt X0 (4 * kv + 3) (by omega)) (tile X2 (128 * kv) (by omega)) (tile X3 (128 * kv) (by omega))

/-- What a grid point writes: at row `y 0` and column `y 1`, the head of that column, the query of that row. -/
def blkOut (X0 : Vec Ideal S32 .f32) (X1 : Vec Ideal S256x4096 .bf16) (X2 X3 : Vec Ideal S256x1024 .f32) : Vec Ideal S256x4096 .bf16 := fun y =>
  headBlk X0 X1 X2 X3 ((y 1).val / 512) (by have h : (y 1).val < 4096 := (y 1).isLt; omega)
    (ix2 ⟨(y 1).val / 128 % 4 * 256 + (y 0).val, by have h : (y 0).val < 256 := (y 0).isLt; omega⟩ ⟨(y 1).val % 128, Nat.mod_lt _ (by omega)⟩)

theorem blkOut_eq (X0 : Vec Ideal S32 .f32) (X1 : Vec Ideal S256x4096 .bf16) (X2 X3 : Vec Ideal S256x1024 .f32) (y : S256x4096.Idx) (kv g : ℕ) (h : kv < 8)
    (hg : g < 4) (r : Fin 1024) (d : Fin 128) (h0 : r.val = 256 * g + (y 0).val) (h1 : (y 1).val = 512 * kv + 128 * g + d.val) :
    headBlk X0 X1 X2 X3 kv h (ix2 r d) = blkOut X0 X1 X2 X3 y := by
  have hy : (y 0).val < 256 := (y 0).isLt
  unfold blkOut
  have e : (y 1).val / 512 = kv := by omega
  have er : r = ⟨(y 1).val / 128 % 4 * 256 + (y 0).val, by omega⟩ := Fin.ext (by show r.val = (y 1).val / 128 % 4 * 256 + (y 0).val; omega)
  have ed : d = ⟨(y 1).val % 128, Nat.mod_lt _ (by omega)⟩ := Fin.ext (by show d.val = (y 1).val % 128; omega)
  rw [← er, ← ed]
  subst e
  rfl

/-- A stored piece is 256 rows of a head's outputs. -/
theorem slice_apply (o : ℕ) (Z : FVec Ideal S1024x128 .f32) (hs : S1024x128.Slices ![o, 0] S256x128) (hb) (x : S256x128.Idx) (ho : o + 256 ≤ 1024) :
    truncf (F := Ideal) .bf16 (extractStridedSlice S256x128 ![o, 0] Z hs) hb x
      = Z (ix2 ⟨o + (x 0).val, by have h : (x 0).val < 256 := (x 0).isLt; omega⟩ ⟨(x 1).val, (x 1).isLt⟩) := by
  refine congrArg Z ?_
  funext a
  match a with
  | ⟨0, _⟩ => exact Fin.ext rfl
  | ⟨1, _⟩ => exact Fin.ext (Nat.zero_add _)

theorem headSlices (o : ℕ) (ho : o + 256 ≤ 1024) : S1024x128.Slices ![o, 0] S256x128 := ⟨rfl, fun a => match a with | ⟨0, _⟩ => ho | ⟨1, _⟩ => Nat.le_refl _⟩

/-- A stored piece, at its place in the block. -/
theorem piece_eq {X0 : Vec Ideal S32 .f32} {X1 : Vec Ideal S256x4096 .bf16} {X2 X3 : Vec Ideal S256x1024 .f32} {y : S256x4096.Idx} {x : S256x128.Idx}
    (kv g : ℕ) (P : FVec Ideal S256x128 .bf16) (h : kv < 8) (hg : g < 4)
    (hP : P = truncf (F := Ideal) .bf16 (extractStridedSlice S256x128 ![256 * g, 0] (headBlk X0 X1 X2 X3 kv h) (headSlices (256 * g) (by omega))) bitsLt_bf16_f32)
    (h0 : (y 0).val = (x 0).val) (h1 : (y 1).val = 512 * kv + 128 * g + (x 1).val) :
    P x = blkOut X0 X1 X2 X3 y := by
  subst hP
  refine (slice_apply (256 * g) _ (headSlices (256 * g) (by omega)) bitsLt_bf16_f32 x (by omega)).trans
    (blkOut_eq X0 X1 X2 X3 y kv g h hg _ _ ?_ ?_)
  · show 256 * g + (x 0).val = 256 * g + (y 0).val; omega
  · show (y 1).val = 512 * kv + 128 * g + (x 1).val; omega

variable (m : (ℓ : Loc nD τ sig) → Buf (Elt Ideal) ℓ) (c : Dev nD)

set_option maxHeartbeats 4000000 in
/-- What every grid point leaves in the output's buffer. -/
theorem outs_eq (t : Fin cfg0.N) : outsAt0 m c t = blkOut (iblk m c 0 t) (iblk m c 1 t) (iblk m c 2 t) (iblk m c 3 t) := by
  unfold outsAt0
  frame_out
  simp only [ld_tile]
  generalize iblk m c 0 t = X0
  generalize iblk m c 1 t = X1
  generalize iblk m c 2 t = X2
  generalize iblk m c 3 t = X3
  funext y
  canon_tiles x h
  · exact piece_eq 7 3 _ (by decide) (by decide) rfl h0 h1
  · exact piece_eq 7 2 _ (by decide) (by decide) rfl h0 h1
  · exact piece_eq 7 1 _ (by decide) (by decide) rfl h0 h1
  · exact piece_eq 7 0 _ (by decide) (by decide) rfl h0 h1
  · exact piece_eq 6 3 _ (by decide) (by decide) rfl h0 h1
  · exact piece_eq 6 2 _ (by decide) (by decide) rfl h0 h1
  · exact piece_eq 6 1 _ (by decide) (by decide) rfl h0 h1
  · exact piece_eq 6 0 _ (by decide) (by decide) rfl h0 h1
  · exact piece_eq 5 3 _ (by decide) (by decide) rfl h0 h1
  · exact piece_eq 5 2 _ (by decide) (by decide) rfl h0 h1
  · exact piece_eq 5 1 _ (by decide) (by decide) rfl h0 h1
  · exact piece_eq 5 0 _ (by decide) (by decide) rfl h0 h1
  · exact piece_eq 4 3 _ (by decide) (by decide) rfl h0 h1
  · exact piece_eq 4 2 _ (by decide) (by decide) rfl h0 h1
  · exact piece_eq 4 1 _ (by decide) (by decide) rfl h0 h1
  · exact piece_eq 4 0 _ (by decide) (by decide) rfl h0 h1
  · exact piece_eq 3 3 _ (by decide) (by decide) rfl h0 h1
  · exact piece_eq 3 2 _ (by decide) (by decide) rfl h0 h1
  · exact piece_eq 3 1 _ (by decide) (by decide) rfl h0 h1
  · exact piece_eq 3 0 _ (by decide) (by decide) rfl h0 h1
  · exact piece_eq 2 3 _ (by decide) (by decide) rfl h0 h1
  · exact piece_eq 2 2 _ (by decide) (by decide) rfl h0 h1
  · exact piece_eq 2 1 _ (by decide) (by decide) rfl h0 h1
  · exact piece_eq 2 0 _ (by decide) (by decide) rfl h0 h1
  · exact piece_eq 1 3 _ (by decide) (by decide) rfl h0 h1
  · exact piece_eq 1 2 _ (by decide) (by decide) rfl h0 h1
  · exact piece_eq 1 1 _ (by decide) (by decide) rfl h0 h1
  · exact piece_eq 1 0 _ (by decide) (by decide) rfl h0 h1
  · exact piece_eq 0 3 _ (by decide) (by decide) rfl h0 h1
  · exact piece_eq 0 2 _ (by decide) (by decide) rfl h0 h1
  · exact piece_eq 0 1 _ (by decide) (by decide) rfl h0 h1
  · exact piece_eq 0 0 _ (by decide) (by decide) rfl h0 (h1.trans (by omega))

/-- The stacked queries of a head's four query heads. -/
theorem query_apply (X1 : Vec Ideal S256x4096 .bf16) (kv : ℕ) (hkv : kv < 8) (g : Fin 4) (i : Fin 256) (r : Fin 1024) (hr : r.val = 256 * g.val + i.val)
    (x : Fin 128) (col : Fin 4096) (hcol : col.val = kv * 512 + g.val * 128 + x.val) :
    stack (F := Ideal) (tile X1 (512 * kv) (by omega)) (tile X1 (512 * kv + 128) (by omega)) (tile X1 (512 * kv + 256) (by omega))
      (tile X1 (512 * kv + 384) (by omega)) (ix2 r x) = X1 (ix2 i col) := by
  rw [stack_apply]
  by_cases h : r.val < 256
  · rw [dif_pos h, tile_apply]
    exact congrArg X1 (congrArg₂ ix2 (Fin.ext (by show r.val = i.val; omega)) (Fin.ext (by show 512 * kv + x.val = col.val; omega)))
  · rw [dif_neg h]
    by_cases h' : r.val - 256 < 256
    · rw [dif_pos h', tile_apply]
      exact congrArg X1 (congrArg₂ ix2 (Fin.ext (by show r.val - 256 = i.val; omega)) (Fin.ext (by show 512 * kv + 128 + x.val = col.val; omega)))
    · rw [dif_neg h']
      by_cases h'' : r.val - 256 - 256 < 256
      · rw [dif_pos h'', tile_apply]
        exact congrArg X1 (congrArg₂ ix2 (Fin.ext (by show r.val - 256 - 256 = i.val; omega)) (Fin.ext (by show 512 * kv + 256 + x.val = col.val; omega)))
      · rw [dif_neg h'', tile_apply]
        exact congrArg X1 (congrArg₂ ix2 (Fin.ext (by show r.val - 256 - 256 - 256 = i.val; omega)) (Fin.ext (by show 512 * kv + 384 + x.val = col.val; omega)))

/-- The sink of a row of the stacked queries. -/
theorem sink_apply (X0 : Vec Ideal S32 .f32) (kv : ℕ) (hkv : kv < 8) (g : Fin 4) (i : Fin 256) (r : Fin 1024) (hr : r.val = 256 * g.val + i.val) :
    k0_pay6 (F := Ideal) (sinkAt X0 (4 * kv) (by omega)) (sinkAt X0 (4 * kv + 1) (by omega)) (sinkAt X0 (4 * kv + 2) (by omega))
      (sinkAt X0 (4 * kv + 3) (by omega)) (ix2 0 r) = X0 (ix1 ⟨kv * 4 + g.val, by omega⟩) := by
  rw [pay6_apply]
  simp only [sinkAt_apply]
  by_cases h : r.val < 256
  · rw [dif_pos h]
    exact congrArg X0 (congrArg ix1 (Fin.ext (by show 4 * kv = kv * 4 + g.val; omega)))
  · rw [dif_neg h]
    by_cases h' : r.val - 256 < 256
    · rw [dif_pos h']
      exact congrArg X0 (congrArg ix1 (Fin.ext (by show 4 * kv + 1 = kv * 4 + g.val; omega)))
    · rw [dif_neg h']
      by_cases h'' : r.val - 256 - 256 < 256
      · rw [dif_pos h'']
        exact congrArg X0 (congrArg ix1 (Fin.ext (by show 4 * kv + 2 = kv * 4 + g.val; omega)))
      · rw [dif_neg h'']
        exact congrArg X0 (congrArg ix1 (Fin.ext (by show 4 * kv + 3 = kv * 4 + g.val; omega)))

/-- One entry of the block a point writes is the reference's attention there, given that the block's windows hold the rows of the arguments they
    should, and that the queries, keys and sinks are real. -/
theorem entry (q : FVec Ideal S8192x4096 .bf16) (k v : FVec Ideal S8192x1024 .f32) (sk : FVec Ideal S1x32 .f32)
    (hq : ∀ i, ∃ a : ℝ, q i = a) (hk : ∀ i, ∃ a : ℝ, k i = a) (hsk : ∀ i, ∃ a : ℝ, sk i = a)
    (X0 : Vec Ideal S32 .f32) (X1 : Vec Ideal S256x4096 .bf16) (X2 X3 : Vec Ideal S256x1024 .f32) (b : Fin 32)
    (h0 : ∀ h : Fin 32, X0 (ix1 h) = sk (ix2 0 h))
    (h1 : ∀ (r : Fin 256) (d : Fin 4096), X1 (ix2 r d) = q (ix2 ⟨b.val * 256 + r.val, by omega⟩ d))
    (h2 : ∀ (r : Fin 256) (d : Fin 1024), X2 (ix2 r d) = k (ix2 ⟨b.val * 256 + r.val, by omega⟩ d))
    (h3 : ∀ (r : Fin 256) (d : Fin 1024), X3 (ix2 r d) = v (ix2 ⟨b.val * 256 + r.val, by omega⟩ d))
    (y : S256x4096.Idx) (row : Fin 8192) (hrow : row.val = b.val * 256 + (y 0).val) (col : Fin 4096) (hcol : col.val = (y 1).val) :
    blkOut X0 X1 X2 X3 y = CtxRef.refOut (F := Ideal) q k v sk (ix2 row col) := by
  have hy0 : (y 0).val < 256 := (y 0).isLt
  have hy1 : (y 1).val < 4096 := (y 1).isLt
  obtain ⟨kv, hkv⟩ : ∃ kv : Fin 8, kv.val = (y 1).val / 512 := ⟨⟨(y 1).val / 512, by omega⟩, rfl⟩
  obtain ⟨g, hg⟩ : ∃ g : Fin 4, g.val = (y 1).val / 128 % 4 := ⟨⟨(y 1).val / 128 % 4, by omega⟩, rfl⟩
  obtain ⟨d, hd⟩ : ∃ d : Fin 128, d.val = (y 1).val % 128 := ⟨⟨(y 1).val % 128, by omega⟩, rfl⟩
  obtain ⟨i, hi⟩ : ∃ i : Fin 256, i.val = (y 0).val := ⟨⟨(y 0).val, hy0⟩, rfl⟩
  obtain ⟨r, hr⟩ : ∃ r : Fin 1024, r.val = 256 * g.val + i.val := ⟨⟨256 * g.val + i.val, by omega⟩, rfl⟩
  rw [← blkOut_eq X0 X1 X2 X3 y kv.val g.val kv.isLt g.isLt r d (by omega) (by omega),
    CtxRef.refOut_apply q k v sk row col b kv g i d (by omega) (by omega)]
  obtain ⟨σ, hσ⟩ := hsk (ix2 0 ⟨kv.val * 4 + g.val, by omega⟩)
  unfold headBlk
  rw [hσ, headOut_apply _ _ _ _ _ _ _ _ _ _ r d _ rfl σ ((sink_apply X0 kv.val kv.isLt g i r hr).trans ((h0 _).trans hσ))]
  -- the raw scores
  have hsc : ∀ t : Fin 256, (∑ x : Fin 128, tile X2 (128 * kv.val) (by omega) (ix2 t x) * stack (F := Ideal) (tile X1 (512 * kv.val) (by omega))
        (tile X1 (512 * kv.val + 128) (by omega)) (tile X1 (512 * kv.val + 256) (by omega)) (tile X1 (512 * kv.val + 384) (by omega)) (ix2 r x) : EReal)
      = ∑ x : Fin 128, k (ix2 ⟨b.val * 256 + t.val, by omega⟩ ⟨kv.val * 128 + x.val, by omega⟩)
          * q (ix2 ⟨b.val * 256 + i.val, by omega⟩ ⟨kv.val * 512 + g.val * 128 + x.val, by omega⟩) := by
    intro t
    refine Finset.sum_congr rfl fun x _ => ?_
    rw [query_apply X1 kv.val kv.isLt g i r hr x ⟨kv.val * 512 + g.val * 128 + x.val, by omega⟩ rfl, h1, tile_apply, h2]
    exact congrArg (fun j => k (ix2 _ j) * _) (Fin.ext (by show 128 * kv.val + x.val = kv.val * 128 + x.val; omega))
  refine AttnMath.softmax_eq _ _ (fun t => CtxRef.refScores (F := Ideal) q k (ix5 b kv g i t))
    (fun t => v (ix2 ⟨b.val * 256 + t.val, by omega⟩ ⟨kv.val * 128 + d.val, by omega⟩)) σ id (fun _ => True) ?_ ?_ ?_ ?_ ?_ ?_
  · intro t _
    beta_reduce
    rw [hsc t]
    exact dot_real _ _ (fun x => hk _) (fun x => hq _)
  · exact fun t h => absurd trivial h
  · intro t _
    beta_reduce
    rw [hsc t, CtxRef.refScores_apply]
    rfl
  · intro t _
    beta_reduce
    rw [tile_apply, h3]
    exact congrArg (fun j => v (ix2 _ j)) (Fin.ext (by show kv.val * 128 + d.val = 128 * kv.val + d.val; omega))
  · exact fun _ _ _ _ h => h
  · exact fun t h => absurd ⟨t, trivial, rfl⟩ h

end Cert.Proof.Ctx
-- ==== Proof.Ctx.lean ====
/- The context attention: the kernel's result array and the reference's are the same function of the arguments. -/
module

public import proofs.«01_k».proof.Defs
public import proofs.«01_k».proof.Proof.Gen.KernelCtx.Frame
public import proofs.«01_k».proof.Proof.Gen.KernelCtxIdeal.Value
public import proofs.«01_k».proof.Proof.Gen.ReferenceCtxIdeal.Run
public import proofs.«01_k».proof.Proof.CtxBlock
public import proofs.«01_k».proof.Proof.PreFacts
public import Idealize.ShloMosaic.Lib.Pipeline.ValueKit
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof.CtxPre

open Idealize.ShloMosaic Cert.Pre_finite_context

theorem facts : Cert.Pre_finite_context.Facts where
  bitsLt_bf16_f32 := by decide
  bcast_S_S8192x4096 := by decide
  reducesTo_S8192x4096_S_d0_1 := by decide
  h_S_ := by decide
  bcast_S_S8192x1024 := by decide
  reducesTo_S8192x1024_S_d0_1 := by decide
  bcast_S_S1x32 := by decide
  reducesTo_S1x32_S_d0_1 := by decide

/-- What the precondition says: the queries, keys and sinks are real. -/
theorem real_of_pre (hF : Cert.Pre_finite_context.Facts) (q : FVec Ideal S8192x4096 .bf16) (k v : FVec Ideal S8192x1024 .f32) (sk : FVec Ideal S1x32 .f32)
    (h : ∀ j, Cert.Pre_finite_context.fn (F := Ideal) q k v sk j = 1#1) :
    (∀ i, ∃ a : ℝ, q i = a) ∧ (∀ i, ∃ a : ℝ, k i = a) ∧ ∀ i, ∃ a : ℝ, sk i = a := by
  have h := h (Shape.Idx.first (by decide))
  unfold fn at h
  obtain ⟨h, hsk⟩ := PreFacts.andi_one h
  obtain ⟨hq, hk⟩ := PreFacts.andi_one h
  exact ⟨PreFacts.all_real (extf .f32 q Facts.bitsLt_bf16_f32) _ _ _ _ hq, PreFacts.all_real k _ _ _ _ hk, PreFacts.all_real sk _ _ _ _ hsk⟩

end Cert.Proof.CtxPre

namespace Cert.Proof.Ctx

open Idealize.ShloMosaic Idealize.ShloMosaic.TcCoe Idealize.SL.Sem
open Cert.KernelCtxIdeal Cert.KernelCtxIdeal.Gen

variable (m : (ℓ : Loc nD τ sig) → Buf (Elt Ideal) ℓ) (c : Dev nD)

/-- Each window's block index at a grid point. -/
theorem idx : ∀ t : Fin cfg0.N, win0_0.index t = ![0] ∧ win0_1.index t = ![t.val, 0] ∧ win0_2.index t = ![t.val, 0] ∧ win0_3.index t = ![t.val, 0]
    ∧ win0_4.index t = ![t.val, 0] :=
  (by decide +kernel : ∀ t : Fin grid0.N, _)

theorem point_lt : ∀ t : Fin cfg0.N, t.val < 32 := (by decide +kernel : ∀ t : Fin grid0.N, _)

theorem blk0 (t : Fin cfg0.N) (h : Fin 32) : (show Vec Ideal S32 .f32 from iblk m c 0 t) (ix1 h) = m ((c : Thread nD τ).loc main_arg3) (ix2 0 h) := by
  blk_point [iblk, V, idx t]

theorem blk1 (t : Fin cfg0.N) (r : Fin 256) (d : Fin 4096) : (show Vec Ideal S256x4096 .bf16 from iblk m c 1 t) (ix2 r d)
    = m ((c : Thread nD τ).loc main_arg0) (ix2 ⟨t.val * 256 + r.val, by have := point_lt t; omega⟩ d) := by
  blk_point [iblk, V, idx t]

theorem blk2 (t : Fin cfg0.N) (r : Fin 256) (d : Fin 1024) : (show Vec Ideal S256x1024 .f32 from iblk m c 2 t) (ix2 r d)
    = m ((c : Thread nD τ).loc main_arg1) (ix2 ⟨t.val * 256 + r.val, by have := point_lt t; omega⟩ d) := by
  blk_point [iblk, V, idx t]

theorem blk3 (t : Fin cfg0.N) (r : Fin 256) (d : Fin 1024) : (show Vec Ideal S256x1024 .f32 from iblk m c 3 t) (ix2 r d)
    = m ((c : Thread nD τ).loc main_arg2) (ix2 ⟨t.val * 256 + r.val, by have := point_lt t; omega⟩ d) := by
  blk_point [iblk, V, idx t]

/-- The array the kernel leaves, where the queries, keys and sinks are real. -/
theorem value
    (hq : ∀ i, ∃ a : ℝ, (m ((c : Thread nD τ).loc main_arg0) : FVec Ideal S8192x4096 .bf16) i = (a : EReal))
    (hk : ∀ i, ∃ a : ℝ, (m ((c : Thread nD τ).loc main_arg1) : FVec Ideal S8192x1024 .f32) i = (a : EReal))
    (hsk : ∀ i, ∃ a : ℝ, (m ((c : Thread nD τ).loc main_arg3) : FVec Ideal S1x32 .f32) i = (a : EReal)) :
    (dats m 0 c).arrAt 4 cfg0.N = CtxRef.refOut (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  have ht := point_lt t
  have hi := (idx t).2.2.2.2
  blk_simp
  rw [after0_4, outs_eq]
  refine (entry (m ((c : Thread nD τ).loc main_arg0)) (m ((c : Thread nD τ).loc main_arg1)) (m ((c : Thread nD τ).loc main_arg2))
    (m ((c : Thread nD τ).loc main_arg3)) hq hk hsk _ _ _ _ ⟨t.val, ht⟩ (blk0 m c t) (blk1 m c t) (blk2 m c t) (blk3 m c t) y
    ⟨t.val * 256 + (y 0).val, by have h : (y 0).val < 256 := (y 0).isLt; omega⟩ rfl ⟨(y 1).val, (y 1).isLt⟩ rfl).trans ?_
  refine congrArg _ ?_
  blk_ext [hi]

theorem frame_Kernel : quiescent_KernelCtx := fun m ρ _ => Cert.KernelCtx.Gen.frame m ρ

theorem frame_KernelIdeal : quiescent_KernelCtxIdeal := fun m ρ _ => Cert.KernelCtxIdeal.Gen.frame m ρ

theorem frame_Reference : quiescent_ReferenceCtxIdeal := fun m ρ _ =>
  (θ_run Cert.ReferenceCtxIdeal.defs _ _).mono (fun r h => ⟨fun c => (h c).2, sem_eq_zero_of_no_sems (by decide) r.2⟩)
    (Cert.ReferenceCtxIdeal.Value.run (F := Ideal) m ρ)

/-- The named constants stand for the words they replace. -/
theorem preserves : preserves_KernelCtx_KernelCtxIdeal :=
  ⟨IdealRules.named_const.statement _ _ _ _ _ rfl, IdealRules.named_const.statement _ _ _ _ _ rfl, IdealRules.named_const.statement _ _ _ _ _ rfl⟩

/-- The kernel's result array and the reference's are equal. -/
theorem algebraic : algebraic_KernelCtxIdeal_ReferenceCtxIdeal_pre_finite_context (hPre_finite_context := CtxPre.facts) := by
  intro m ρ m' ρ' hpre hagree
  refine ⟨_, Cert.KernelCtxIdeal.Value.run_blocks (F := Ideal) m ρ, ?_⟩
  refine (θ_run Cert.ReferenceCtxIdeal.defs _ _).mono (fun _ h c => ⟨?_, (h c).2⟩) (Cert.ReferenceCtxIdeal.Value.run (F := Ideal) m' ρ')
  obtain ⟨hq, hk, hsk⟩ := CtxPre.real_of_pre CtxPre.facts _ _ _ _ (fun j => congrFun (hpre c) j)
  rw [(h c).1, CtxRef.res_eq, (hagree c).1, (hagree c).2.1, (hagree c).2.2.1, (hagree c).2.2.2]
  exact (value m c hq hk hsk).symm

end Cert.Proof.Ctx
-- ==== Proof.lean ====
/- The proof of the certificate's claims: each program's frame from its run, and the latent attention's equation from its run and
   `Cert.Proof.Attn.value`. -/
module

public import proofs.«01_k».proof.Defs
public import proofs.«01_k».proof.Proof.AttnBitsRun
public import proofs.«01_k».proof.Proof.Gen.ReferenceIdeal.Run
public import proofs.«01_k».proof.Proof.AttnValue
public import proofs.«01_k».proof.Proof.PreFacts
public import proofs.«01_k».proof.Proof.Consts
public import proofs.«01_k».proof.Proof.Up
public import proofs.«01_k».proof.Proof.Down
public import proofs.«01_k».proof.Proof.Merge
public import proofs.«01_k».proof.Proof.Conv
public import proofs.«01_k».proof.Proof.Out
public import proofs.«01_k».proof.Proof.Tail
public import proofs.«01_k».proof.Proof.Keys
public import proofs.«01_k».proof.Proof.Values
public import proofs.«01_k».proof.Proof.Rope
public import proofs.«01_k».proof.Proof.Norm
public import proofs.«01_k».proof.Proof.Mod
public import proofs.«01_k».proof.Proof.Ctx
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention: the kernel's output array and the reference's are the same function of the arguments. -/
theorem algebraic : algebraic_KernelIdeal_ReferenceIdeal_pre_finite_scores (hPre_finite_scores := PreFacts.facts) := by
  intro m ρ m' ρ' hpre hagree
  refine ⟨_, Attn.run_blocks (F := Ideal) m ρ, ?_⟩
  refine (θ_run Cert.ReferenceIdeal.defs _ _).mono (fun _ h c => ⟨?_, (h c).2⟩) (Cert.ReferenceIdeal.Value.run (F := Ideal) m' ρ')
  obtain ⟨hq, hk, hck, hsk⟩ := PreFacts.real_of_pre PreFacts.facts _ _ _ _ _ _ (fun j => congrFun (hpre c) j)
  rw [(h c).1, AttnRef.res_eq, (hagree c).1, (hagree c).2.1, (hagree c).2.2.1, (hagree c).2.2.2.1, (hagree c).2.2.2.2.1, (hagree c).2.2.2.2.2]
  exact (Attn.value m c hq hk hck hsk).symm

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelMerge.Gen.facts, Cert.KernelMergeIdeal.Gen.facts, Cert.ReferenceMergeIdeal.Gen.facts,
  Cert.KernelConv.Gen.facts, Cert.KernelConvIdeal.Gen.facts, Cert.ReferenceConvIdeal.Gen.facts,
  Cert.KernelOut.Gen.facts, Cert.KernelOutIdeal.Gen.facts, Cert.ReferenceOutIdeal.Gen.facts,
  Cert.KernelTail.Gen.facts, Cert.KernelTailIdeal.Gen.facts, Cert.ReferenceTailIdeal.Gen.facts,
  Cert.KernelKeys.Gen.facts, Cert.KernelKeysIdeal.Gen.facts, Cert.ReferenceKeysIdeal.Gen.facts,
  Cert.KernelValues.Gen.facts, Cert.KernelValuesIdeal.Gen.facts, Cert.ReferenceValuesIdeal.Gen.facts,
  Cert.KernelRope.Gen.facts, Cert.KernelRopeIdeal.Gen.facts, Cert.ReferenceRopeIdeal.Gen.facts,
  Cert.KernelNorm.Gen.facts, Cert.KernelNormIdeal.Gen.facts, Cert.ReferenceNormIdeal.Gen.facts,
  Cert.KernelMod.Gen.facts, Cert.KernelModIdeal.Gen.facts, Cert.ReferenceModIdeal.Gen.facts,
  Cert.KernelCtx.Gen.facts, Cert.KernelCtxIdeal.Gen.facts, Cert.ReferenceCtxIdeal.Gen.facts,
  PreFacts.facts, CtxPre.facts,
  fun m ρ _ => AttnBits.frame m ρ, fun m ρ _ => Attn.frame m ρ, fun m ρ _ => Attn.frame m ρ, quiescent_ReferenceIdeal,
  fun m ρ _ => quiescent_ReferenceIdeal m ρ trivial,
  Up.frame_Kernel, Up.frame_KernelIdeal, Up.frame_Reference,
  Down.frame_Kernel, Down.frame_KernelIdeal, Down.frame_Reference,
  Merge.frame_Kernel, Merge.frame_KernelIdeal, Merge.frame_Reference,
  Conv.frame_Kernel, Conv.frame_KernelIdeal, Conv.frame_Reference,
  Out.frame_Kernel, Out.frame_KernelIdeal, Out.frame_Reference,
  Tail.frame_Kernel, Tail.frame_KernelIdeal, Tail.frame_Reference,
  Keys.frame_Kernel, Keys.frame_KernelIdeal, Keys.frame_Reference,
  Values.frame_Kernel, Values.frame_KernelIdeal, Values.frame_Reference,
  Rope.frame_Kernel, Rope.frame_KernelIdeal, Rope.frame_Reference,
  Norm.frame_Kernel, Norm.frame_KernelIdeal, Norm.frame_Reference,
  Mod.frame_Kernel, Mod.frame_KernelIdeal, Mod.frame_Reference,
  Ctx.frame_Kernel, Ctx.frame_KernelIdeal, fun m ρ _ => Ctx.frame_KernelIdeal m ρ trivial, Ctx.frame_Reference,
  fun m ρ _ => Ctx.frame_Reference m ρ trivial,
  preserves_Kernel_KernelIdeal, algebraic,
  Up.preserves, Up.algebraic,
  Down.preserves, Down.algebraic,
  Merge.preserves, Merge.algebraic,
  Conv.preserves, Conv.algebraic,
  Out.preserves, Out.algebraic,
  Tail.preserves, Tail.algebraic,
  Keys.preserves, Keys.algebraic,
  Values.preserves, Values.algebraic,
  Rope.preserves, Rope.algebraic,
  Norm.preserves, Norm.algebraic,
  Mod.preserves, Mod.algebraic,
  Ctx.preserves, Ctx.algebraic⟩

end Cert.Proof

end
